-- ==== Defs.lean ====
def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryIdeal_finite_memory [hPre_finite_memory : Cert.Pre_finite_memory.Facts] (m : (ℓ : Loc Cert.MemoryIdeal.nD Cert.MemoryIdeal.τ Cert.MemoryIdeal.sig) → Buf (Elt Ideal) ℓ) : Prop :=
  ∀ c : Dev Cert.MemoryIdeal.nD,
    (Cert.Pre_finite_memory.fn (F := Ideal) (m ((c.tc : Thread Cert.MemoryIdeal.nD Cert.MemoryIdeal.τ).loc Cert.MemoryIdeal.main_arg0)) (m ((c.tc : Thread Cert.MemoryIdeal.nD Cert.MemoryIdeal.τ).loc Cert.MemoryIdeal.main_arg1))) = (fun _ => 1#1)

def Pre_MemoryRefIdeal (m : (ℓ : Loc Cert.MemoryRefIdeal.nD Cert.MemoryRefIdeal.τ Cert.MemoryRefIdeal.sig) → Buf (Elt Ideal) ℓ) : Prop :=
  True

def Pre_MemoryRefIdeal_finite_memory [hPre_finite_memory : Cert.Pre_finite_memory.Facts] (m : (ℓ : Loc Cert.MemoryRefIdeal.nD Cert.MemoryRefIdeal.τ Cert.MemoryRefIdeal.sig) → Buf (Elt Ideal) ℓ) : Prop :=
  ∀ c : Dev Cert.MemoryRefIdeal.nD,
    (Cert.Pre_finite_memory.fn (F := Ideal) (m ((c.tc : Thread Cert.MemoryRefIdeal.nD Cert.MemoryRefIdeal.τ).loc Cert.MemoryRefIdeal.main_arg0)) (m ((c.tc : Thread Cert.MemoryRefIdeal.nD Cert.MemoryRefIdeal.τ).loc Cert.MemoryRefIdeal.main_arg1))) = (fun _ => 1#1)

def Pre_Neighbour (m : (ℓ : Loc Cert.Neighbour.nD Cert.Neighbour.τ Cert.Neighbour.sig) → Buf (Elt Bits) ℓ) : Prop :=
  True

def Pre_NeighbourIdeal (m : (ℓ : Loc Cert.NeighbourIdeal.nD Cert.NeighbourIdeal.τ Cert.NeighbourIdeal.sig) → Buf (Elt Ideal) ℓ) : Prop :=
  True

def Pre_NeighbourIdeal_finite_neighbour [hPre_finite_neighbour : Cert.Pre_finite_neighbour.Facts] (m : (ℓ : Loc Cert.NeighbourIdeal.nD Cert.NeighbourIdeal.τ Cert.NeighbourIdeal.sig) → Buf (Elt Ideal) ℓ) : Prop :=
  ∀ c : Dev Cert.NeighbourIdeal.nD,
    (Cert.Pre_finite_neighbour.fn (F := Ideal) (m ((c.tc : Thread Cert.NeighbourIdeal.nD Cert.NeighbourIdeal.τ).loc Cert.NeighbourIdeal.main_arg0)) (m ((c.tc : Thread Cert.NeighbourIdeal.nD Cert.NeighbourIdeal.τ).loc Cert.NeighbourIdeal.main_arg1))) = (fun _ => 1#1)

def Pre_NeighbourRefIdeal (m : (ℓ : Loc Cert.NeighbourRefIdeal.nD Cert.NeighbourRefIdeal.τ Cert.NeighbourRefIdeal.sig) → Buf (Elt Ideal) ℓ) : Prop :=
  True

def Pre_NeighbourRefIdeal_finite_neighbour [hPre_finite_neighbour : Cert.Pre_finite_neighbour.Facts] (m : (ℓ : Loc Cert.NeighbourRefIdeal.nD Cert.NeighbourRefIdeal.τ Cert.NeighbourRefIdeal.sig) → Buf (Elt Ideal) ℓ) : Prop :=
  ∀ c : Dev Cert.NeighbourRefIdeal.nD,
    (Cert.Pre_finite_neighbour.fn (F := Ideal) (m ((c.tc : Thread Cert.NeighbourRefIdeal.nD Cert.NeighbourRefIdeal.τ).loc Cert.NeighbourRefIdeal.main_arg0)) (m ((c.tc : Thread Cert.NeighbourRefIdeal.nD Cert.NeighbourRefIdeal.τ).loc Cert.NeighbourRefIdeal.main_arg1))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_MemProj (m : (ℓ : Loc Cert.MemProj.nD Cert.MemProj.τ Cert.MemProj.sig) → Buf (Elt Bits) ℓ) : Prop :=
  True

def Pre_MemProjIdeal (m : (ℓ : Loc Cert.MemProjIdeal.nD Cert.MemProjIdeal.τ Cert.MemProjIdeal.sig) → Buf (Elt Ideal) ℓ) : Prop :=
  True

def Pre_MemProjRefIdeal (m : (ℓ : Loc Cert.MemProjRefIdeal.nD Cert.MemProjRefIdeal.τ Cert.MemProjRefIdeal.sig) → Buf (Elt Ideal) ℓ) : Prop :=
  True

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1))
      ∧ r.2.sem = fun _ => 0)

def quiescent_MemoryIdeal_pre_finite_memory [hMemoryIdeal : Cert.MemoryIdeal.Facts] [hPre_finite_memory : Cert.Pre_finite_memory.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal_finite_memory m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1))
      ∧ r.2.sem = fun _ => 0)

def quiescent_MemoryRefIdeal [hMemoryRefIdeal : Cert.MemoryRefIdeal.Facts] : Prop :=
  ∀ (m : (ℓ : Loc Cert.MemoryRefIdeal.nD Cert.MemoryRefIdeal.τ Cert.MemoryRefIdeal.sig) → Buf (Elt Ideal) ℓ) (g : Dev Cert.MemoryRefIdeal.nD → PrngReg), Pre_MemoryRefIdeal m →
    θ_run (Cert.MemoryRefIdeal.defs (F := Ideal)) (onTc (τ := Cert.MemoryRefIdeal.τ) (Cert.MemoryRefIdeal.main (F := Ideal))) ⟨m, fun _ => 0, g⟩ (fun r => (∀ c : Dev Cert.MemoryRefIdeal.nD,
      r.2.mem ((c.tc : Thread Cert.MemoryRefIdeal.nD Cert.MemoryRefIdeal.τ).loc Cert.MemoryRefIdeal.main_arg0) = m ((c.tc : Thread Cert.MemoryRefIdeal.nD Cert.MemoryRefIdeal.τ).loc Cert.MemoryRefIdeal.main_arg0)
      ∧ r.2.mem ((c.tc : Thread Cert.MemoryRefIdeal.nD Cert.MemoryRefIdeal.τ).loc Cert.MemoryRefIdeal.main_arg1) = m ((c.tc : Thread Cert.MemoryRefIdeal.nD Cert.MemoryRefIdeal.τ).loc Cert.MemoryRefIdeal.main_arg1))
      ∧ r.2.sem = fun _ => 0)

def quiescent_MemoryRefIdeal_pre_finite_memory [hMemoryRefIdeal : Cert.MemoryRefIdeal.Facts] [hPre_finite_memory : Cert.Pre_finite_memory.Facts] : Prop :=
  ∀ (m : (ℓ : Loc Cert.MemoryRefIdeal.nD Cert.MemoryRefIdeal.τ Cert.MemoryRefIdeal.sig) → Buf (Elt Ideal) ℓ) (g : Dev Cert.MemoryRefIdeal.nD → PrngReg), Pre_MemoryRefIdeal_finite_memory m →
    θ_run (Cert.MemoryRefIdeal.defs (F := Ideal)) (onTc (τ := Cert.MemoryRefIdeal.τ) (Cert.MemoryRefIdeal.main (F := Ideal))) ⟨m, fun _ => 0, g⟩ (fun r => (∀ c : Dev Cert.MemoryRefIdeal.nD,
      r.2.mem ((c.tc : Thread Cert.MemoryRefIdeal.nD Cert.MemoryRefIdeal.τ).loc Cert.MemoryRefIdeal.main_arg0) = m ((c.tc : Thread Cert.MemoryRefIdeal.nD Cert.MemoryRefIdeal.τ).loc Cert.MemoryRefIdeal.main_arg0)
      ∧ r.2.mem ((c.tc : Thread Cert.MemoryRefIdeal.nD Cert.MemoryRefIdeal.τ).loc Cert.MemoryRefIdeal.main_arg1) = m ((c.tc : Thread Cert.MemoryRefIdeal.nD Cert.MemoryRefIdeal.τ).loc Cert.MemoryRefIdeal.main_arg1))
      ∧ r.2.sem = fun _ => 0)

def quiescent_Neighbour [hNeighbour : Cert.Neighbour.Facts] : Prop :=
  ∀ (m : (ℓ : Loc Cert.Neighbour.nD Cert.Neighbour.τ Cert.Neighbour.sig) → Buf (Elt Bits) ℓ) (g : Dev Cert.Neighbour.nD → PrngReg), Pre_Neighbour m →
    θ_run (Cert.Neighbour.defs (F := Bits)) (onTc (τ := Cert.Neighbour.τ) (Cert.Neighbour.main (F := Bits))) ⟨m, fun _ => 0, g⟩ (fun r => (∀ c : Dev Cert.Neighbour.nD,
      r.2.mem ((c.tc : Thread Cert.Neighbour.nD Cert.Neighbour.τ).loc Cert.Neighbour.main_arg0) = m ((c.tc : Thread Cert.Neighbour.nD Cert.Neighbour.τ).loc Cert.Neighbour.main_arg0)
      ∧ r.2.mem ((c.tc : Thread Cert.Neighbour.nD Cert.Neighbour.τ).loc Cert.Neighbour.main_arg1) = m ((c.tc : Thread Cert.Neighbour.nD Cert.Neighbour.τ).loc Cert.Neighbour.main_arg1))
      ∧ r.2.sem = fun _ => 0)

def quiescent_NeighbourIdeal [hNeighbourIdeal : Cert.NeighbourIdeal.Facts] : Prop :=
  ∀ (m : (ℓ : Loc Cert.NeighbourIdeal.nD Cert.NeighbourIdeal.τ Cert.NeighbourIdeal.sig) → Buf (Elt Ideal) ℓ) (g : Dev Cert.NeighbourIdeal.nD → PrngReg), Pre_NeighbourIdeal m →
    θ_run (Cert.NeighbourIdeal.defs (F := Ideal)) (onTc (τ := Cert.NeighbourIdeal.τ) (Cert.NeighbourIdeal.main (F := Ideal))) ⟨m, fun _ => 0, g⟩ (fun r => (∀ c : Dev Cert.NeighbourIdeal.nD,
      r.2.mem ((c.tc : Thread Cert.NeighbourIdeal.nD Cert.NeighbourIdeal.τ).loc Cert.NeighbourIdeal.main_arg0) = m ((c.tc : Thread Cert.NeighbourIdeal.nD Cert.NeighbourIdeal.τ).loc Cert.NeighbourIdeal.main_arg0)
      ∧ r.2.mem ((c.tc : Thread Cert.NeighbourIdeal.nD Cert.NeighbourIdeal.τ).loc Cert.NeighbourIdeal.main_arg1) = m ((c.tc : Thread Cert.NeighbourIdeal.nD Cert.NeighbourIdeal.τ).loc Cert.NeighbourIdeal.main_arg1))
      ∧ r.2.sem = fun _ => 0)

def quiescent_NeighbourIdeal_pre_finite_neighbour [hNeighbourIdeal : Cert.NeighbourIdeal.Facts] [hPre_finite_neighbour : Cert.Pre_finite_neighbour.Facts] : Prop :=
  ∀ (m : (ℓ : Loc Cert.NeighbourIdeal.nD Cert.NeighbourIdeal.τ Cert.NeighbourIdeal.sig) → Buf (Elt Ideal) ℓ) (g : Dev Cert.NeighbourIdeal.nD → PrngReg), Pre_NeighbourIdeal_finite_neighbour m →
    θ_run (Cert.NeighbourIdeal.defs (F := Ideal)) (onTc (τ := Cert.NeighbourIdeal.τ) (Cert.NeighbourIdeal.main (F := Ideal))) ⟨m, fun _ => 0, g⟩ (fun r => (∀ c : Dev Cert.NeighbourIdeal.nD,
      r.2.mem ((c.tc : Thread Cert.NeighbourIdeal.nD Cert.NeighbourIdeal.τ).loc Cert.NeighbourIdeal.main_arg0) = m ((c.tc : Thread Cert.NeighbourIdeal.nD Cert.NeighbourIdeal.τ).loc Cert.NeighbourIdeal.main_arg0)
      ∧ r.2.mem ((c.tc : Thread Cert.NeighbourIdeal.nD Cert.NeighbourIdeal.τ).loc Cert.NeighbourIdeal.main_arg1) = m ((c.tc : Thread Cert.NeighbourIdeal.nD Cert.NeighbourIdeal.τ).loc Cert.NeighbourIdeal.main_arg1))
      ∧ r.2.sem = fun _ => 0)

def quiescent_NeighbourRefIdeal [hNeighbourRefIdeal : Cert.NeighbourRefIdeal.Facts] : Prop :=
  ∀ (m : (ℓ : Loc Cert.NeighbourRefIdeal.nD Cert.NeighbourRefIdeal.τ Cert.NeighbourRefIdeal.sig) → Buf (Elt Ideal) ℓ) (g : Dev Cert.NeighbourRefIdeal.nD → PrngReg), Pre_NeighbourRefIdeal m →
    θ_run (Cert.NeighbourRefIdeal.defs (F := Ideal)) (onTc (τ := Cert.NeighbourRefIdeal.τ) (Cert.NeighbourRefIdeal.main (F := Ideal))) ⟨m, fun _ => 0, g⟩ (fun r => (∀ c : Dev Cert.NeighbourRefIdeal.nD,
      r.2.mem ((c.tc : Thread Cert.NeighbourRefIdeal.nD Cert.NeighbourRefIdeal.τ).loc Cert.NeighbourRefIdeal.main_arg0) = m ((c.tc : Thread Cert.NeighbourRefIdeal.nD Cert.NeighbourRefIdeal.τ).loc Cert.NeighbourRefIdeal.main_arg0)
      ∧ r.2.mem ((c.tc : Thread Cert.NeighbourRefIdeal.nD Cert.NeighbourRefIdeal.τ).loc Cert.NeighbourRefIdeal.main_arg1) = m ((c.tc : Thread Cert.NeighbourRefIdeal.nD Cert.NeighbourRefIdeal.τ).loc Cert.NeighbourRefIdeal.main_arg1))
      ∧ r.2.sem = fun _ => 0)

def quiescent_NeighbourRefIdeal_pre_finite_neighbour [hNeighbourRefIdeal : Cert.NeighbourRefIdeal.Facts] [hPre_finite_neighbour : Cert.Pre_finite_neighbour.Facts] : Prop :=
  ∀ (m : (ℓ : Loc Cert.NeighbourRefIdeal.nD Cert.NeighbourRefIdeal.τ Cert.NeighbourRefIdeal.sig) → Buf (Elt Ideal) ℓ) (g : Dev Cert.NeighbourRefIdeal.nD → PrngReg), Pre_NeighbourRefIdeal_finite_neighbour m →
    θ_run (Cert.NeighbourRefIdeal.defs (F := Ideal)) (onTc (τ := Cert.NeighbourRefIdeal.τ) (Cert.NeighbourRefIdeal.main (F := Ideal))) ⟨m, fun _ => 0, g⟩ (fun r => (∀ c : Dev Cert.NeighbourRefIdeal.nD,
      r.2.mem ((c.tc : Thread Cert.NeighbourRefIdeal.nD Cert.NeighbourRefIdeal.τ).loc Cert.NeighbourRefIdeal.main_arg0) = m ((c.tc : Thread Cert.NeighbourRefIdeal.nD Cert.NeighbourRefIdeal.τ).loc Cert.NeighbourRefIdeal.main_arg0)
      ∧ r.2.mem ((c.tc : Thread Cert.NeighbourRefIdeal.nD Cert.NeighbourRefIdeal.τ).loc Cert.NeighbourRefIdeal.main_arg1) = m ((c.tc : Thread Cert.NeighbourRefIdeal.nD Cert.NeighbourRefIdeal.τ).loc Cert.NeighbourRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_MemProj [hMemProj : Cert.MemProj.Facts] : Prop :=
  ∀ (m : (ℓ : Loc Cert.MemProj.nD Cert.MemProj.τ Cert.MemProj.sig) → Buf (Elt Bits) ℓ) (g : Dev Cert.MemProj.nD → PrngReg), Pre_MemProj m →
    θ_run (Cert.MemProj.defs (F := Bits)) (onTc (τ := Cert.MemProj.τ) (Cert.MemProj.main (F := Bits))) ⟨m, fun _ => 0, g⟩ (fun r => (∀ c : Dev Cert.MemProj.nD,
      r.2.mem ((c.tc : Thread Cert.MemProj.nD Cert.MemProj.τ).loc Cert.MemProj.main_arg0) = m ((c.tc : Thread Cert.MemProj.nD Cert.MemProj.τ).loc Cert.MemProj.main_arg0)
      ∧ r.2.mem ((c.tc : Thread Cert.MemProj.nD Cert.MemProj.τ).loc Cert.MemProj.main_arg1) = m ((c.tc : Thread Cert.MemProj.nD Cert.MemProj.τ).loc Cert.MemProj.main_arg1)
      ∧ r.2.mem ((c.tc : Thread Cert.MemProj.nD Cert.MemProj.τ).loc Cert.MemProj.main_arg2) = m ((c.tc : Thread Cert.MemProj.nD Cert.MemProj.τ).loc Cert.MemProj.main_arg2))
      ∧ r.2.sem = fun _ => 0)

def quiescent_MemProjIdeal [hMemProjIdeal : Cert.MemProjIdeal.Facts] : Prop :=
  ∀ (m : (ℓ : Loc Cert.MemProjIdeal.nD Cert.MemProjIdeal.τ Cert.MemProjIdeal.sig) → Buf (Elt Ideal) ℓ) (g : Dev Cert.MemProjIdeal.nD → PrngReg), Pre_MemProjIdeal m →
    θ_run (Cert.MemProjIdeal.defs (F := Ideal)) (onTc (τ := Cert.MemProjIdeal.τ) (Cert.MemProjIdeal.main (F := Ideal))) ⟨m, fun _ => 0, g⟩ (fun r => (∀ c : Dev Cert.MemProjIdeal.nD,
      r.2.mem ((c.tc : Thread Cert.MemProjIdeal.nD Cert.MemProjIdeal.τ).loc Cert.MemProjIdeal.main_arg0) = m ((c.tc : Thread Cert.MemProjIdeal.nD Cert.MemProjIdeal.τ).loc Cert.MemProjIdeal.main_arg0)
      ∧ r.2.mem ((c.tc : Thread Cert.MemProjIdeal.nD Cert.MemProjIdeal.τ).loc Cert.MemProjIdeal.main_arg1) = m ((c.tc : Thread Cert.MemProjIdeal.nD Cert.MemProjIdeal.τ).loc Cert.MemProjIdeal.main_arg1)
      ∧ r.2.mem ((c.tc : Thread Cert.MemProjIdeal.nD Cert.MemProjIdeal.τ).loc Cert.MemProjIdeal.main_arg2) = m ((c.tc : Thread Cert.MemProjIdeal.nD Cert.MemProjIdeal.τ).loc Cert.MemProjIdeal.main_arg2))
      ∧ r.2.sem = fun _ => 0)

def quiescent_MemProjRefIdeal [hMemProjRefIdeal : Cert.MemProjRefIdeal.Facts] : Prop :=
  ∀ (m : (ℓ : Loc Cert.MemProjRefIdeal.nD Cert.MemProjRefIdeal.τ Cert.MemProjRefIdeal.sig) → Buf (Elt Ideal) ℓ) (g : Dev Cert.MemProjRefIdeal.nD → PrngReg), Pre_MemProjRefIdeal m →
    θ_run (Cert.MemProjRefIdeal.defs (F := Ideal)) (onTc (τ := Cert.MemProjRefIdeal.τ) (Cert.MemProjRefIdeal.main (F := Ideal))) ⟨m, fun _ => 0, g⟩ (fun r => (∀ c : Dev Cert.MemProjRefIdeal.nD,
      r.2.mem ((c.tc : Thread Cert.MemProjRefIdeal.nD Cert.MemProjRefIdeal.τ).loc Cert.MemProjRefIdeal.main_arg0) = m ((c.tc : Thread Cert.MemProjRefIdeal.nD Cert.MemProjRefIdeal.τ).loc Cert.MemProjRefIdeal.main_arg0)
      ∧ r.2.mem ((c.tc : Thread Cert.MemProjRefIdeal.nD Cert.MemProjRefIdeal.τ).loc Cert.MemProjRefIdeal.main_arg1) = m ((c.tc : Thread Cert.MemProjRefIdeal.nD Cert.MemProjRefIdeal.τ).loc Cert.MemProjRefIdeal.main_arg1)
      ∧ r.2.mem ((c.tc : Thread Cert.MemProjRefIdeal.nD Cert.MemProjRefIdeal.τ).loc Cert.MemProjRefIdeal.main_arg2) = m ((c.tc : Thread Cert.MemProjRefIdeal.nD Cert.MemProjRefIdeal.τ).loc Cert.MemProjRefIdeal.main_arg2))
      ∧ r.2.sem = fun _ => 0)

def preserves_Memory_MemoryIdeal : Prop :=
  IdealRules.named_const.Statement Cert.MemoryIdeal.κ "qk_scale" .f32 0x3E0293EE#32 ((((Real.sqrt 128) * (Real.log 2))⁻¹ : ℝ) : EReal)

def algebraic_MemoryIdeal_MemoryRefIdeal_pre_finite_memory [hMemoryIdeal : Cert.MemoryIdeal.Facts] [hMemoryRefIdeal : Cert.MemoryRefIdeal.Facts] [hPre_finite_memory : Cert.Pre_finite_memory.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryRefIdeal.nD Cert.MemoryRefIdeal.τ Cert.MemoryRefIdeal.sig) → Buf (Elt Ideal) ℓ) (g' : Dev Cert.MemoryRefIdeal.nD → PrngReg), Pre_MemoryIdeal_finite_memory m →
    (∀ c : Dev Cert.MemoryIdeal.nD,
      m' ((c.tc : Thread Cert.MemoryRefIdeal.nD Cert.MemoryRefIdeal.τ).loc Cert.MemoryRefIdeal.main_arg0) = m ((c.tc : Thread Cert.MemoryIdeal.nD Cert.MemoryIdeal.τ).loc Cert.MemoryIdeal.main_arg0)
      ∧ m' ((c.tc : Thread Cert.MemoryRefIdeal.nD Cert.MemoryRefIdeal.τ).loc Cert.MemoryRefIdeal.main_arg1) = m ((c.tc : Thread Cert.MemoryIdeal.nD Cert.MemoryIdeal.τ).loc Cert.MemoryIdeal.main_arg1)) →
    ∃ (v0 : (c : Dev Cert.MemoryIdeal.nD) → Buf (Elt Ideal) ((c.tc : Thread Cert.MemoryIdeal.nD Cert.MemoryIdeal.τ).loc Cert.MemoryIdeal.main_v0)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v0) = v0 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1))
      ∧ θ_run (Cert.MemoryRefIdeal.defs (F := Ideal)) (onTc (τ := Cert.MemoryRefIdeal.τ) (Cert.MemoryRefIdeal.main (F := Ideal))) ⟨m', fun _ => 0, g'⟩ (fun r => ∀ c : Dev Cert.MemoryRefIdeal.nD,
          r.2.mem ((c.tc : Thread Cert.MemoryRefIdeal.nD Cert.MemoryRefIdeal.τ).loc Cert.MemoryRefIdeal.main_v30) = v0 c
          ∧ r.2.mem ((c.tc : Thread Cert.MemoryRefIdeal.nD Cert.MemoryRefIdeal.τ).loc Cert.MemoryRefIdeal.main_arg0) = m' ((c.tc : Thread Cert.MemoryRefIdeal.nD Cert.MemoryRefIdeal.τ).loc Cert.MemoryRefIdeal.main_arg0)
          ∧ r.2.mem ((c.tc : Thread Cert.MemoryRefIdeal.nD Cert.MemoryRefIdeal.τ).loc Cert.MemoryRefIdeal.main_arg1) = m' ((c.tc : Thread Cert.MemoryRefIdeal.nD Cert.MemoryRefIdeal.τ).loc Cert.MemoryRefIdeal.main_arg1))

def preserves_Neighbour_NeighbourIdeal : Prop :=
  IdealRules.named_const.Statement Cert.NeighbourIdeal.κ "qk_scale" .f32 0x3E38AA3B#32 ((((Real.sqrt 64) * (Real.log 2))⁻¹ : ℝ) : EReal)
  ∧ IdealRules.named_const.Statement Cert.NeighbourIdeal.κ "log2_e" .f32 0x3FB8AA3B#32 (((Real.log 2)⁻¹ : ℝ) : EReal)

def algebraic_NeighbourIdeal_NeighbourRefIdeal_pre_finite_neighbour [hNeighbourIdeal : Cert.NeighbourIdeal.Facts] [hNeighbourRefIdeal : Cert.NeighbourRefIdeal.Facts] [hPre_finite_neighbour : Cert.Pre_finite_neighbour.Facts] : Prop :=
  ∀ (m : (ℓ : Loc Cert.NeighbourIdeal.nD Cert.NeighbourIdeal.τ Cert.NeighbourIdeal.sig) → Buf (Elt Ideal) ℓ) (g : Dev Cert.NeighbourIdeal.nD → PrngReg)
    (m' : (ℓ : Loc Cert.NeighbourRefIdeal.nD Cert.NeighbourRefIdeal.τ Cert.NeighbourRefIdeal.sig) → Buf (Elt Ideal) ℓ) (g' : Dev Cert.NeighbourRefIdeal.nD → PrngReg), Pre_NeighbourIdeal_finite_neighbour m →
    (∀ c : Dev Cert.NeighbourIdeal.nD,
      m' ((c.tc : Thread Cert.NeighbourRefIdeal.nD Cert.NeighbourRefIdeal.τ).loc Cert.NeighbourRefIdeal.main_arg0) = m ((c.tc : Thread Cert.NeighbourIdeal.nD Cert.NeighbourIdeal.τ).loc Cert.NeighbourIdeal.main_arg0)
      ∧ m' ((c.tc : Thread Cert.NeighbourRefIdeal.nD Cert.NeighbourRefIdeal.τ).loc Cert.NeighbourRefIdeal.main_arg1) = m ((c.tc : Thread Cert.NeighbourIdeal.nD Cert.NeighbourIdeal.τ).loc Cert.NeighbourIdeal.main_arg1)) →
    ∃ (v0 : (c : Dev Cert.NeighbourIdeal.nD) → Buf (Elt Ideal) ((c.tc : Thread Cert.NeighbourIdeal.nD Cert.NeighbourIdeal.τ).loc Cert.NeighbourIdeal.main_v0)),
      θ_run (Cert.NeighbourIdeal.defs (F := Ideal)) (onTc (τ := Cert.NeighbourIdeal.τ) (Cert.NeighbourIdeal.main (F := Ideal))) ⟨m, fun _ => 0, g⟩ (fun r => ∀ c : Dev Cert.NeighbourIdeal.nD,
          r.2.mem ((c.tc : Thread Cert.NeighbourIdeal.nD Cert.NeighbourIdeal.τ).loc Cert.NeighbourIdeal.main_v0) = v0 c
          ∧ r.2.mem ((c.tc : Thread Cert.NeighbourIdeal.nD Cert.NeighbourIdeal.τ).loc Cert.NeighbourIdeal.main_arg0) = m ((c.tc : Thread Cert.NeighbourIdeal.nD Cert.NeighbourIdeal.τ).loc Cert.NeighbourIdeal.main_arg0)
          ∧ r.2.mem ((c.tc : Thread Cert.NeighbourIdeal.nD Cert.NeighbourIdeal.τ).loc Cert.NeighbourIdeal.main_arg1) = m ((c.tc : Thread Cert.NeighbourIdeal.nD Cert.NeighbourIdeal.τ).loc Cert.NeighbourIdeal.main_arg1))
      ∧ θ_run (Cert.NeighbourRefIdeal.defs (F := Ideal)) (onTc (τ := Cert.NeighbourRefIdeal.τ) (Cert.NeighbourRefIdeal.main (F := Ideal))) ⟨m', fun _ => 0, g'⟩ (fun r => ∀ c : Dev Cert.NeighbourRefIdeal.nD,
          r.2.mem ((c.tc : Thread Cert.NeighbourRefIdeal.nD Cert.NeighbourRefIdeal.τ).loc Cert.NeighbourRefIdeal.main_v69) = v0 c
          ∧ r.2.mem ((c.tc : Thread Cert.NeighbourRefIdeal.nD Cert.NeighbourRefIdeal.τ).loc Cert.NeighbourRefIdeal.main_arg0) = m' ((c.tc : Thread Cert.NeighbourRefIdeal.nD Cert.NeighbourRefIdeal.τ).loc Cert.NeighbourRefIdeal.main_arg0)
          ∧ r.2.mem ((c.tc : Thread Cert.NeighbourRefIdeal.nD Cert.NeighbourRefIdeal.τ).loc Cert.NeighbourRefIdeal.main_arg1) = m' ((c.tc : Thread Cert.NeighbourRefIdeal.nD Cert.NeighbourRefIdeal.τ).loc Cert.NeighbourRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v5) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v40) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v2_0)) (v1 : (c : Dev Cert.ProjIdeal.nD) → Buf (Elt Ideal) ((c.tc : Thread Cert.ProjIdeal.nD Cert.ProjIdeal.τ).loc Cert.ProjIdeal.main_v2_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2_0) = v0 c
          ∧ r.2.mem ((c.tc : Thread Cert.ProjIdeal.nD Cert.ProjIdeal.τ).loc Cert.ProjIdeal.main_v2_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v15) = v0 c
          ∧ r.2.mem ((c.tc : Thread Cert.ProjRefIdeal.nD Cert.ProjRefIdeal.τ).loc Cert.ProjRefIdeal.main_v35) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_MemProj_MemProjIdeal : Prop :=
  True

def algebraic_MemProjIdeal_MemProjRefIdeal [hMemProjIdeal : Cert.MemProjIdeal.Facts] [hMemProjRefIdeal : Cert.MemProjRefIdeal.Facts] : Prop :=
  ∀ (m : (ℓ : Loc Cert.MemProjIdeal.nD Cert.MemProjIdeal.τ Cert.MemProjIdeal.sig) → Buf (Elt Ideal) ℓ) (g : Dev Cert.MemProjIdeal.nD → PrngReg)
    (m' : (ℓ : Loc Cert.MemProjRefIdeal.nD Cert.MemProjRefIdeal.τ Cert.MemProjRefIdeal.sig) → Buf (Elt Ideal) ℓ) (g' : Dev Cert.MemProjRefIdeal.nD → PrngReg), Pre_MemProjIdeal m →
    (∀ c : Dev Cert.MemProjIdeal.nD,
      m' ((c.tc : Thread Cert.MemProjRefIdeal.nD Cert.MemProjRefIdeal.τ).loc Cert.MemProjRefIdeal.main_arg0) = m ((c.tc : Thread Cert.MemProjIdeal.nD Cert.MemProjIdeal.τ).loc Cert.MemProjIdeal.main_arg0)
      ∧ m' ((c.tc : Thread Cert.MemProjRefIdeal.nD Cert.MemProjRefIdeal.τ).loc Cert.MemProjRefIdeal.main_arg1) = m ((c.tc : Thread Cert.MemProjIdeal.nD Cert.MemProjIdeal.τ).loc Cert.MemProjIdeal.main_arg1)
      ∧ m' ((c.tc : Thread Cert.MemProjRefIdeal.nD Cert.MemProjRefIdeal.τ).loc Cert.MemProjRefIdeal.main_arg2) = m ((c.tc : Thread Cert.MemProjIdeal.nD Cert.MemProjIdeal.τ).loc Cert.MemProjIdeal.main_arg2)) →
    ∃ (v0 : (c : Dev Cert.MemProjIdeal.nD) → Buf (Elt Ideal) ((c.tc : Thread Cert.MemProjIdeal.nD Cert.MemProjIdeal.τ).loc Cert.MemProjIdeal.main_v3)),
      θ_run (Cert.MemProjIdeal.defs (F := Ideal)) (onTc (τ := Cert.MemProjIdeal.τ) (Cert.MemProjIdeal.main (F := Ideal))) ⟨m, fun _ => 0, g⟩ (fun r => ∀ c : Dev Cert.MemProjIdeal.nD,
          r.2.mem ((c.tc : Thread Cert.MemProjIdeal.nD Cert.MemProjIdeal.τ).loc Cert.MemProjIdeal.main_v3) = v0 c
          ∧ r.2.mem ((c.tc : Thread Cert.MemProjIdeal.nD Cert.MemProjIdeal.τ).loc Cert.MemProjIdeal.main_arg0) = m ((c.tc : Thread Cert.MemProjIdeal.nD Cert.MemProjIdeal.τ).loc Cert.MemProjIdeal.main_arg0)
          ∧ r.2.mem ((c.tc : Thread Cert.MemProjIdeal.nD Cert.MemProjIdeal.τ).loc Cert.MemProjIdeal.main_arg1) = m ((c.tc : Thread Cert.MemProjIdeal.nD Cert.MemProjIdeal.τ).loc Cert.MemProjIdeal.main_arg1)
          ∧ r.2.mem ((c.tc : Thread Cert.MemProjIdeal.nD Cert.MemProjIdeal.τ).loc Cert.MemProjIdeal.main_arg2) = m ((c.tc : Thread Cert.MemProjIdeal.nD Cert.MemProjIdeal.τ).loc Cert.MemProjIdeal.main_arg2))
      ∧ θ_run (Cert.MemProjRefIdeal.defs (F := Ideal)) (onTc (τ := Cert.MemProjRefIdeal.τ) (Cert.MemProjRefIdeal.main (F := Ideal))) ⟨m', fun _ => 0, g'⟩ (fun r => ∀ c : Dev Cert.MemProjRefIdeal.nD,
          r.2.mem ((c.tc : Thread Cert.MemProjRefIdeal.nD Cert.MemProjRefIdeal.τ).loc Cert.MemProjRefIdeal.main_v15) = v0 c
          ∧ r.2.mem ((c.tc : Thread Cert.MemProjRefIdeal.nD Cert.MemProjRefIdeal.τ).loc Cert.MemProjRefIdeal.main_arg0) = m' ((c.tc : Thread Cert.MemProjRefIdeal.nD Cert.MemProjRefIdeal.τ).loc Cert.MemProjRefIdeal.main_arg0)
          ∧ r.2.mem ((c.tc : Thread Cert.MemProjRefIdeal.nD Cert.MemProjRefIdeal.τ).loc Cert.MemProjRefIdeal.main_arg1) = m' ((c.tc : Thread Cert.MemProjRefIdeal.nD Cert.MemProjRefIdeal.τ).loc Cert.MemProjRefIdeal.main_arg1)
          ∧ r.2.mem ((c.tc : Thread Cert.MemProjRefIdeal.nD Cert.MemProjRefIdeal.τ).loc Cert.MemProjRefIdeal.main_arg2) = m' ((c.tc : Thread Cert.MemProjRefIdeal.nD Cert.MemProjRefIdeal.τ).loc Cert.MemProjRefIdeal.main_arg2))

def Claim : Prop :=
  ∃ (hMemory : Cert.Memory.Facts) (hMemoryIdeal : Cert.MemoryIdeal.Facts) (hMemoryRefIdeal : Cert.MemoryRefIdeal.Facts) (hNeighbour : Cert.Neighbour.Facts) (hNeighbourIdeal : Cert.NeighbourIdeal.Facts) (hNeighbourRefIdeal : Cert.NeighbourRefIdeal.Facts) (hMerge : Cert.Merge.Facts) (hMergeIdeal : Cert.MergeIdeal.Facts) (hMergeRefIdeal : Cert.MergeRefIdeal.Facts) (hProj : Cert.Proj.Facts) (hProjIdeal : Cert.ProjIdeal.Facts) (hProjRefIdeal : Cert.ProjRefIdeal.Facts) (hMemProj : Cert.MemProj.Facts) (hMemProjIdeal : Cert.MemProjIdeal.Facts) (hMemProjRefIdeal : Cert.MemProjRefIdeal.Facts) (hPre_finite_memory : Cert.Pre_finite_memory.Facts) (hPre_finite_neighbour : Cert.Pre_finite_neighbour.Facts),
    quiescent_Memory (hMemory := hMemory)
    ∧ quiescent_MemoryIdeal (hMemoryIdeal := hMemoryIdeal)
    ∧ quiescent_MemoryIdeal_pre_finite_memory (hMemoryIdeal := hMemoryIdeal) (hPre_finite_memory := hPre_finite_memory)
    ∧ quiescent_MemoryRefIdeal (hMemoryRefIdeal := hMemoryRefIdeal)
    ∧ quiescent_MemoryRefIdeal_pre_finite_memory (hMemoryRefIdeal := hMemoryRefIdeal) (hPre_finite_memory := hPre_finite_memory)
    ∧ quiescent_Neighbour (hNeighbour := hNeighbour)
    ∧ quiescent_NeighbourIdeal (hNeighbourIdeal := hNeighbourIdeal)
    ∧ quiescent_NeighbourIdeal_pre_finite_neighbour (hNeighbourIdeal := hNeighbourIdeal) (hPre_finite_neighbour := hPre_finite_neighbour)
    ∧ quiescent_NeighbourRefIdeal (hNeighbourRefIdeal := hNeighbourRefIdeal)
    ∧ quiescent_NeighbourRefIdeal_pre_finite_neighbour (hNeighbourRefIdeal := hNeighbourRefIdeal) (hPre_finite_neighbour := hPre_finite_neighbour)
    ∧ quiescent_Merge (hMerge := hMerge)
    ∧ quiescent_MergeIdeal (hMergeIdeal := hMergeIdeal)
    ∧ quiescent_MergeRefIdeal (hMergeRefIdeal := hMergeRefIdeal)
    ∧ quiescent_Proj (hProj := hProj)
    ∧ quiescent_ProjIdeal (hProjIdeal := hProjIdeal)
    ∧ quiescent_ProjRefIdeal (hProjRefIdeal := hProjRefIdeal)
    ∧ quiescent_MemProj (hMemProj := hMemProj)
    ∧ quiescent_MemProjIdeal (hMemProjIdeal := hMemProjIdeal)
    ∧ quiescent_MemProjRefIdeal (hMemProjRefIdeal := hMemProjRefIdeal)
    ∧ preserves_Memory_MemoryIdeal
    ∧ algebraic_MemoryIdeal_MemoryRefIdeal_pre_finite_memory (hMemoryIdeal := hMemoryIdeal) (hMemoryRefIdeal := hMemoryRefIdeal) (hPre_finite_memory := hPre_finite_memory)
    ∧ preserves_Neighbour_NeighbourIdeal
    ∧ algebraic_NeighbourIdeal_NeighbourRefIdeal_pre_finite_neighbour (hNeighbourIdeal := hNeighbourIdeal) (hNeighbourRefIdeal := hNeighbourRefIdeal) (hPre_finite_neighbour := hPre_finite_neighbour)
    ∧ preserves_Merge_MergeIdeal
    ∧ algebraic_MergeIdeal_MergeRefIdeal (hMergeIdeal := hMergeIdeal) (hMergeRefIdeal := hMergeRefIdeal)
    ∧ preserves_Proj_ProjIdeal
    ∧ algebraic_ProjIdeal_ProjRefIdeal (hProjIdeal := hProjIdeal) (hProjRefIdeal := hProjRefIdeal)
    ∧ preserves_MemProj_MemProjIdeal
    ∧ algebraic_MemProjIdeal_MemProjRefIdeal (hMemProjIdeal := hMemProjIdeal) (hMemProjRefIdeal := hMemProjRefIdeal)
-- ==== Pre_finite_memory.lean ====
abbrev S32x2048x8192 : Shape := ⟨3, ![32, 2048, 8192]⟩
abbrev S32x256x1024 : Shape := ⟨3, ![32, 256, 1024]⟩
abbrev S32x2048x512 : Shape := ⟨3, ![32, 2048, 512]⟩
abbrev S_ : Shape := ⟨0, ![]⟩
abbrev S32x256x512 : Shape := ⟨3, ![32, 256, 512]⟩

class Facts : Prop where
  slices_S32x2048x8192_S32x2048x512_0_0_4096 : S32x2048x8192.Slices ![0, 0, 4096] S32x2048x512
  bitsLt_bf16_f32 : FTy.bits .bf16 < FTy.bits .f32
  bcast_S_S32x2048x512 : S_.BroadcastsInDim S32x2048x512 (![] : Fin 0 → Fin S32x2048x512.rank)
  reducesTo_S32x2048x512_S_d0_1_2 : S32x2048x512.ReducesTo [0, 1, 2] S_
  h_S_ : 0 < S_.numel
  slices_S32x256x1024_S32x256x512_0_0_0 : S32x256x1024.Slices ![0, 0, 0] S32x256x512
  bcast_S_S32x256x512 : S_.BroadcastsInDim S32x256x512 (![] : Fin 0 → Fin S32x256x512.rank)
  reducesTo_S32x256x512_S_d0_1_2 : S32x256x512.ReducesTo [0, 1, 2] S_

variable [Facts]

def fn {F : FTy → Type} [FloatOps F] (main_arg0 : FVec F S32x2048x8192 .bf16) (main_arg1 : FVec F S32x256x1024 .bf16) : IVec S_ 1 :=
  let main_v0 : FVec F S32x2048x512 .bf16 := (extractStridedSlice S32x2048x512 ![0, 0, 4096] · slices_S32x2048x8192_S32x2048x512_0_0_4096) main_arg0
  let main_v1 : FVec F S32x2048x512 .f32 := (extf .f32 · bitsLt_bf16_f32) main_v0
  let main_v2 : FVec F S32x2048x512 .f32 := Host.absf main_v1
  let main_cst : FVec F S_ .f32 := constant S_ .f32 0x7F800000#32
  let main_v3 : FVec F S32x2048x512 .f32 := broadcastInDim S32x2048x512 ![] bcast_S_S32x2048x512 main_cst
  let main_v4 : IVec S32x2048x512 1 := cmpf .olt main_v2 main_v3
  let main_c : IVec S_ 1 := constantI S_ 1 1#1
  let main_v5 : IVec S_ 1 := (fun x v => Host.reduce IntOp.andi x v reducesTo_S32x2048x512_S_d0_1_2 h_S_) main_v4 main_c
  let main_v6 : FVec F S32x256x512 .bf16 := (extractStridedSlice S32x256x512 ![0, 0, 0] · slices_S32x256x1024_S32x256x512_0_0_0) main_arg1
  let main_v7 : FVec F S32x256x512 .f32 := (extf .f32 · bitsLt_bf16_f32) main_v6
  let main_v8 : FVec F S32x256x512 .f32 := Host.absf main_v7
  let main_cst_0 : FVec F S_ .f32 := constant S_ .f32 0x7F800000#32
  let main_v9 : FVec F S32x256x512 .f32 := broadcastInDim S32x256x512 ![] bcast_S_S32x256x512 main_cst_0
  let main_v10 : IVec S32x256x512 1 := cmpf .olt main_v8 main_v9
  let main_c_1 : IVec S_ 1 := constantI S_ 1 1#1
  let main_v11 : IVec S_ 1 := (fun x v => Host.reduce IntOp.andi x v reducesTo_S32x256x512_S_d0_1_2 h_S_) main_v10 main_c_1
  let main_v12 : IVec S_ 1 := andi main_v5 main_v11
  main_v12
-- ==== Pre_finite_neighbour.lean ====
abbrev S32x2048x8192 : Shape := ⟨3, ![32, 2048, 8192]⟩
abbrev S4x8x128x512 : Shape := ⟨4, ![4, 8, 128, 512]⟩
abbrev S32x2048x1536 : Shape := ⟨3, ![32, 2048, 1536]⟩
abbrev S32x2048x4x3x128 : Shape := ⟨5, ![32, 2048, 4, 3, 128]⟩
abbrev S32x2048x4x2x128 : Shape := ⟨5, ![32, 2048, 4, 2, 128]⟩
abbrev S_ : Shape := ⟨0, ![]⟩

class Facts : Prop where
  slices_S32x2048x8192_S32x2048x1536_0_0_1536 : S32x2048x8192.Slices ![0, 0, 1536] S32x2048x1536
  shapeCasts_S32x2048x1536_S32x2048x4x3x128 : S32x2048x1536.ShapeCasts S32x2048x4x3x128
  slices_S32x2048x4x3x128_S32x2048x4x2x128_0_0_0_0_0 : S32x2048x4x3x128.Slices ![0, 0, 0, 0, 0] S32x2048x4x2x128
  bitsLt_bf16_f32 : FTy.bits .bf16 < FTy.bits .f32
  bcast_S_S32x2048x4x2x128 : S_.BroadcastsInDim S32x2048x4x2x128 (![] : Fin 0 → Fin S32x2048x4x2x128.rank)
  reducesTo_S32x2048x4x2x128_S_d0_1_2_3_4 : S32x2048x4x2x128.ReducesTo [0, 1, 2, 3, 4] S_
  h_S_ : 0 < S_.numel
  bcast_S_S4x8x128x512 : S_.BroadcastsInDim S4x8x128x512 (![] : Fin 0 → Fin S4x8x128x512.rank)
  reducesTo_S4x8x128x512_S_d0_1_2_3 : S4x8x128x512.ReducesTo [0, 1, 2, 3] S_

variable [Facts]

def fn {F : FTy → Type} [FloatOps F] (main_arg0 : FVec F S32x2048x8192 .bf16) (main_arg1 : FVec F S4x8x128x512 .f32) : IVec S_ 1 :=
  let main_v0 : FVec F S32x2048x1536 .bf16 := (extractStridedSlice S32x2048x1536 ![0, 0, 1536] · slices_S32x2048x8192_S32x2048x1536_0_0_1536) main_arg0
  let main_v1 : FVec F S32x2048x4x3x128 .bf16 := shapeCast S32x2048x4x3x128 main_v0 shapeCasts_S32x2048x1536_S32x2048x4x3x128
  let main_v2 : FVec F S32x2048x4x2x128 .bf16 := (extractStridedSlice S32x2048x4x2x128 ![0, 0, 0, 0, 0] · slices_S32x2048x4x3x128_S32x2048x4x2x128_0_0_0_0_0) main_v1
  let main_v3 : FVec F S32x2048x4x2x128 .f32 := (extf .f32 · bitsLt_bf16_f32) main_v2
  let main_v4 : FVec F S32x2048x4x2x128 .f32 := Host.absf main_v3
  let main_cst : FVec F S_ .f32 := constant S_ .f32 0x7F800000#32
  let main_v5 : FVec F S32x2048x4x2x128 .f32 := broadcastInDim S32x2048x4x2x128 ![] bcast_S_S32x2048x4x2x128 main_cst
  let main_v6 : IVec S32x2048x4x2x128 1 := cmpf .olt main_v4 main_v5
  let main_c : IVec S_ 1 := constantI S_ 1 1#1
  let main_v7 : IVec S_ 1 := (fun x v => Host.reduce IntOp.andi x v reducesTo_S32x2048x4x2x128_S_d0_1_2_3_4 h_S_) main_v6 main_c
  let main_v8 : FVec F S4x8x128x512 .f32 := Host.absf main_arg1
  let main_cst_0 : FVec F S_ .f32 := constant S_ .f32 0x7F800000#32
  let main_v9 : FVec F S4x8x128x512 .f32 := broadcastInDim S4x8x128x512 ![] bcast_S_S4x8x128x512 main_cst_0
  let main_v10 : IVec S4x8x128x512 1 := cmpf .olt main_v8 main_v9
  let main_c_1 : IVec S_ 1 := constantI S_ 1 1#1
  let main_v11 : IVec S_ 1 := (fun x v => Host.reduce IntOp.andi x v reducesTo_S4x8x128x512_S_d0_1_2_3 h_S_) main_v10 main_c_1
  let main_v12 : IVec S_ 1 := andi main_v7 main_v11
  main_v12
-- ==== Memory.lean ====
abbrev S32x2048x8192 : Shape := ⟨3, ![32, 2048, 8192]⟩
abbrev S32x256x1024 : Shape := ⟨3, ![32, 256, 1024]⟩
abbrev S32x2048x512 : Shape := ⟨3, ![32, 2048, 512]⟩
abbrev S1x2048x512 : Shape := ⟨3, ![1, 2048, 512]⟩
abbrev S1x256x1024 : Shape := ⟨3, ![1, 256, 1024]⟩
abbrev S4x256x256 : Shape := ⟨3, ![4, 256, 256]⟩
abbrev S256x128 : Shape := ⟨2, ![256, 128]⟩
abbrev S1x256x128 : Shape := ⟨3, ![1, 256, 128]⟩
abbrev S256x256 : Shape := ⟨2, ![256, 256]⟩
abbrev S256 : Shape := ⟨1, ![256]⟩
abbrev S256x1 : Shape := ⟨2, ![256, 1]⟩
abbrev S1x256x256 : Shape := ⟨3, ![1, 256, 256]⟩

abbrev nBuf : Space → Nat
  | .hbm => 3
  | .vmem => 9
  | .smem => 0
  | _ => 0

abbrev bufTy : (tb : Table) → Fin (tcTables nBuf tb) → BufTy
  | .hbm, ⟨0, _⟩ => ⟨S32x2048x8192, .bf16⟩
  | .hbm, ⟨1, _⟩ => ⟨S32x256x1024, .bf16⟩
  | .hbm, ⟨2, _⟩ => ⟨S32x2048x512, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x2048x512, .bf16⟩
  | .local _ .vmem, ⟨7, _⟩ => ⟨S1x2048x512, .bf16⟩
  | .local _ .vmem, ⟨8, _⟩ => ⟨S4x256x256, .bf16⟩
  | _, _ => ⟨S32x2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c256_i32 : BitVec 32 := 256#32
  let v36 : BitVec 32 := Scalar.muli c0_i32 c256_i32
  v36
def k0_off1 (c0_i32 : BitVec 32) : Fin 3 → Nat :=
  let c0_30 : Index := 0#32
  let c256_i32 : BitVec 32 := 256#32
  let v36 : BitVec 32 := Scalar.muli c0_i32 c256_i32
  let v37 : BitVec 32 := v36
  let v38 : Index := Scalar.indexCast v37
  let c0_31 : Index := 0#32
  ![0, v38.toNat, 0]
def k0_off2 (c0_i32 : BitVec 32) : Fin 3 → Nat :=
  let c0_48 : Index := 0#32
  let c256_i32 : BitVec 32 := 256#32
  let v36 : BitVec 32 := Scalar.muli c0_i32 c256_i32
  let v37 : BitVec 32 := v36
  let v76 : Index := Scalar.indexCast v37
  let c128_49 : Index := 128#32
  ![0, v76.toNat, 128]
def k0_off3 (c0_i32 : BitVec 32) : Fin 3 → Nat :=
  let c0_66 : Index := 0#32
  let c256_i32 : BitVec 32 := 256#32
  let v36 : BitVec 32 := Scalar.muli c0_i32 c256_i32
  let v37 : BitVec 32 := v36
  let v114 : Index := Scalar.indexCast v37
  let c256 : Index := 256#32
  ![0, v114.toNat, 256]
def k0_off4 (c0_i32 : BitVec 32) : Fin 3 → Nat :=
  let c0_83 : Index := 0#32
  let c256_i32 : BitVec 32 := 256#32
  let v36 : BitVec 32 := Scalar.muli c0_i32 c256_i32
  let v37 : BitVec 32 := v36
  let v152 : Index := Scalar.indexCast v37
  let c384 : Index := 384#32
  ![0, v152.toNat, 384]
def k0_mult2 : BitVec 32 :=
  let c1_i32 : BitVec 32 := 1#32
  let c256_i32_100 : BitVec 32 := 256#32
  let v190 : BitVec 32 := Scalar.muli c1_i32 c256_i32_100
  v190
def k0_mult3 : BitVec 32 :=
  let c2_i32 : BitVec 32 := 2#32
  let c256_i32_173 : BitVec 32 := 256#32
  let v344 : BitVec 32 := Scalar.muli c2_i32 c256_i32_173
  v344
def k0_mult4 : BitVec 32 :=
  let c3_i32 : BitVec 32 := 3#32
  let c256_i32_246 : BitVec 32 := 256#32
  let v498 : BitVec 32 := Scalar.muli c3_i32 c256_i32_246
  v498
def k0_mult5 : BitVec 32 :=
  let c4_i32 : BitVec 32 := 4#32
  let c256_i32_319 : BitVec 32 := 256#32
  let v652 : BitVec 32 := Scalar.muli c4_i32 c256_i32_319
  v652
def k0_mult6 : BitVec 32 :=
  let c5_i32 : BitVec 32 := 5#32
  let c256_i32_392 : BitVec 32 := 256#32
  let v806 : BitVec 32 := Scalar.muli c5_i32 c256_i32_392
  v806
def k0_mult7 : BitVec 32 :=
  let c6_i32 : BitVec 32 := 6#32
  let c256_i32_465 : BitVec 32 := 256#32
  let v960 : BitVec 32 := Scalar.muli c6_i32 c256_i32_465
  v960
def k0_mult8 : BitVec 32 :=
  let c7_i32 : BitVec 32 := 7#32
  let c256_i32_538 : BitVec 32 := 256#32
  let v1114 : BitVec 32 := Scalar.muli c7_i32 c256_i32_538
  v1114
def cc0_transform_0 (i : grid0.Coords) : Fin 3 → Nat :=
  let arg0 : BitVec 32 := BitVec.ofNat 32 (i 0).val
  let c0_i32 : BitVec 32 := 0#32
  let c8_i32 : BitVec 32 := 8#32
  let c0_i32_0 : BitVec 32 := 0#32
  ![arg0.toNat, c0_i32.toNat, c8_i32.toNat]

def cc0_transform_1 (i : grid0.Coords) : Fin 3 → Nat :=
  let arg0 : BitVec 32 := BitVec.ofNat 32 (i 0).val
  let c0_i32 : BitVec 32 := 0#32
  let c9_i32 : BitVec 32 := 9#32
  let c0_i32_0 : BitVec 32 := 0#32
  ![arg0.toNat, c0_i32.toNat, c9_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MemoryIdeal.lean ====
variable {F : FTy → Type} [FloatOps F] [Named F]
def κ : String → Option EReal := fun
  | "qk_scale" => some ((((Real.sqrt 128) * (Real.log 2))⁻¹ : ℝ) : EReal)
  | _ => none
-- ==== MemoryRefIdeal.lean ====
abbrev S32x2048x8192 : Shape := ⟨3, ![32, 2048, 8192]⟩
abbrev S32x256x1024 : Shape := ⟨3, ![32, 256, 1024]⟩
abbrev S32x2048x512 : Shape := ⟨3, ![32, 2048, 512]⟩
abbrev S32x256x512 : Shape := ⟨3, ![32, 256, 512]⟩
abbrev S32x2048x4x128 : Shape := ⟨4, ![32, 2048, 4, 128]⟩
abbrev S32x256x4x128 : Shape := ⟨4, ![32, 256, 4, 128]⟩
abbrev S32x4x2048x256 : Shape := ⟨4, ![32, 4, 2048, 256]⟩
abbrev S_ : Shape := ⟨0, ![]⟩
abbrev S32x4x2048 : Shape := ⟨3, ![32, 4, 2048]⟩
abbrev S32x4x2048x1 : Shape := ⟨4, ![32, 4, 2048, 1]⟩
abbrev S32x4x128x2048 : Shape := ⟨4, ![32, 4, 128, 2048]⟩

abbrev nBuf : Space → Nat
  | .hbm => 45
  | .vmem => 0
  | .smem => 0
  | _ => 0

abbrev bufTy : (tb : Table) → Fin (tcTables nBuf tb) → BufTy
  | .hbm, ⟨0, _⟩ => ⟨S32x2048x8192, .bf16⟩
  | .hbm, ⟨1, _⟩ => ⟨S32x256x1024, .bf16⟩
  | .hbm, ⟨2, _⟩ => ⟨S32x2048x512, .bf16⟩
  | .hbm, ⟨3, _⟩ => ⟨S32x2048x512, .f32⟩
  | .hbm, ⟨4, _⟩ => ⟨S32x2048x512, .bf16⟩
  | .hbm, ⟨5, _⟩ => ⟨S32x2048x512, .f32⟩
  | .hbm, ⟨6, _⟩ => ⟨S32x256x1024, .f32⟩
  | .hbm, ⟨7, _⟩ => ⟨S32x256x512, .f32⟩
  | .hbm, ⟨8, _⟩ => ⟨S32x256x512, .f32⟩
  | .hbm, ⟨9, _⟩ => ⟨S32x2048x4x128, .f32⟩
  | .hbm, ⟨10, _⟩ => ⟨S32x256x4x128, .f32⟩
  | .hbm, ⟨11, _⟩ => ⟨S32x256x4x128, .f32⟩
  | .hbm, ⟨12, _⟩ => ⟨S32x4x2048x256, .f32⟩
  | .hbm, ⟨13, _⟩ => ⟨S_, .f32⟩
  | .hbm, ⟨14, _⟩ => ⟨S_, .f32⟩
  | .hbm, ⟨15, _⟩ => ⟨S32x4x2048x256, .f32⟩
  | .hbm, ⟨16, _⟩ => ⟨S32x4x2048x256, .f32⟩
  | .hbm, ⟨17, _⟩ => ⟨S_, .f32⟩
  | .hbm, ⟨18, _⟩ => ⟨S32x4x2048, .f32⟩
  | .hbm, ⟨19, _⟩ => ⟨S_, .f32⟩
  | .hbm, ⟨20, _⟩ => ⟨S32x4x2048, .f32⟩
  | .hbm, ⟨21, _⟩ => ⟨S32x4x2048, .f32⟩
  | .hbm, ⟨22, _⟩ => ⟨S32x4x2048x1, .f32⟩
  | .hbm, ⟨23, _⟩ => ⟨S32x4x2048x256, .f32⟩
  | .hbm, ⟨24, _⟩ => ⟨S32x4x2048x256, .f32⟩
  | .hbm, ⟨25, _⟩ => ⟨S32x4x2048x256, .f32⟩
  | .hbm, ⟨26, _⟩ => ⟨S_, .f32⟩
  | .hbm, ⟨27, _⟩ => ⟨S32x4x2048, .f32⟩
  | .hbm, ⟨28, _⟩ => ⟨S32x4x2048x1, .f32⟩
  | .hbm, ⟨29, _⟩ => ⟨S32x4x2048x256, .f32⟩
  | .hbm, ⟨30, _⟩ => ⟨S32x4x2048x256, .f32⟩
  | .hbm, ⟨31, _⟩ => ⟨S32x4x128x2048, .f32⟩
  | .hbm, ⟨32, _⟩ => ⟨S32x2048x4x128, .f32⟩
  | .hbm, ⟨33, _⟩ => ⟨S32x2048x512, .f32⟩
  | .hbm, ⟨34, _⟩ => ⟨S32x2048x512, .f32⟩
  | .hbm, ⟨35, _⟩ => ⟨S32x2048x512, .f32⟩
  | .hbm, ⟨36, _⟩ => ⟨S_, .f32⟩
  | .hbm, ⟨37, _⟩ => ⟨S32x2048x512, .f32⟩
  | .hbm, ⟨38, _⟩ => ⟨S32x2048x512, .f32⟩
  | .hbm, ⟨39, _⟩ => ⟨S_, .f32⟩
  | .hbm, ⟨40, _⟩ => ⟨S32x2048x512, .f32⟩
  | .hbm, ⟨41, _⟩ => ⟨S32x2048x512, .f32⟩
  | .hbm, ⟨42, _⟩ => ⟨S32x2048x512, .f32⟩
  | .hbm, ⟨43, _⟩ => ⟨S32x2048x512, .f32⟩
  | .hbm, ⟨44, _⟩ => ⟨S32x2048x512, .bf16⟩
  | _, _ => ⟨S32x2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Neighbour.lean ====
abbrev S32x2048x8192 : Shape := ⟨3, ![32, 2048, 8192]⟩
abbrev S4x8x128x512 : Shape := ⟨4, ![4, 8, 128, 512]⟩
abbrev S32x2048x512 : Shape := ⟨3, ![32, 2048, 512]⟩
abbrev S1x2048x384 : Shape := ⟨3, ![1, 2048, 384]⟩
abbrev S1x2048x128 : Shape := ⟨3, ![1, 2048, 128]⟩
abbrev S1x8x128x512 : Shape := ⟨4, ![1, 8, 128, 512]⟩
abbrev S2048x256 : Shape := ⟨2, ![2048, 256]⟩
abbrev S2048x128 : Shape := ⟨2, ![2048, 128]⟩
abbrev S1x64x128 : Shape := ⟨3, ![1, 64, 128]⟩
abbrev S64x128 : Shape := ⟨2, ![64, 128]⟩
abbrev S1x512x128 : Shape := ⟨3, ![1, 512, 128]⟩
abbrev S512x128 : Shape := ⟨2, ![512, 128]⟩
abbrev S512x256 : Shape := ⟨2, ![512, 256]⟩
abbrev S1x1x128x512 : Shape := ⟨4, ![1, 1, 128, 512]⟩
abbrev S128x512 : Shape := ⟨2, ![128, 512]⟩
abbrev S128x128 : Shape := ⟨2, ![128, 128]⟩
abbrev S128 : Shape := ⟨1, ![128]⟩
abbrev S128x1 : Shape := ⟨2, ![128, 1]⟩
abbrev S128x256 : Shape := ⟨2, ![128, 256]⟩

abbrev nBuf : Space → Nat
  | .hbm => 3
  | .vmem => 9
  | .smem => 0
  | _ => 0

abbrev bufTy : (tb : Table) → Fin (tcTables nBuf tb) → BufTy
  | .hbm, ⟨0, _⟩ => ⟨S32x2048x8192, .bf16⟩
  | .hbm, ⟨1, _⟩ => ⟨S4x8x128x512, .f32⟩
  | .hbm, ⟨2, _⟩ => ⟨S32x2048x512, .bf16⟩
  | .local _ .vmem, ⟨0, _⟩ => ⟨S1x2048x384, .bf16⟩
  | .local _ .vmem, ⟨1, _⟩ => ⟨S1x2048x384, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x8x128x512, .f32⟩
  | .local _ .vmem, ⟨5, _⟩ => ⟨S1x8x128x512, .f32⟩
  | .local _ .vmem, ⟨6, _⟩ => ⟨S1x2048x128, .bf16⟩
  | .local _ .vmem, ⟨7, _⟩ => ⟨S1x2048x128, .bf16⟩
  | .local _ .vmem, ⟨8, _⟩ => ⟨S2048x256, .bf16⟩
  | _, _ => ⟨S32x2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 32], ![false, false]⟩

def k0_mult1 : BitVec 32 :=
  let c24_i32 : BitVec 32 := 24#32
  let c0_i32_4 : BitVec 32 := 0#32
  let c0_i32 : BitVec 32 := 0#32
  let c4_i32 : BitVec 32 := 4#32
  let v9 : BitVec 32 := Scalar.subi c0_i32 c4_i32
  let v10 : BitVec 32 := Scalar.maxsi c0_i32_4 v9
  let v11 : BitVec 32 := Scalar.minsi c24_i32 v10
  let c64_i32 : BitVec 32 := 64#32
  let v12 : BitVec 32 := Scalar.muli v11 c64_i32
  v12
def k0_mult2 : BitVec 32 :=
  let c0_i32 : BitVec 32 := 0#32
  let c64_i32_5 : BitVec 32 := 64#32
  let v14 : BitVec 32 := Scalar.muli c0_i32 c64_i32_5
  v14
def k0_off1 (c0_i32 : BitVec 32) : Fin 3 → Nat :=
  let c0_6 : Index := 0#32
  let c64_i32_5 : BitVec 32 := 64#32
  let v14 : BitVec 32 := Scalar.muli c0_i32 c64_i32_5
  let v15 : BitVec 32 := v14
  let v16 : Index := Scalar.indexCast v15
  let c0_7 : Index := 0#32
  ![0, v16.toNat, 0]
def k0_off2 (c0_i32 : BitVec 32) : Fin 3 → Nat :=
  let c0_9 : Index := 0#32
  let c24_i32 : BitVec 32 := 24#32
  let c0_i32_4 : BitVec 32 := 0#32
  let c4_i32 : BitVec 32 := 4#32
  let v9 : BitVec 32 := Scalar.subi c0_i32 c4_i32
  let v10 : BitVec 32 := Scalar.maxsi c0_i32_4 v9
  let v11 : BitVec 32 := Scalar.minsi c24_i32 v10
  let c64_i32 : BitVec 32 := 64#32
  let v12 : BitVec 32 := Scalar.muli v11 c64_i32
  let v13 : BitVec 32 := v12
  let v23 : Index := Scalar.indexCast v13
  let c128_10 : Index := 128#32
  ![0, v23.toNat, 128]
def k0_off3 (c0_i32 : BitVec 32) : Fin 2 → Nat :=
  let c24_i32 : BitVec 32 := 24#32
  let c0_i32_4 : BitVec 32 := 0#32
  let c4_i32 : BitVec 32 := 4#32
  let v9 : BitVec 32 := Scalar.subi c0_i32 c4_i32
  let v10 : BitVec 32 := Scalar.maxsi c0_i32_4 v9
  let v11 : BitVec 32 := Scalar.minsi c24_i32 v10
  let c64_i32 : BitVec 32 := 64#32
  let v12 : BitVec 32 := Scalar.muli v11 c64_i32
  let v13 : BitVec 32 := v12
  let v26 : Index := Scalar.indexCast v13
  let c0_11 : Index := 0#32
  ![v26.toNat, 0]
def k0_off4 (c0_i32 : BitVec 32) : Fin 4 → Nat :=
  let c0_12 : Index := 0#32
  let c24_i32 : BitVec 32 := 24#32
  let c0_i32_4 : BitVec 32 := 0#32
  let c4_i32 : BitVec 32 := 4#32
  let v9 : BitVec 32 := Scalar.subi c0_i32 c4_i32
  let v10 : BitVec 32 := Scalar.maxsi c0_i32_4 v9
  let v11 : BitVec 32 := Scalar.minsi c24_i32 v10
  let v28 : BitVec 32 := Scalar.subi c0_i32 v11
  let v29 : Index := Scalar.indexCast v28
  let c0_13 : Index := 0#32
  let c0_14 : Index := 0#32
  ![0, v29.toNat, 0, 0]
def k0_off5 (c0_i32 : BitVec 32) : Fin 3 → Nat :=
  let c0_21 : Index := 0#32
  let c64_i32_5 : BitVec 32 := 64#32
  let v14 : BitVec 32 := Scalar.muli c0_i32 c64_i32_5
  let v15 : BitVec 32 := v14
  let v56 : Index := Scalar.indexCast v15
  let c0_22 : Index := 0#32
  ![0, v56.toNat, 0]
def k0_mult3 : BitVec 32 :=
  let c24_i32_29 : BitVec 32 := 24#32
  let c0_i32_28 : BitVec 32 := 0#32
  let c1_i32 : BitVec 32 := 1#32
  let c4_i32_27 : BitVec 32 := 4#32
  let v73 : BitVec 32 := Scalar.subi c1_i32 c4_i32_27
  let v74 : BitVec 32 := Scalar.maxsi c0_i32_28 v73
  let v75 : BitVec 32 := Scalar.minsi c24_i32_29 v74
  let c64_i32_30 : BitVec 32 := 64#32
  let v76 : BitVec 32 := Scalar.muli v75 c64_i32_30
  v76
def k0_mult4 : BitVec 32 :=
  let c1_i32 : BitVec 32 := 1#32
  let c64_i32_31 : BitVec 32 := 64#32
  let v78 : BitVec 32 := Scalar.muli c1_i32 c64_i32_31
  v78
def k0_mult5 : BitVec 32 :=
  let c24_i32_55 : BitVec 32 := 24#32
  let c0_i32_54 : BitVec 32 := 0#32
  let c2_i32 : BitVec 32 := 2#32
  let c4_i32_53 : BitVec 32 := 4#32
  let v137 : BitVec 32 := Scalar.subi c2_i32 c4_i32_53
  let v138 : BitVec 32 := Scalar.maxsi c0_i32_54 v137
  let v139 : BitVec 32 := Scalar.minsi c24_i32_55 v138
  let c64_i32_56 : BitVec 32 := 64#32
  let v140 : BitVec 32 := Scalar.muli v139 c64_i32_56
  v140
def k0_mult6 : BitVec 32 :=
  let c2_i32 : BitVec 32 := 2#32
  let c64_i32_57 : BitVec 32 := 64#32
  let v142 : BitVec 32 := Scalar.muli c2_i32 c64_i32_57
  v142
def k0_mult7 : BitVec 32 :=
  let c24_i32_81 : BitVec 32 := 24#32
  let c0_i32_80 : BitVec 32 := 0#32
  let c3_i32 : BitVec 32 := 3#32
  let c4_i32_79 : BitVec 32 := 4#32
  let v201 : BitVec 32 := Scalar.subi c3_i32 c4_i32_79
  let v202 : BitVec 32 := Scalar.maxsi c0_i32_80 v201
  let v203 : BitVec 32 := Scalar.minsi c24_i32_81 v202
  let c64_i32_82 : BitVec 32 := 64#32
  let v204 : BitVec 32 := Scalar.muli v203 c64_i32_82
  v204
def k0_mult8 : BitVec 32 :=
  let c3_i32 : BitVec 32 := 3#32
  let c64_i32_83 : BitVec 32 := 64#32
  let v206 : BitVec 32 := Scalar.muli c3_i32 c64_i32_83
  v206
def k0_mult9 : BitVec 32 :=
  let c24_i32_108 : BitVec 32 := 24#32
  let c0_i32_107 : BitVec 32 := 0#32
  let c4_i32_105 : BitVec 32 := 4#32
  let c4_i32_106 : BitVec 32 := 4#32
  let v265 : BitVec 32 := Scalar.subi c4_i32_105 c4_i32_106
  let v266 : BitVec 32 := Scalar.maxsi c0_i32_107 v265
  let v267 : BitVec 32 := Scalar.minsi c24_i32_108 v266
  let c64_i32_109 : BitVec 32 := 64#32
  let v268 : BitVec 32 := Scalar.muli v267 c64_i32_109
  v268
def k0_mult10 : BitVec 32 :=
  let c4_i32_105 : BitVec 32 := 4#32
  let c64_i32_110 : BitVec 32 := 64#32
  let v270 : BitVec 32 := Scalar.muli c4_i32_105 c64_i32_110
  v270
def k0_mult11 : BitVec 32 :=
  let c24_i32_134 : BitVec 32 := 24#32
  let c0_i32_133 : BitVec 32 := 0#32
  let c5_i32 : BitVec 32 := 5#32
  let c4_i32_132 : BitVec 32 := 4#32
  let v329 : BitVec 32 := Scalar.subi c5_i32 c4_i32_132
  let v330 : BitVec 32 := Scalar.maxsi c0_i32_133 v329
  let v331 : BitVec 32 := Scalar.minsi c24_i32_134 v330
  let c64_i32_135 : BitVec 32 := 64#32
  let v332 : BitVec 32 := Scalar.muli v331 c64_i32_135
  v332
def k0_mult12 : BitVec 32 :=
  let c5_i32 : BitVec 32 := 5#32
  let c64_i32_136 : BitVec 32 := 64#32
  let v334 : BitVec 32 := Scalar.muli c5_i32 c64_i32_136
  v334
def k0_mult13 : BitVec 32 :=
  let c24_i32_160 : BitVec 32 := 24#32
  let c0_i32_159 : BitVec 32 := 0#32
  let c6_i32 : BitVec 32 := 6#32
  let c4_i32_158 : BitVec 32 := 4#32
  let v393 : BitVec 32 := Scalar.subi c6_i32 c4_i32_158
  let v394 : BitVec 32 := Scalar.maxsi c0_i32_159 v393
  let v395 : BitVec 32 := Scalar.minsi c24_i32_160 v394
  let c64_i32_161 : BitVec 32 := 64#32
  let v396 : BitVec 32 := Scalar.muli v395 c64_i32_161
  v396
def k0_mult14 : BitVec 32 :=
  let c6_i32 : BitVec 32 := 6#32
  let c64_i32_162 : BitVec 32 := 64#32
  let v398 : BitVec 32 := Scalar.muli c6_i32 c64_i32_162
  v398
def k0_mult15 : BitVec 32 :=
  let c24_i32_186 : BitVec 32 := 24#32
  let c0_i32_185 : BitVec 32 := 0#32
  let c7_i32 : BitVec 32 := 7#32
  let c4_i32_184 : BitVec 32 := 4#32
  let v457 : BitVec 32 := Scalar.subi c7_i32 c4_i32_184
  let v458 : BitVec 32 := Scalar.maxsi c0_i32_185 v457
  let v459 : BitVec 32 := Scalar.minsi c24_i32_186 v458
  let c64_i32_187 : BitVec 32 := 64#32
  let v460 : BitVec 32 := Scalar.muli v459 c64_i32_187
  v460
def k0_mult16 : BitVec 32 :=
  let c7_i32 : BitVec 32 := 7#32
  let c64_i32_188 : BitVec 32 := 64#32
  let v462 : BitVec 32 := Scalar.muli c7_i32 c64_i32_188
  v462
def k0_mult17 : BitVec 32 :=
  let c24_i32_212 : BitVec 32 := 24#32
  let c0_i32_211 : BitVec 32 := 0#32
  let c8_i32 : BitVec 32 := 8#32
  let c4_i32_210 : BitVec 32 := 4#32
  let v521 : BitVec 32 := Scalar.subi c8_i32 c4_i32_210
  let v522 : BitVec 32 := Scalar.maxsi c0_i32_211 v521
  let v523 : BitVec 32 := Scalar.minsi c24_i32_212 v522
  let c64_i32_213 : BitVec 32 := 64#32
  let v524 : BitVec 32 := Scalar.muli v523 c64_i32_213
  v524
def k0_mult18 : BitVec 32 :=
  let c8_i32 : BitVec 32 := 8#32
  let c64_i32_214 : BitVec 32 := 64#32
  let v526 : BitVec 32 := Scalar.muli c8_i32 c64_i32_214
  v526
def k0_mult19 : BitVec 32 :=
  let c24_i32_238 : BitVec 32 := 24#32
  let c0_i32_237 : BitVec 32 := 0#32
  let c9_i32 : BitVec 32 := 9#32
  let c4_i32_236 : BitVec 32 := 4#32
  let v585 : BitVec 32 := Scalar.subi c9_i32 c4_i32_236
  let v586 : BitVec 32 := Scalar.maxsi c0_i32_237 v585
  let v587 : BitVec 32 := Scalar.minsi c24_i32_238 v586
  let c64_i32_239 : BitVec 32 := 64#32
  let v588 : BitVec 32 := Scalar.muli v587 c64_i32_239
  v588
def k0_mult20 : BitVec 32 :=
  let c9_i32 : BitVec 32 := 9#32
  let c64_i32_240 : BitVec 32 := 64#32
  let v590 : BitVec 32 := Scalar.muli c9_i32 c64_i32_240
  v590
def k0_mult21 : BitVec 32 :=
  let c24_i32_264 : BitVec 32 := 24#32
  let c0_i32_263 : BitVec 32 := 0#32
  let c10_i32 : BitVec 32 := 10#32
  let c4_i32_262 : BitVec 32 := 4#32
  let v649 : BitVec 32 := Scalar.subi c10_i32 c4_i32_262
  let v650 : BitVec 32 := Scalar.maxsi c0_i32_263 v649
  let v651 : BitVec 32 := Scalar.minsi c24_i32_264 v650
  let c64_i32_265 : BitVec 32 := 64#32
  let v652 : BitVec 32 := Scalar.muli v651 c64_i32_265
  v652
def k0_mult22 : BitVec 32 :=
  let c10_i32 : BitVec 32 := 10#32
  let c64_i32_266 : BitVec 32 := 64#32
  let v654 : BitVec 32 := Scalar.muli c10_i32 c64_i32_266
  v654
def k0_mult23 : BitVec 32 :=
  let c24_i32_290 : BitVec 32 := 24#32
  let c0_i32_289 : BitVec 32 := 0#32
  let c11_i32 : BitVec 32 := 11#32
  let c4_i32_288 : BitVec 32 := 4#32
  let v713 : BitVec 32 := Scalar.subi c11_i32 c4_i32_288
  let v714 : BitVec 32 := Scalar.maxsi c0_i32_289 v713
  let v715 : BitVec 32 := Scalar.minsi c24_i32_290 v714
  let c64_i32_291 : BitVec 32 := 64#32
  let v716 : BitVec 32 := Scalar.muli v715 c64_i32_291
  v716
def k0_mult24 : BitVec 32 :=
  let c11_i32 : BitVec 32 := 11#32
  let c64_i32_292 : BitVec 32 := 64#32
  let v718 : BitVec 32 := Scalar.muli c11_i32 c64_i32_292
  v718
def k0_mult25 : BitVec 32 :=
  let c24_i32_316 : BitVec 32 := 24#32
  let c0_i32_315 : BitVec 32 := 0#32
  let c12_i32 : BitVec 32 := 12#32
  let c4_i32_314 : BitVec 32 := 4#32
  let v777 : BitVec 32 := Scalar.subi c12_i32 c4_i32_314
  let v778 : BitVec 32 := Scalar.maxsi c0_i32_315 v777
  let v779 : BitVec 32 := Scalar.minsi c24_i32_316 v778
  let c64_i32_317 : BitVec 32 := 64#32
  let v780 : BitVec 32 := Scalar.muli v779 c64_i32_317
  v780
def k0_mult26 : BitVec 32 :=
  let c12_i32 : BitVec 32 := 12#32
  let c64_i32_318 : BitVec 32 := 64#32
  let v782 : BitVec 32 := Scalar.muli c12_i32 c64_i32_318
  v782
def k0_mult27 : BitVec 32 :=
  let c24_i32_342 : BitVec 32 := 24#32
  let c0_i32_341 : BitVec 32 := 0#32
  let c13_i32 : BitVec 32 := 13#32
  let c4_i32_340 : BitVec 32 := 4#32
  let v841 : BitVec 32 := Scalar.subi c13_i32 c4_i32_340
  let v842 : BitVec 32 := Scalar.maxsi c0_i32_341 v841
  let v843 : BitVec 32 := Scalar.minsi c24_i32_342 v842
  let c64_i32_343 : BitVec 32 := 64#32
  let v844 : BitVec 32 := Scalar.muli v843 c64_i32_343
  v844
def k0_mult28 : BitVec 32 :=
  let c13_i32 : BitVec 32 := 13#32
  let c64_i32_344 : BitVec 32 := 64#32
  let v846 : BitVec 32 := Scalar.muli c13_i32 c64_i32_344
  v846
def k0_mult29 : BitVec 32 :=
  let c24_i32_368 : BitVec 32 := 24#32
  let c0_i32_367 : BitVec 32 := 0#32
  let c14_i32 : BitVec 32 := 14#32
  let c4_i32_366 : BitVec 32 := 4#32
  let v905 : BitVec 32 := Scalar.subi c14_i32 c4_i32_366
  let v906 : BitVec 32 := Scalar.maxsi c0_i32_367 v905
  let v907 : BitVec 32 := Scalar.minsi c24_i32_368 v906
  let c64_i32_369 : BitVec 32 := 64#32
  let v908 : BitVec 32 := Scalar.muli v907 c64_i32_369
  v908
def k0_mult30 : BitVec 32 :=
  let c14_i32 : BitVec 32 := 14#32
  let c64_i32_370 : BitVec 32 := 64#32
  let v910 : BitVec 32 := Scalar.muli c14_i32 c64_i32_370
  v910
def k0_mult31 : BitVec 32 :=
  let c24_i32_394 : BitVec 32 := 24#32
  let c0_i32_393 : BitVec 32 := 0#32
  let c15_i32 : BitVec 32 := 15#32
  let c4_i32_392 : BitVec 32 := 4#32
  let v969 : BitVec 32 := Scalar.subi c15_i32 c4_i32_392
  let v970 : BitVec 32 := Scalar.maxsi c0_i32_393 v969
  let v971 : BitVec 32 := Scalar.minsi c24_i32_394 v970
  let c64_i32_395 : BitVec 32 := 64#32
  let v972 : BitVec 32 := Scalar.muli v971 c64_i32_395
  v972
def k0_mult32 : BitVec 32 :=
  let c15_i32 : BitVec 32 := 15#32
  let c64_i32_396 : BitVec 32 := 64#32
  let v974 : BitVec 32 := Scalar.muli c15_i32 c64_i32_396
  v974
def k0_mult33 : BitVec 32 :=
  let c24_i32_420 : BitVec 32 := 24#32
  let c0_i32_419 : BitVec 32 := 0#32
  let c16_i32 : BitVec 32 := 16#32
  let c4_i32_418 : BitVec 32 := 4#32
  let v1033 : BitVec 32 := Scalar.subi c16_i32 c4_i32_418
  let v1034 : BitVec 32 := Scalar.maxsi c0_i32_419 v1033
  let v1035 : BitVec 32 := Scalar.minsi c24_i32_420 v1034
  let c64_i32_421 : BitVec 32 := 64#32
  let v1036 : BitVec 32 := Scalar.muli v1035 c64_i32_421
  v1036
def k0_mult34 : BitVec 32 :=
  let c16_i32 : BitVec 32 := 16#32
  let c64_i32_422 : BitVec 32 := 64#32
  let v1038 : BitVec 32 := Scalar.muli c16_i32 c64_i32_422
  v1038
def k0_mult35 : BitVec 32 :=
  let c24_i32_446 : BitVec 32 := 24#32
  let c0_i32_445 : BitVec 32 := 0#32
  let c17_i32 : BitVec 32 := 17#32
  let c4_i32_444 : BitVec 32 := 4#32
  let v1097 : BitVec 32 := Scalar.subi c17_i32 c4_i32_444
  let v1098 : BitVec 32 := Scalar.maxsi c0_i32_445 v1097
  let v1099 : BitVec 32 := Scalar.minsi c24_i32_446 v1098
  let c64_i32_447 : BitVec 32 := 64#32
  let v1100 : BitVec 32 := Scalar.muli v1099 c64_i32_447
  v1100
def k0_mult36 : BitVec 32 :=
  let c17_i32 : BitVec 32 := 17#32
  let c64_i32_448 : BitVec 32 := 64#32
  let v1102 : BitVec 32 := Scalar.muli c17_i32 c64_i32_448
  v1102
def k0_mult37 : BitVec 32 :=
  let c24_i32_472 : BitVec 32 := 24#32
  let c0_i32_471 : BitVec 32 := 0#32
  let c18_i32 : BitVec 32 := 18#32
  let c4_i32_470 : BitVec 32 := 4#32
  let v1161 : BitVec 32 := Scalar.subi c18_i32 c4_i32_470
  let v1162 : BitVec 32 := Scalar.maxsi c0_i32_471 v1161
  let v1163 : BitVec 32 := Scalar.minsi c24_i32_472 v1162
  let c64_i32_473 : BitVec 32 := 64#32
  let v1164 : BitVec 32 := Scalar.muli v1163 c64_i32_473
  v1164
def k0_mult38 : BitVec 32 :=
  let c18_i32 : BitVec 32 := 18#32
  let c64_i32_474 : BitVec 32 := 64#32
  let v1166 : BitVec 32 := Scalar.muli c18_i32 c64_i32_474
  v1166
def k0_mult39 : BitVec 32 :=
  let c24_i32_498 : BitVec 32 := 24#32
  let c0_i32_497 : BitVec 32 := 0#32
  let c19_i32 : BitVec 32 := 19#32
  let c4_i32_496 : BitVec 32 := 4#32
  let v1225 : BitVec 32 := Scalar.subi c19_i32 c4_i32_496
  let v1226 : BitVec 32 := Scalar.maxsi c0_i32_497 v1225
  let v1227 : BitVec 32 := Scalar.minsi c24_i32_498 v1226
  let c64_i32_499 : BitVec 32 := 64#32
  let v1228 : BitVec 32 := Scalar.muli v1227 c64_i32_499
  v1228
def k0_mult40 : BitVec 32 :=
  let c19_i32 : BitVec 32 := 19#32
  let c64_i32_500 : BitVec 32 := 64#32
  let v1230 : BitVec 32 := Scalar.muli c19_i32 c64_i32_500
  v1230
def k0_mult41 : BitVec 32 :=
  let c24_i32_524 : BitVec 32 := 24#32
  let c0_i32_523 : BitVec 32 := 0#32
  let c20_i32 : BitVec 32 := 20#32
  let c4_i32_522 : BitVec 32 := 4#32
  let v1289 : BitVec 32 := Scalar.subi c20_i32 c4_i32_522
  let v1290 : BitVec 32 := Scalar.maxsi c0_i32_523 v1289
  let v1291 : BitVec 32 := Scalar.minsi c24_i32_524 v1290
  let c64_i32_525 : BitVec 32 := 64#32
  let v1292 : BitVec 32 := Scalar.muli v1291 c64_i32_525
  v1292
def k0_mult42 : BitVec 32 :=
  let c20_i32 : BitVec 32 := 20#32
  let c64_i32_526 : BitVec 32 := 64#32
  let v1294 : BitVec 32 := Scalar.muli c20_i32 c64_i32_526
  v1294
def k0_mult43 : BitVec 32 :=
  let c24_i32_550 : BitVec 32 := 24#32
  let c0_i32_549 : BitVec 32 := 0#32
  let c21_i32 : BitVec 32 := 21#32
  let c4_i32_548 : BitVec 32 := 4#32
  let v1353 : BitVec 32 := Scalar.subi c21_i32 c4_i32_548
  let v1354 : BitVec 32 := Scalar.maxsi c0_i32_549 v1353
  let v1355 : BitVec 32 := Scalar.minsi c24_i32_550 v1354
  let c64_i32_551 : BitVec 32 := 64#32
  let v1356 : BitVec 32 := Scalar.muli v1355 c64_i32_551
  v1356
def k0_mult44 : BitVec 32 :=
  let c21_i32 : BitVec 32 := 21#32
  let c64_i32_552 : BitVec 32 := 64#32
  let v1358 : BitVec 32 := Scalar.muli c21_i32 c64_i32_552
  v1358
def k0_mult45 : BitVec 32 :=
  let c24_i32_576 : BitVec 32 := 24#32
  let c0_i32_575 : BitVec 32 := 0#32
  let c22_i32 : BitVec 32 := 22#32
  let c4_i32_574 : BitVec 32 := 4#32
  let v1417 : BitVec 32 := Scalar.subi c22_i32 c4_i32_574
  let v1418 : BitVec 32 := Scalar.maxsi c0_i32_575 v1417
  let v1419 : BitVec 32 := Scalar.minsi c24_i32_576 v1418
  let c64_i32_577 : BitVec 32 := 64#32
  let v1420 : BitVec 32 := Scalar.muli v1419 c64_i32_577
  v1420
def k0_mult46 : BitVec 32 :=
  let c22_i32 : BitVec 32 := 22#32
  let c64_i32_578 : BitVec 32 := 64#32
  let v1422 : BitVec 32 := Scalar.muli c22_i32 c64_i32_578
  v1422
def k0_mult47 : BitVec 32 :=
  let c24_i32_602 : BitVec 32 := 24#32
  let c0_i32_601 : BitVec 32 := 0#32
  let c23_i32 : BitVec 32 := 23#32
  let c4_i32_600 : BitVec 32 := 4#32
  let v1481 : BitVec 32 := Scalar.subi c23_i32 c4_i32_600
  let v1482 : BitVec 32 := Scalar.maxsi c0_i32_601 v1481
  let v1483 : BitVec 32 := Scalar.minsi c24_i32_602 v1482
  let c64_i32_603 : BitVec 32 := 64#32
  let v1484 : BitVec 32 := Scalar.muli v1483 c64_i32_603
  v1484
def k0_mult48 : BitVec 32 :=
  let c23_i32 : BitVec 32 := 23#32
  let c64_i32_604 : BitVec 32 := 64#32
  let v1486 : BitVec 32 := Scalar.muli c23_i32 c64_i32_604
  v1486
def k0_mult49 : BitVec 32 :=
  let c24_i32_629 : BitVec 32 := 24#32
  let c0_i32_628 : BitVec 32 := 0#32
  let c24_i32_626 : BitVec 32 := 24#32
  let c4_i32_627 : BitVec 32 := 4#32
  let v1545 : BitVec 32 := Scalar.subi c24_i32_626 c4_i32_627
  let v1546 : BitVec 32 := Scalar.maxsi c0_i32_628 v1545
  let v1547 : BitVec 32 := Scalar.minsi c24_i32_629 v1546
  let c64_i32_630 : BitVec 32 := 64#32
  let v1548 : BitVec 32 := Scalar.muli v1547 c64_i32_630
  v1548
def k0_mult50 : BitVec 32 :=
  let c24_i32_626 : BitVec 32 := 24#32
  let c64_i32_631 : BitVec 32 := 64#32
  let v1550 : BitVec 32 := Scalar.muli c24_i32_626 c64_i32_631
  v1550
def k0_mult51 : BitVec 32 :=
  let c24_i32_655 : BitVec 32 := 24#32
  let c0_i32_654 : BitVec 32 := 0#32
  let c25_i32 : BitVec 32 := 25#32
  let c4_i32_653 : BitVec 32 := 4#32
  let v1609 : BitVec 32 := Scalar.subi c25_i32 c4_i32_653
  let v1610 : BitVec 32 := Scalar.maxsi c0_i32_654 v1609
  let v1611 : BitVec 32 := Scalar.minsi c24_i32_655 v1610
  let c64_i32_656 : BitVec 32 := 64#32
  let v1612 : BitVec 32 := Scalar.muli v1611 c64_i32_656
  v1612
def k0_mult52 : BitVec 32 :=
  let c25_i32 : BitVec 32 := 25#32
  let c64_i32_657 : BitVec 32 := 64#32
  let v1614 : BitVec 32 := Scalar.muli c25_i32 c64_i32_657
  v1614
def k0_mult53 : BitVec 32 :=
  let c24_i32_681 : BitVec 32 := 24#32
  let c0_i32_680 : BitVec 32 := 0#32
  let c26_i32 : BitVec 32 := 26#32
  let c4_i32_679 : BitVec 32 := 4#32
  let v1673 : BitVec 32 := Scalar.subi c26_i32 c4_i32_679
  let v1674 : BitVec 32 := Scalar.maxsi c0_i32_680 v1673
  let v1675 : BitVec 32 := Scalar.minsi c24_i32_681 v1674
  let c64_i32_682 : BitVec 32 := 64#32
  let v1676 : BitVec 32 := Scalar.muli v1675 c64_i32_682
  v1676
def k0_mult54 : BitVec 32 :=
  let c26_i32 : BitVec 32 := 26#32
  let c64_i32_683 : BitVec 32 := 64#32
  let v1678 : BitVec 32 := Scalar.muli c26_i32 c64_i32_683
  v1678
def k0_mult55 : BitVec 32 :=
  let c24_i32_707 : BitVec 32 := 24#32
  let c0_i32_706 : BitVec 32 := 0#32
  let c27_i32 : BitVec 32 := 27#32
  let c4_i32_705 : BitVec 32 := 4#32
  let v1737 : BitVec 32 := Scalar.subi c27_i32 c4_i32_705
  let v1738 : BitVec 32 := Scalar.maxsi c0_i32_706 v1737
  let v1739 : BitVec 32 := Scalar.minsi c24_i32_707 v1738
  let c64_i32_708 : BitVec 32 := 64#32
  let v1740 : BitVec 32 := Scalar.muli v1739 c64_i32_708
  v1740
def k0_mult56 : BitVec 32 :=
  let c27_i32 : BitVec 32 := 27#32
  let c64_i32_709 : BitVec 32 := 64#32
  let v1742 : BitVec 32 := Scalar.muli c27_i32 c64_i32_709
  v1742
def k0_mult57 : BitVec 32 :=
  let c24_i32_733 : BitVec 32 := 24#32
  let c0_i32_732 : BitVec 32 := 0#32
  let c28_i32 : BitVec 32 := 28#32
  let c4_i32_731 : BitVec 32 := 4#32
  let v1801 : BitVec 32 := Scalar.subi c28_i32 c4_i32_731
  let v1802 : BitVec 32 := Scalar.maxsi c0_i32_732 v1801
  let v1803 : BitVec 32 := Scalar.minsi c24_i32_733 v1802
  let c64_i32_734 : BitVec 32 := 64#32
  let v1804 : BitVec 32 := Scalar.muli v1803 c64_i32_734
  v1804
def k0_mult58 : BitVec 32 :=
  let c28_i32 : BitVec 32 := 28#32
  let c64_i32_735 : BitVec 32 := 64#32
  let v1806 : BitVec 32 := Scalar.muli c28_i32 c64_i32_735
  v1806
def k0_mult59 : BitVec 32 :=
  let c24_i32_759 : BitVec 32 := 24#32
  let c0_i32_758 : BitVec 32 := 0#32
  let c29_i32 : BitVec 32 := 29#32
  let c4_i32_757 : BitVec 32 := 4#32
  let v1865 : BitVec 32 := Scalar.subi c29_i32 c4_i32_757
  let v1866 : BitVec 32 := Scalar.maxsi c0_i32_758 v1865
  let v1867 : BitVec 32 := Scalar.minsi c24_i32_759 v1866
  let c64_i32_760 : BitVec 32 := 64#32
  let v1868 : BitVec 32 := Scalar.muli v1867 c64_i32_760
  v1868
def k0_mult60 : BitVec 32 :=
  let c29_i32 : BitVec 32 := 29#32
  let c64_i32_761 : BitVec 32 := 64#32
  let v1870 : BitVec 32 := Scalar.muli c29_i32 c64_i32_761
  v1870
def k0_mult61 : BitVec 32 :=
  let c24_i32_785 : BitVec 32 := 24#32
  let c0_i32_784 : BitVec 32 := 0#32
  let c30_i32 : BitVec 32 := 30#32
  let c4_i32_783 : BitVec 32 := 4#32
  let v1929 : BitVec 32 := Scalar.subi c30_i32 c4_i32_783
  let v1930 : BitVec 32 := Scalar.maxsi c0_i32_784 v1929
  let v1931 : BitVec 32 := Scalar.minsi c24_i32_785 v1930
  let c64_i32_786 : BitVec 32 := 64#32
  let v1932 : BitVec 32 := Scalar.muli v1931 c64_i32_786
  v1932
def k0_mult62 : BitVec 32 :=
  let c30_i32 : BitVec 32 := 30#32
  let c64_i32_787 : BitVec 32 := 64#32
  let v1934 : BitVec 32 := Scalar.muli c30_i32 c64_i32_787
  v1934
def k0_mult63 : BitVec 32 :=
  let c24_i32_811 : BitVec 32 := 24#32
  let c0_i32_810 : BitVec 32 := 0#32
  let c31_i32 : BitVec 32 := 31#32
  let c4_i32_809 : BitVec 32 := 4#32
  let v1993 : BitVec 32 := Scalar.subi c31_i32 c4_i32_809
  let v1994 : BitVec 32 := Scalar.maxsi c0_i32_810 v1993
  let v1995 : BitVec 32 := Scalar.minsi c24_i32_811 v1994
  let c64_i32_812 : BitVec 32 := 64#32
  let v1996 : BitVec 32 := Scalar.muli v1995 c64_i32_812
  v1996
def k0_mult64 : BitVec 32 :=
  let c31_i32 : BitVec 32 := 31#32
  let c64_i32_813 : BitVec 32 := 64#32
  let v1998 : BitVec 32 := Scalar.muli c31_i32 c64_i32_813
  v1998
def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![arg1.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg0
  let c0_i32 : BitVec 32 := 0#32
  let c0_i32_0 : BitVec 32 := 0#32
  ![arg1.toNat, c0_i32.toNat, v0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== NeighbourIdeal.lean ====
variable {F : FTy → Type} [FloatOps F] [Named F]
def κ : String → Option EReal := fun
  | "log2_e" => some (((Real.log 2)⁻¹ : ℝ) : EReal)
  | "qk_scale" => some ((((Real.sqrt 64) * (Real.log 2))⁻¹ : ℝ) : EReal)
  | _ => none
-- ==== NeighbourRefIdeal.lean ====
abbrev S32x2048x8192 : Shape := ⟨3, ![32, 2048, 8192]⟩
abbrev S4x8x128x512 : Shape := ⟨4, ![4, 8, 128, 512]⟩
abbrev S32x2048x1536 : Shape := ⟨3, ![32, 2048, 1536]⟩
abbrev S32x32x64x4x3x2x64 : Shape := ⟨7, ![32, 32, 64, 4, 3, 2, 64]⟩
abbrev S32x32x64x4x1x2x64 : Shape := ⟨7, ![32, 32, 64, 4, 1, 2, 64]⟩
abbrev S32x32x64x4x2x64 : Shape := ⟨6, ![32, 32, 64, 4, 2, 64]⟩
abbrev S32x2048x512 : Shape := ⟨3, ![32, 2048, 512]⟩
abbrev S32 : Shape := ⟨1, ![32]⟩
abbrev S_ : Shape := ⟨0, ![]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S32x8x1 : Shape := ⟨3, ![32, 8, 1]⟩
abbrev S32x32x8x64x4x2x64 : Shape := ⟨7, ![32, 32, 8, 64, 4, 2, 64]⟩
abbrev S32x32x512x4x2x64 : Shape := ⟨6, ![32, 32, 512, 4, 2, 64]⟩
abbrev S4x8x2x64x512 : Shape := ⟨5, ![4, 8, 2, 64, 512]⟩
abbrev S4x32x2x64x512 : Shape := ⟨5, ![4, 32, 2, 64, 512]⟩
abbrev S32x4x2x64x512 : Shape := ⟨5, ![32, 4, 2, 64, 512]⟩
abbrev S32x32x4x2x64x512 : Shape := ⟨6, ![32, 32, 4, 2, 64, 512]⟩
abbrev S1x32x4x2x64x512 : Shape := ⟨6, ![1, 32, 4, 2, 64, 512]⟩
abbrev S32x32x4x2x64 : Shape := ⟨5, ![32, 32, 4, 2, 64]⟩
abbrev S32x32x4x2x64x1 : Shape := ⟨6, ![32, 32, 4, 2, 64, 1]⟩
abbrev S32x32x4x2x64x64 : Shape := ⟨6, ![32, 32, 4, 2, 64, 64]⟩

abbrev nBuf : Space → Nat
  | .hbm => 98
  | .vmem => 0
  | .smem => 0
  | _ => 0

abbrev bufTy : (tb : Table) → Fin (tcTables nBuf tb) → BufTy
  | .hbm, ⟨0, _⟩ => ⟨S32x2048x8192, .bf16⟩
  | .hbm, ⟨1, _⟩ => ⟨S4x8x128x512, .f32⟩
  | .hbm, ⟨2, _⟩ => ⟨S32x2048x1536, .bf16⟩
  | .hbm, ⟨3, _⟩ => ⟨S32x2048x1536, .f32⟩
  | .hbm, ⟨4, _⟩ => ⟨S32x32x64x4x3x2x64, .f32⟩
  | .hbm, ⟨5, _⟩ => ⟨S32x32x64x4x1x2x64, .f32⟩
  | .hbm, ⟨6, _⟩ => ⟨S32x32x64x4x2x64, .f32⟩
  | .hbm, ⟨7, _⟩ => ⟨S32x32x64x4x1x2x64, .f32⟩
  | .hbm, ⟨8, _⟩ => ⟨S32x32x64x4x2x64, .f32⟩
  | .hbm, ⟨9, _⟩ => ⟨S32x32x64x4x1x2x64, .f32⟩
  | .hbm, ⟨10, _⟩ => ⟨S32x32x64x4x2x64, .f32⟩
  | .hbm, ⟨11, _⟩ => ⟨S32x2048x512, .bf16⟩
  | .hbm, ⟨12, _⟩ => ⟨S32x2048x512, .f32⟩
  | .hbm, ⟨13, _⟩ => ⟨S32, .i32⟩
  | .hbm, ⟨14, _⟩ => ⟨S_, .i32⟩
  | .hbm, ⟨15, _⟩ => ⟨S32, .i32⟩
  | .hbm, ⟨16, _⟩ => ⟨S32, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S32, .i32⟩
  | .hbm, ⟨21, _⟩ => ⟨S32, .i32⟩
  | .hbm, ⟨22, _⟩ => ⟨S_, .i32⟩
  | .hbm, ⟨23, _⟩ => ⟨S32, .i32⟩
  | .hbm, ⟨24, _⟩ => ⟨S32, .i32⟩
  | .hbm, ⟨25, _⟩ => ⟨S32x1, .i32⟩
  | .hbm, ⟨26, _⟩ => ⟨S8, .i32⟩
  | .hbm, ⟨27, _⟩ => ⟨S1x8, .i32⟩
  | .hbm, ⟨28, _⟩ => ⟨S32x8, .i32⟩
  | .hbm, ⟨29, _⟩ => ⟨S32x8, .i32⟩
  | .hbm, ⟨30, _⟩ => ⟨S32x8, .i32⟩
  | .hbm, ⟨31, _⟩ => ⟨S_, .i32⟩
  | .hbm, ⟨32, _⟩ => ⟨S32x8, .i32⟩
  | .hbm, ⟨33, _⟩ => ⟨S32x8, .i1⟩
  | .hbm, ⟨34, _⟩ => ⟨S_, .i32⟩
  | .hbm, ⟨35, _⟩ => ⟨S32x8, .i32⟩
  | .hbm, ⟨36, _⟩ => ⟨S32x8, .i32⟩
  | .hbm, ⟨37, _⟩ => ⟨S32x8, .i32⟩
  | .hbm, ⟨38, _⟩ => ⟨S32x8x1, .i32⟩
  | .hbm, ⟨39, _⟩ => ⟨S32x32x8x64x4x2x64, .f32⟩
  | .hbm, ⟨40, _⟩ => ⟨S32x32x512x4x2x64, .f32⟩
  | .hbm, ⟨41, _⟩ => ⟨S_, .i32⟩
  | .hbm, ⟨42, _⟩ => ⟨S32x8, .i32⟩
  | .hbm, ⟨43, _⟩ => ⟨S32x8, .i1⟩
  | .hbm, ⟨44, _⟩ => ⟨S_, .i32⟩
  | .hbm, ⟨45, _⟩ => ⟨S32x8, .i32⟩
  | .hbm, ⟨46, _⟩ => ⟨S32x8, .i32⟩
  | .hbm, ⟨47, _⟩ => ⟨S32x8, .i32⟩
  | .hbm, ⟨48, _⟩ => ⟨S32x8x1, .i32⟩
  | .hbm, ⟨49, _⟩ => ⟨S32x32x8x64x4x2x64, .f32⟩
  | .hbm, ⟨50, _⟩ => ⟨S32x32x512x4x2x64, .f32⟩
  | .hbm, ⟨51, _⟩ => ⟨S4x8x2x64x512, .f32⟩
  | .hbm, ⟨52, _⟩ => ⟨S32, .i32⟩
  | .hbm, ⟨53, _⟩ => ⟨S_, .i32⟩
  | .hbm, ⟨54, _⟩ => ⟨S32, .i32⟩
  | .hbm, ⟨55, _⟩ => ⟨S32, .i1⟩
  | .hbm, ⟨56, _⟩ => ⟨S_, .i32⟩
  | .hbm, ⟨57, _⟩ => ⟨S32, .i32⟩
  | .hbm, ⟨58, _⟩ => ⟨S32, .i32⟩
  | .hbm, ⟨59, _⟩ => ⟨S32, .i32⟩
  | .hbm, ⟨60, _⟩ => ⟨S32x1, .i32⟩
  | .hbm, ⟨61, _⟩ => ⟨S4x32x2x64x512, .f32⟩
  | .hbm, ⟨62, _⟩ => ⟨S32x4x2x64x512, .f32⟩
  | .hbm, ⟨63, _⟩ => ⟨S32x32x4x2x64x512, .f32⟩
  | .hbm, ⟨64, _⟩ => ⟨S_, .f32⟩
  | .hbm, ⟨65, _⟩ => ⟨S32x32x4x2x64x512, .f32⟩
  | .hbm, ⟨66, _⟩ => ⟨S32x32x4x2x64x512, .f32⟩
  | .hbm, ⟨67, _⟩ => ⟨S1x32x4x2x64x512, .f32⟩
  | .hbm, ⟨68, _⟩ => ⟨S32x32x4x2x64x512, .f32⟩
  | .hbm, ⟨69, _⟩ => ⟨S32x32x4x2x64x512, .f32⟩
  | .hbm, ⟨70, _⟩ => ⟨S_, .f32⟩
  | .hbm, ⟨71, _⟩ => ⟨S32x32x4x2x64, .f32⟩
  | .hbm, ⟨72, _⟩ => ⟨S_, .f32⟩
  | .hbm, ⟨73, _⟩ => ⟨S32x32x4x2x64, .f32⟩
  | .hbm, ⟨74, _⟩ => ⟨S32x32x4x2x64, .f32⟩
  | .hbm, ⟨75, _⟩ => ⟨S32x32x4x2x64x1, .f32⟩
  | .hbm, ⟨76, _⟩ => ⟨S32x32x4x2x64x512, .f32⟩
  | .hbm, ⟨77, _⟩ => ⟨S32x32x4x2x64x512, .f32⟩
  | .hbm, ⟨78, _⟩ => ⟨S32x32x4x2x64x512, .f32⟩
  | .hbm, ⟨79, _⟩ => ⟨S_, .f32⟩
  | .hbm, ⟨80, _⟩ => ⟨S32x32x4x2x64, .f32⟩
  | .hbm, ⟨81, _⟩ => ⟨S32x32x4x2x64x1, .f32⟩
  | .hbm, ⟨82, _⟩ => ⟨S32x32x4x2x64x512, .f32⟩
  | .hbm, ⟨83, _⟩ => ⟨S32x32x4x2x64x512, .f32⟩
  | .hbm, ⟨84, _⟩ => ⟨S32x32x4x2x64x64, .f32⟩
  | .hbm, ⟨85, _⟩ => ⟨S32x32x64x4x2x64, .f32⟩
  | .hbm, ⟨86, _⟩ => ⟨S32x2048x512, .f32⟩
  | .hbm, ⟨87, _⟩ => ⟨S32x2048x512, .f32⟩
  | .hbm, ⟨88, _⟩ => ⟨S32x2048x512, .f32⟩
  | .hbm, ⟨89, _⟩ => ⟨S_, .f32⟩
  | .hbm, ⟨90, _⟩ => ⟨S32x2048x512, .f32⟩
  | .hbm, ⟨91, _⟩ => ⟨S32x2048x512, .f32⟩
  | .hbm, ⟨92, _⟩ => ⟨S_, .f32⟩
  | .hbm, ⟨93, _⟩ => ⟨S32x2048x512, .f32⟩
  | .hbm, ⟨94, _⟩ => ⟨S32x2048x512, .f32⟩
  | .hbm, ⟨95, _⟩ => ⟨S32x2048x512, .f32⟩
  | .hbm, ⟨96, _⟩ => ⟨S32x2048x512, .f32⟩
  | .hbm, ⟨97, _⟩ => ⟨S32x2048x512, .bf16⟩
  | _, _ => ⟨S32x2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c : Ref sig .tc := ⟨.hbm, 14, rfl⟩
abbrev main_v12 : Ref sig .tc := ⟨.hbm, 15, rfl⟩
abbrev main_v13 : Ref sig .tc := ⟨.hbm, 16, rfl⟩
abbrev main_c_0 : Ref sig .tc := ⟨.hbm, 17, rfl⟩
abbrev main_c_1 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_6 : Ref sig .tc := ⟨.hbm, 53, rfl⟩
abbrev main_v39 : Ref sig .tc := ⟨.hbm, 54, rfl⟩
abbrev main_v40 : Ref sig .tc := ⟨.hbm, 55, rfl⟩
abbrev main_c_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_8 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_10 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_call1_v0 : Ref sig .tc := ⟨.hbm, 87, rfl⟩
abbrev main_call1_v1 : Ref sig .tc := ⟨.hbm, 88, rfl⟩
abbrev main_call1_cst : Ref sig .tc := ⟨.hbm, 89, rfl⟩
abbrev main_call1_v2 : Ref sig .tc := ⟨.hbm, 90, rfl⟩
abbrev main_call1_v3 : Ref sig .tc := ⟨.hbm, 91, rfl⟩
abbrev main_call1_cst_0 : Ref sig .tc := ⟨.hbm, 92, rfl⟩
abbrev main_call1_v4 : Ref sig .tc := ⟨.hbm, 93, rfl⟩
abbrev main_call1_v5 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩

abbrev nD : Nat := 1
abbrev τ : Topo := Topo.v7x

variable {F : FTy → Type} [FloatOps F]
-- ==== Merge.lean ====
abbrev S32x2048x512 : Shape := ⟨3, ![32, 2048, 512]⟩
abbrev S32x2048x8192 : Shape := ⟨3, ![32, 2048, 8192]⟩
abbrev S32x2048x1024 : Shape := ⟨3, ![32, 2048, 1024]⟩
abbrev S512x1024 : Shape := ⟨2, ![512, 1024]⟩
abbrev S1024x1024 : Shape := ⟨2, ![1024, 1024]⟩
abbrev S1024 : Shape := ⟨1, ![1024]⟩
abbrev S1x1024 : Shape := ⟨2, ![1, 1024]⟩
abbrev S1x1024x512 : Shape := ⟨3, ![1, 1024, 512]⟩
abbrev S1x1024x1024 : Shape := ⟨3, ![1, 1024, 1024]⟩
abbrev S1x512x512 : Shape := ⟨3, ![1, 512, 512]⟩
abbrev S512x512 : Shape := ⟨2, ![512, 512]⟩
abbrev S1x512x1024 : Shape := ⟨3, ![1, 512, 1024]⟩
abbrev S512 : Shape := ⟨1, ![512]⟩
abbrev S512x1 : Shape := ⟨2, ![512, 1]⟩

abbrev nBuf : Space → Nat
  | .hbm => 16
  | .vmem => 21
  | .smem => 0
  | _ => 0

abbrev bufTy : (tb : Table) → Fin (tcTables nBuf tb) → BufTy
  | .hbm, ⟨0, _⟩ => ⟨S32x2048x512, .bf16⟩
  | .hbm, ⟨1, _⟩ => ⟨S32x2048x512, .bf16⟩
  | .hbm, ⟨2, _⟩ => ⟨S32x2048x512, .bf16⟩
  | .hbm, ⟨3, _⟩ => ⟨S32x2048x8192, .bf16⟩
  | .hbm, ⟨4, _⟩ => ⟨S32x2048x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S512x1024, .bf16⟩
  | .hbm, ⟨11, _⟩ => ⟨S512x1024, .bf16⟩
  | .hbm, ⟨12, _⟩ => ⟨S512x1024, .bf16⟩
  | .hbm, ⟨13, _⟩ => ⟨S1024x1024, .bf16⟩
  | .hbm, ⟨14, _⟩ => ⟨S1x1024, .f32⟩
  | .hbm, ⟨15, _⟩ => ⟨S32x2048x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x1024, .f32⟩
  | .local _ .vmem, ⟨13, _⟩ => ⟨S1x1024x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S1x1024, .f32⟩
  | .local _ .vmem, ⟨19, _⟩ => ⟨S1x1024x1024, .f32⟩
  | .local _ .vmem, ⟨20, _⟩ => ⟨S1x1024x1024, .f32⟩
  | _, _ => ⟨S32x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_4 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_5 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== MergeRefIdeal.lean ====
abbrev S32x2048x512 : Shape := ⟨3, ![32, 2048, 512]⟩
abbrev S32x2048x8192 : Shape := ⟨3, ![32, 2048, 8192]⟩
abbrev S32x2048x1024 : Shape := ⟨3, ![32, 2048, 1024]⟩
abbrev S512x1024 : Shape := ⟨2, ![512, 1024]⟩
abbrev S1024x1024 : Shape := ⟨2, ![1024, 1024]⟩
abbrev S1024 : Shape := ⟨1, ![1024]⟩
abbrev S32x2048x3072 : Shape := ⟨3, ![32, 2048, 3072]⟩
abbrev S_ : Shape := ⟨0, ![]⟩
abbrev S32x2048x3x1024 : Shape := ⟨4, ![32, 2048, 3, 1024]⟩
abbrev S32x2048x1x1024 : Shape := ⟨4, ![32, 2048, 1, 1024]⟩
abbrev S32x2048 : Shape := ⟨2, ![32, 2048]⟩
abbrev S32x2048x1 : Shape := ⟨3, ![32, 2048, 1]⟩
abbrev S1x1x1024 : Shape := ⟨3, ![1, 1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S32x2048x512, .bf16⟩
  | .hbm, ⟨1, _⟩ => ⟨S32x2048x512, .bf16⟩
  | .hbm, ⟨2, _⟩ => ⟨S32x2048x512, .bf16⟩
  | .hbm, ⟨3, _⟩ => ⟨S32x2048x8192, .bf16⟩
  | .hbm, ⟨4, _⟩ => ⟨S32x2048x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S32x2048x512, .f32⟩
  | .hbm, ⟨11, _⟩ => ⟨S32x2048x1024, .f32⟩
  | .hbm, ⟨12, _⟩ => ⟨S32x2048x512, .f32⟩
  | .hbm, ⟨13, _⟩ => ⟨S32x2048x1024, .f32⟩
  | .hbm, ⟨14, _⟩ => ⟨S32x2048x512, .f32⟩
  | .hbm, ⟨15, _⟩ => ⟨S32x2048x1024, .f32⟩
  | .hbm, ⟨16, _⟩ => ⟨S32x2048x3072, .bf16⟩
  | .hbm, ⟨17, _⟩ => ⟨S32x2048x3072, .f32⟩
  | .hbm, ⟨18, _⟩ => ⟨S32x2048x3072, .f32⟩
  | .hbm, ⟨19, _⟩ => ⟨S32x2048x3072, .f32⟩
  | .hbm, ⟨20, _⟩ => ⟨S_, .f32⟩
  | .hbm, ⟨21, _⟩ => ⟨S32x2048x3072, .f32⟩
  | .hbm, ⟨22, _⟩ => ⟨S32x2048x3072, .f32⟩
  | .hbm, ⟨23, _⟩ => ⟨S_, .f32⟩
  | .hbm, ⟨24, _⟩ => ⟨S32x2048x3072, .f32⟩
  | .hbm, ⟨25, _⟩ => ⟨S32x2048x3072, .f32⟩
  | .hbm, ⟨26, _⟩ => ⟨S32x2048x3x1024, .f32⟩
  | .hbm, ⟨27, _⟩ => ⟨S32x2048x1x1024, .f32⟩
  | .hbm, ⟨28, _⟩ => ⟨S32x2048x1024, .f32⟩
  | .hbm, ⟨29, _⟩ => ⟨S32x2048x1024, .f32⟩
  | .hbm, ⟨30, _⟩ => ⟨S32x2048x1x1024, .f32⟩
  | .hbm, ⟨31, _⟩ => ⟨S32x2048x1024, .f32⟩
  | .hbm, ⟨32, _⟩ => ⟨S32x2048x1024, .f32⟩
  | .hbm, ⟨33, _⟩ => ⟨S32x2048x1024, .f32⟩
  | .hbm, ⟨34, _⟩ => ⟨S32x2048x1x1024, .f32⟩
  | .hbm, ⟨35, _⟩ => ⟨S32x2048x1024, .f32⟩
  | .hbm, ⟨36, _⟩ => ⟨S32x2048x1024, .f32⟩
  | .hbm, ⟨37, _⟩ => ⟨S32x2048x1024, .f32⟩
  | .hbm, ⟨38, _⟩ => ⟨S32x2048x1024, .f32⟩
  | .hbm, ⟨39, _⟩ => ⟨S32x2048x1024, .f32⟩
  | .hbm, ⟨40, _⟩ => ⟨S32x2048x1024, .f32⟩
  | .hbm, ⟨41, _⟩ => ⟨S_, .f32⟩
  | .hbm, ⟨42, _⟩ => ⟨S32x2048, .f32⟩
  | .hbm, ⟨43, _⟩ => ⟨S32x2048x1, .f32⟩
  | .hbm, ⟨44, _⟩ => ⟨S_, .f32⟩
  | .hbm, ⟨45, _⟩ => ⟨S32x2048x1, .f32⟩
  | .hbm, ⟨46, _⟩ => ⟨S32x2048x1, .f32⟩
  | .hbm, ⟨47, _⟩ => ⟨S_, .f32⟩
  | .hbm, ⟨48, _⟩ => ⟨S32x2048x1, .f32⟩
  | .hbm, ⟨49, _⟩ => ⟨S32x2048x1, .f32⟩
  | .hbm, ⟨50, _⟩ => ⟨S32x2048x1, .f32⟩
  | .hbm, ⟨51, _⟩ => ⟨S32x2048x1024, .f32⟩
  | .hbm, ⟨52, _⟩ => ⟨S32x2048x1024, .f32⟩
  | .hbm, ⟨53, _⟩ => ⟨S1x1x1024, .f32⟩
  | .hbm, ⟨54, _⟩ => ⟨S32x2048x1024, .f32⟩
  | .hbm, ⟨55, _⟩ => ⟨S32x2048x1024, .f32⟩
  | _, _ => ⟨S32x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_1 : Ref sig .tc := ⟨.hbm, 41, rfl⟩
abbrev main_v29 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Proj.lean ====
abbrev S32x2048x1024 : Shape := ⟨3, ![32, 2048, 1024]⟩
abbrev S1024 : Shape := ⟨1, ![1024]⟩
abbrev S1024x8192 : Shape := ⟨2, ![1024, 8192]⟩
abbrev S4x1024x768 : Shape := ⟨3, ![4, 1024, 768]⟩
abbrev S1x1024 : Shape := ⟨2, ![1, 1024]⟩
abbrev S32x2048x8192 : Shape := ⟨3, ![32, 2048, 8192]⟩
abbrev S32x2x2048x1536 : Shape := ⟨4, ![32, 2, 2048, 1536]⟩
abbrev S1x2048x1024 : Shape := ⟨3, ![1, 2048, 1024]⟩
abbrev S1x2048x128 : Shape := ⟨3, ![1, 2048, 128]⟩
abbrev S1x128 : Shape := ⟨2, ![1, 128]⟩
abbrev S1024x1024 : Shape := ⟨2, ![1024, 1024]⟩
abbrev S1x1024x768 : Shape := ⟨3, ![1, 1024, 768]⟩
abbrev S1x1x2048x768 : Shape := ⟨4, ![1, 1, 2048, 768]⟩
abbrev S2048x1024 : Shape := ⟨2, ![2048, 1024]⟩
abbrev S8x2048x128 : Shape := ⟨3, ![8, 2048, 128]⟩
abbrev S2048x128 : Shape := ⟨2, ![2048, 128]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S256x128 : Shape := ⟨2, ![256, 128]⟩
abbrev S512x1024 : Shape := ⟨2, ![512, 1024]⟩
abbrev S1x512x1024 : Shape := ⟨3, ![1, 512, 1024]⟩
abbrev S512x128 : Shape := ⟨2, ![512, 128]⟩
abbrev S1x512x128 : Shape := ⟨3, ![1, 512, 128]⟩
abbrev S128x128 : Shape := ⟨2, ![128, 128]⟩
abbrev S1x128x128 : Shape := ⟨3, ![1, 128, 128]⟩
abbrev S1024x768 : Shape := ⟨2, ![1024, 768]⟩
abbrev S512x768 : Shape := ⟨2, ![512, 768]⟩
abbrev S1x1x512x768 : Shape := ⟨4, ![1, 1, 512, 768]⟩

abbrev nBuf : Space → Nat
  | .hbm => 8
  | .vmem => 21
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x8192, .bf16⟩
  | .hbm, ⟨3, _⟩ => ⟨S4x1024x768, .bf16⟩
  | .hbm, ⟨4, _⟩ => ⟨S1x1024, .f32⟩
  | .hbm, ⟨5, _⟩ => ⟨S1x1024, .f32⟩
  | .hbm, ⟨6, _⟩ => ⟨S32x2048x8192, .bf16⟩
  | .hbm, ⟨7, _⟩ => ⟨S32x2x2048x1536, .bf16⟩
  | .local _ .vmem, ⟨0, _⟩ => ⟨S1x2048x1024, .f32⟩
  | .local _ .vmem, ⟨1, _⟩ => ⟨S1x2048x1024, .f32⟩
  | .local _ .vmem, ⟨2, _⟩ => ⟨S1x2048x128, .f32⟩
  | .local _ .vmem, ⟨3, _⟩ => ⟨S1x2048x128, .f32⟩
  | .local _ .vmem, ⟨4, _⟩ => ⟨S1x1024, .f32⟩
  | .local _ .vmem, ⟨5, _⟩ => ⟨S1x128, .f32⟩
  | .local _ .vmem, ⟨6, _⟩ => ⟨S1x128, .f32⟩
  | .local _ .vmem, ⟨7, _⟩ => ⟨S1024x1024, .bf16⟩
  | .local _ .vmem, ⟨8, _⟩ => ⟨S1024x1024, .bf16⟩
  | .local _ .vmem, ⟨9, _⟩ => ⟨S1x1024x768, .bf16⟩
  | .local _ .vmem, ⟨10, _⟩ => ⟨S1x1024x768, .bf16⟩
  | .local _ .vmem, ⟨11, _⟩ => ⟨S1x2048x1024, .bf16⟩
  | .local _ .vmem, ⟨12, _⟩ => ⟨S1x2048x1024, .bf16⟩
  | .local _ .vmem, ⟨13, _⟩ => ⟨S1x1x2048x768, .bf16⟩
  | .local _ .vmem, ⟨14, _⟩ => ⟨S1x1x2048x768, .bf16⟩
  | .local _ .vmem, ⟨15, _⟩ => ⟨S2048x1024, .bf16⟩
  | .local _ .vmem, ⟨16, _⟩ => ⟨S8x2048x128, .bf16⟩
  | .local _ .vmem, ⟨17, _⟩ => ⟨S8x2048x128, .bf16⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![32, 12], ![false, false]⟩

def k0_cond2 (i : grid0.Coords) : BitVec 1 :=
  let arg1 : BitVec 32 := BitVec.ofNat 32 (i 1).val
  let c8_i32 : BitVec 32 := 8#32
  let v3 : BitVec 1 := Scalar.cmpi .slt arg1 c8_i32
  let v4 : BitVec 32 := Scalar.extui v3
  let c0_i32_1 : BitVec 32 := 0#32
  let v5 : BitVec 1 := Scalar.cmpi .ne v4 c0_i32_1
  v5

def k0_off1 (i : grid0.Coords) : Fin 3 → Nat :=
  let arg1 : BitVec 32 := BitVec.ofNat 32 (i 1).val
  let v39 : Index := Scalar.indexCast arg1
  let c0_25 : Index := 0#32
  let c0_26 : Index := 0#32
  ![v39.toNat, 0, 0]
def k0_off2 (i : grid0.Coords) : Fin 3 → Nat :=
  let arg1 : BitVec 32 := BitVec.ofNat 32 (i 1).val
  let v45 : Index := Scalar.indexCast arg1
  let c0_29 : Index := 0#32
  let c0_30 : Index := 0#32
  ![v45.toNat, 0, 0]
def k0_off3 (i : grid0.Coords) : Fin 3 → Nat :=
  let arg1 : BitVec 32 := BitVec.ofNat 32 (i 1).val
  let v51 : Index := Scalar.indexCast arg1
  let c128 : Index := 128#32
  let c0_32 : Index := 0#32
  ![v51.toNat, 128, 0]
def k0_off4 (i : grid0.Coords) : Fin 3 → Nat :=
  let arg1 : BitVec 32 := BitVec.ofNat 32 (i 1).val
  let v57 : Index := Scalar.indexCast arg1
  let c256 : Index := 256#32
  let c0_34 : Index := 0#32
  ![v57.toNat, 256, 0]
def k0_off5 (i : grid0.Coords) : Fin 3 → Nat :=
  let arg1 : BitVec 32 := BitVec.ofNat 32 (i 1).val
  let v63 : Index := Scalar.indexCast arg1
  let c384 : Index := 384#32
  let c0_36 : Index := 0#32
  ![v63.toNat, 384, 0]
def k0_off6 (i : grid0.Coords) : Fin 3 → Nat :=
  let arg1 : BitVec 32 := BitVec.ofNat 32 (i 1).val
  let v79 : Index := Scalar.indexCast arg1
  let c512_48 : Index := 512#32
  let c0_49 : Index := 0#32
  ![v79.toNat, 512, 0]
def k0_off7 (i : grid0.Coords) : Fin 3 → Nat :=
  let arg1 : BitVec 32 := BitVec.ofNat 32 (i 1).val
  let v85 : Index := Scalar.indexCast arg1
  let c512_52 : Index := 512#32
  let c0_53 : Index := 0#32
  ![v85.toNat, 512, 0]
def k0_off8 (i : grid0.Coords) : Fin 3 → Nat :=
  let arg1 : BitVec 32 := BitVec.ofNat 32 (i 1).val
  let v91 : Index := Scalar.indexCast arg1
  let c640 : Index := 640#32
  let c0_55 : Index := 0#32
  ![v91.toNat, 640, 0]
def k0_off9 (i : grid0.Coords) : Fin 3 → Nat :=
  let arg1 : BitVec 32 := BitVec.ofNat 32 (i 1).val
  let v97 : Index := Scalar.indexCast arg1
  let c768 : Index := 768#32
  let c0_57 : Index := 0#32
  ![v97.toNat, 768, 0]
def k0_off10 (i : grid0.Coords) : Fin 3 → Nat :=
  let arg1 : BitVec 32 := BitVec.ofNat 32 (i 1).val
  let v103 : Index := Scalar.indexCast arg1
  let c896 : Index := 896#32
  let c0_59 : Index := 0#32
  ![v103.toNat, 896, 0]
def k0_off11 (i : grid0.Coords) : Fin 3 → Nat :=
  let arg1 : BitVec 32 := BitVec.ofNat 32 (i 1).val
  let v119 : Index := Scalar.indexCast arg1
  let c1024_71 : Index := 1024#32
  let c0_72 : Index := 0#32
  ![v119.toNat, 1024, 0]
def k0_off12 (i : grid0.Coords) : Fin 3 → Nat :=
  let arg1 : BitVec 32 := BitVec.ofNat 32 (i 1).val
  let v125 : Index := Scalar.indexCast arg1
  let c1024_75 : Index := 1024#32
  let c0_76 : Index := 0#32
  ![v125.toNat, 1024, 0]
def k0_off13 (i : grid0.Coords) : Fin 3 → Nat :=
  let arg1 : BitVec 32 := BitVec.ofNat 32 (i 1).val
  let v131 : Index := Scalar.indexCast arg1
  let c1152 : Index := 1152#32
  let c0_78 : Index := 0#32
  ![v131.toNat, 1152, 0]
def k0_off14 (i : grid0.Coords) : Fin 3 → Nat :=
  let arg1 : BitVec 32 := BitVec.ofNat 32 (i 1).val
  let v137 : Index := Scalar.indexCast arg1
  let c1280 : Index := 1280#32
  let c0_80 : Index := 0#32
  ![v137.toNat, 1280, 0]
def k0_off15 (i : grid0.Coords) : Fin 3 → Nat :=
  let arg1 : BitVec 32 := BitVec.ofNat 32 (i 1).val
  let v143 : Index := Scalar.indexCast arg1
  let c1408 : Index := 1408#32
  let c0_82 : Index := 0#32
  ![v143.toNat, 1408, 0]
def k0_off16 (i : grid0.Coords) : Fin 3 → Nat :=
  let arg1 : BitVec 32 := BitVec.ofNat 32 (i 1).val
  let v159 : Index := Scalar.indexCast arg1
  let c1536_94 : Index := 1536#32
  let c0_95 : Index := 0#32
  ![v159.toNat, 1536, 0]
def k0_off17 (i : grid0.Coords) : Fin 3 → Nat :=
  let arg1 : BitVec 32 := BitVec.ofNat 32 (i 1).val
  let v165 : Index := Scalar.indexCast arg1
  let c1536_98 : Index := 1536#32
  let c0_99 : Index := 0#32
  ![v165.toNat, 1536, 0]
def k0_off18 (i : grid0.Coords) : Fin 3 → Nat :=
  let arg1 : BitVec 32 := BitVec.ofNat 32 (i 1).val
  let v171 : Index := Scalar.indexCast arg1
  let c1664 : Index := 1664#32
  let c0_101 : Index := 0#32
  ![v171.toNat, 1664, 0]
def k0_off19 (i : grid0.Coords) : Fin 3 → Nat :=
  let arg1 : BitVec 32 := BitVec.ofNat 32 (i 1).val
  let v177 : Index := Scalar.indexCast arg1
  let c1792 : Index := 1792#32
  let c0_103 : Index := 0#32
  ![v177.toNat, 1792, 0]
def k0_off20 (i : grid0.Coords) : Fin 3 → Nat :=
  let arg1 : BitVec 32 := BitVec.ofNat 32 (i 1).val
  let v183 : Index := Scalar.indexCast arg1
  let c1920 : Index := 1920#32
  let c0_105 : Index := 0#32
  ![v183.toNat, 1920, 0]
def k0_cond3 (i : grid0.Coords) : BitVec 1 :=
  let arg1 : BitVec 32 := BitVec.ofNat 32 (i 1).val
  let c8_i32_2 : BitVec 32 := 8#32
  let v6 : BitVec 1 := Scalar.cmpi .sge arg1 c8_i32_2
  let c10_i32 : BitVec 32 := 10#32
  let v7 : BitVec 1 := Scalar.cmpi .slt arg1 c10_i32
  let v8 : BitVec 1 := Scalar.andi v6 v7
  let v9 : BitVec 32 := Scalar.extui v8
  let c0_i32_3 : BitVec 32 := 0#32
  let v10 : BitVec 1 := Scalar.cmpi .ne v9 c0_i32_3
  v10

def k0_cond4 (i : grid0.Coords) : BitVec 1 :=
  let arg1 : BitVec 32 := BitVec.ofNat 32 (i 1).val
  let c10_i32_4 : BitVec 32 := 10#32
  let v11 : BitVec 1 := Scalar.cmpi .sge arg1 c10_i32_4
  let c12_i32 : BitVec 32 := 12#32
  let v12 : BitVec 1 := Scalar.cmpi .slt arg1 c12_i32
  let v13 : BitVec 1 := Scalar.andi v11 v12
  let v14 : BitVec 32 := Scalar.extui v13
  let c0_i32_5 : BitVec 32 := 0#32
  let v15 : BitVec 1 := Scalar.cmpi .ne v14 c0_i32_5
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![c0_i32.toNat, v0.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  let c0_i32_2 : BitVec 32 := 0#32
  ![v2.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, c0_i32.toNat, v0.toNat]

def cc0_transform_7 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c3_i32 : BitVec 32 := 3#32
  let v1 : BitVec 32 := Scalar.maxsi c0_i32 v0
  let v2 : BitVec 32 := Scalar.minsi c3_i32 v1
  let c2_i32 : BitVec 32 := 2#32
  let v3 : BitVec 32 := Scalar.divsi v2 c2_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2_i32 c0_i32_2
  let v10 : BitVec 32 := Scalar.extui v9
  let c0_i32_3 : BitVec 32 := 0#32
  let v11 : BitVec 1 := Scalar.cmpi .slt c2_i32 c0_i32_3
  let v12 : BitVec 32 := Scalar.extui v11
  let v13 : BitVec 32 := Scalar.subi v10 v12
  let v14 : BitVec 1 := Scalar.cmpi .ne v8 v13
  let v15 : BitVec 32 := Scalar.remsi v2 c2_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c8_i32_5 : BitVec 32 := 8#32
  let v20 : BitVec 32 := Scalar.subi arg1 c8_i32_5
  let c0_i32_6 : BitVec 32 := 0#32
  let c3_i32_7 : BitVec 32 := 3#32
  let v21 : BitVec 32 := Scalar.maxsi c0_i32_6 v20
  let v22 : BitVec 32 := Scalar.minsi c3_i32_7 v21
  let c2_i32_8 : BitVec 32 := 2#32
  let c0_i32_9 : BitVec 32 := 0#32
  let v23 : BitVec 1 := Scalar.cmpi .eq c2_i32_8 c0_i32_9
  let c1_i32_10 : BitVec 32 := 1#32
  let v24 : BitVec 32 := Scalar.select v23 c1_i32_10 c2_i32_8
  let v25 : BitVec 32 := Scalar.remsi v22 v24
  let c0_i32_11 : BitVec 32 := 0#32
  let v26 : BitVec 1 := Scalar.cmpi .ne v25 c0_i32_11
  let c0_i32_12 : BitVec 32 := 0#32
  let v27 : BitVec 1 := Scalar.cmpi .slt v25 c0_i32_12
  let c0_i32_13 : BitVec 32 := 0#32
  let v28 : BitVec 1 := Scalar.cmpi .slt v24 c0_i32_13
  let v29 : BitVec 1 := Scalar.xori v27 v28
  let v30 : BitVec 1 := Scalar.andi v29 v26
  let v31 : BitVec 32 := Scalar.addi v25 v24
  let v32 : BitVec 32 := Scalar.select v30 v31 v25
  let c0_i32_14 : BitVec 32 := 0#32
  let c0_i32_15 : BitVec 32 := 0#32
  ![arg0.toNat, v19.toNat, c0_i32_14.toNat, v32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x2048x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ProjRefIdeal.lean ====
abbrev S32x2048x1024 : Shape := ⟨3, ![32, 2048, 1024]⟩
abbrev S1024 : Shape := ⟨1, ![1024]⟩
abbrev S1024x8192 : Shape := ⟨2, ![1024, 8192]⟩
abbrev S4x1024x768 : Shape := ⟨3, ![4, 1024, 768]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x8192 : Shape := ⟨3, ![32, 2048, 8192]⟩
abbrev S32x512x4x1024 : Shape := ⟨4, ![32, 512, 4, 1024]⟩
abbrev S32x4x512x1024 : Shape := ⟨4, ![32, 4, 512, 1024]⟩
abbrev S32x128x4x4x1024 : Shape := ⟨5, ![32, 128, 4, 4, 1024]⟩
abbrev S32x4x4x128x1024 : Shape := ⟨5, ![32, 4, 4, 128, 1024]⟩
abbrev S2x2x1024x768 : Shape := ⟨4, ![2, 2, 1024, 768]⟩
abbrev S2x1024x2x768 : Shape := ⟨4, ![2, 1024, 2, 768]⟩
abbrev S2x1024x1536 : Shape := ⟨3, ![2, 1024, 1536]⟩
abbrev S1x1024x1536 : Shape := ⟨3, ![1, 1024, 1536]⟩
abbrev S1024x1536 : Shape := ⟨2, ![1024, 1536]⟩
abbrev S32x2048x1536 : Shape := ⟨3, ![32, 2048, 1536]⟩
abbrev S32x1x2048x1536 : Shape := ⟨4, ![32, 1, 2048, 1536]⟩
abbrev S32x2x2048x1536 : Shape := ⟨4, ![32, 2, 2048, 1536]⟩

abbrev nBuf : Space → Nat
  | .hbm => 43
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x8192, .bf16⟩
  | .hbm, ⟨3, _⟩ => ⟨S4x1024x768, .bf16⟩
  | .hbm, ⟨4, _⟩ => ⟨S32x2048x1024, .f32⟩
  | .hbm, ⟨5, _⟩ => ⟨S_, .f32⟩
  | .hbm, ⟨6, _⟩ => ⟨S32x2048, .f32⟩
  | .hbm, ⟨7, _⟩ => ⟨S32x2048x1, .f32⟩
  | .hbm, ⟨8, _⟩ => ⟨S_, .f32⟩
  | .hbm, ⟨9, _⟩ => ⟨S32x2048x1, .f32⟩
  | .hbm, ⟨10, _⟩ => ⟨S32x2048x1, .f32⟩
  | .hbm, ⟨11, _⟩ => ⟨S_, .f32⟩
  | .hbm, ⟨12, _⟩ => ⟨S32x2048x1, .f32⟩
  | .hbm, ⟨13, _⟩ => ⟨S32x2048x1, .f32⟩
  | .hbm, ⟨14, _⟩ => ⟨S32x2048x1, .f32⟩
  | .hbm, ⟨15, _⟩ => ⟨S32x2048x1024, .f32⟩
  | .hbm, ⟨16, _⟩ => ⟨S32x2048x1024, .f32⟩
  | .hbm, ⟨17, _⟩ => ⟨S1x1x1024, .f32⟩
  | .hbm, ⟨18, _⟩ => ⟨S32x2048x1024, .f32⟩
  | .hbm, ⟨19, _⟩ => ⟨S32x2048x1024, .f32⟩
  | .hbm, ⟨20, _⟩ => ⟨S1024x8192, .f32⟩
  | .hbm, ⟨21, _⟩ => ⟨S32x2048x8192, .f32⟩
  | .hbm, ⟨22, _⟩ => ⟨S32x2048x8192, .bf16⟩
  | .hbm, ⟨23, _⟩ => ⟨S32x512x4x1024, .f32⟩
  | .hbm, ⟨24, _⟩ => ⟨S32x4x512x1024, .f32⟩
  | .hbm, ⟨25, _⟩ => ⟨S32x2048x1024, .f32⟩
  | .hbm, ⟨26, _⟩ => ⟨S32x128x4x4x1024, .f32⟩
  | .hbm, ⟨27, _⟩ => ⟨S32x4x4x128x1024, .f32⟩
  | .hbm, ⟨28, _⟩ => ⟨S32x2048x1024, .f32⟩
  | .hbm, ⟨29, _⟩ => ⟨S4x1024x768, .f32⟩
  | .hbm, ⟨30, _⟩ => ⟨S2x2x1024x768, .f32⟩
  | .hbm, ⟨31, _⟩ => ⟨S2x1024x2x768, .f32⟩
  | .hbm, ⟨32, _⟩ => ⟨S2x1024x1536, .f32⟩
  | .hbm, ⟨33, _⟩ => ⟨S1x1024x1536, .f32⟩
  | .hbm, ⟨34, _⟩ => ⟨S1024x1536, .f32⟩
  | .hbm, ⟨35, _⟩ => ⟨S32x2048x1536, .f32⟩
  | .hbm, ⟨36, _⟩ => ⟨S1x1024x1536, .f32⟩
  | .hbm, ⟨37, _⟩ => ⟨S1024x1536, .f32⟩
  | .hbm, ⟨38, _⟩ => ⟨S32x2048x1536, .f32⟩
  | .hbm, ⟨39, _⟩ => ⟨S32x1x2048x1536, .f32⟩
  | .hbm, ⟨40, _⟩ => ⟨S32x1x2048x1536, .f32⟩
  | .hbm, ⟨41, _⟩ => ⟨S32x2x2048x1536, .f32⟩
  | .hbm, ⟨42, _⟩ => ⟨S32x2x2048x1536, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩

abbrev nD : Nat := 1
abbrev τ : Topo := Topo.v7x

variable {F : FTy → Type} [FloatOps F]
-- ==== MemProj.lean ====
abbrev S32x256x1024 : Shape := ⟨3, ![32, 256, 1024]⟩
abbrev S1024 : Shape := ⟨1, ![1024]⟩
abbrev S1024x1024 : Shape := ⟨2, ![1024, 1024]⟩
abbrev S8x1024x1024 : Shape := ⟨3, ![8, 1024, 1024]⟩
abbrev S1x1024 : Shape := ⟨2, ![1, 1024]⟩
abbrev S1x1024x1024 : Shape := ⟨3, ![1, 1024, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 6
  | .smem => 0
  | _ => 0

abbrev bufTy : (tb : Table) → Fin (tcTables nBuf tb) → BufTy
  | .hbm, ⟨0, _⟩ => ⟨S32x256x1024, .f32⟩
  | .hbm, ⟨1, _⟩ => ⟨S1024, .f32⟩
  | .hbm, ⟨2, _⟩ => ⟨S1024x1024, .f32⟩
  | .hbm, ⟨3, _⟩ => ⟨S1024x1024, .bf16⟩
  | .hbm, ⟨4, _⟩ => ⟨S8x1024x1024, .f32⟩
  | .hbm, ⟨5, _⟩ => ⟨S1x1024, .f32⟩
  | .hbm, ⟨6, _⟩ => ⟨S8x1024x1024, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x1024, .bf16⟩
  | .local _ .vmem, ⟨4, _⟩ => ⟨S1x1024x1024, .bf16⟩
  | .local _ .vmem, ⟨5, _⟩ => ⟨S1x1024x1024, .bf16⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MemProjRefIdeal.lean ====
abbrev S32x256x1024 : Shape := ⟨3, ![32, 256, 1024]⟩
abbrev S1024 : Shape := ⟨1, ![1024]⟩
abbrev S1024x1024 : Shape := ⟨2, ![1024, 1024]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S8x1024x1024 : Shape := ⟨3, ![8, 1024, 1024]⟩

abbrev nBuf : Space → Nat
  | .hbm => 22
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S1024, .f32⟩
  | .hbm, ⟨2, _⟩ => ⟨S1024x1024, .f32⟩
  | .hbm, ⟨3, _⟩ => ⟨S32x256x1024, .f32⟩
  | .hbm, ⟨4, _⟩ => ⟨S_, .f32⟩
  | .hbm, ⟨5, _⟩ => ⟨S32x256, .f32⟩
  | .hbm, ⟨6, _⟩ => ⟨S32x256x1, .f32⟩
  | .hbm, ⟨7, _⟩ => ⟨S_, .f32⟩
  | .hbm, ⟨8, _⟩ => ⟨S32x256x1, .f32⟩
  | .hbm, ⟨9, _⟩ => ⟨S32x256x1, .f32⟩
  | .hbm, ⟨10, _⟩ => ⟨S_, .f32⟩
  | .hbm, ⟨11, _⟩ => ⟨S32x256x1, .f32⟩
  | .hbm, ⟨12, _⟩ => ⟨S32x256x1, .f32⟩
  | .hbm, ⟨13, _⟩ => ⟨S32x256x1, .f32⟩
  | .hbm, ⟨14, _⟩ => ⟨S32x256x1024, .f32⟩
  | .hbm, ⟨15, _⟩ => ⟨S32x256x1024, .f32⟩
  | .hbm, ⟨16, _⟩ => ⟨S1x1x1024, .f32⟩
  | .hbm, ⟨17, _⟩ => ⟨S32x256x1024, .f32⟩
  | .hbm, ⟨18, _⟩ => ⟨S32x256x1024, .f32⟩
  | .hbm, ⟨19, _⟩ => ⟨S32x256x1024, .f32⟩
  | .hbm, ⟨20, _⟩ => ⟨S32x256x1024, .bf16⟩
  | .hbm, ⟨21, _⟩ => ⟨S8x1024x1024, .bf16⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.MemoryMath.lean ====
/- The mathematics of the attention rows of the memory mixer and of the neighbourhood mixer: a softmax in base two with its normalization taken after the weighted sum, against
   the softmax of the reference. -/
module

public import proofs.«01_k».proof.MemoryIdeal
public import Idealize.ShloMosaic.PureOps.Ideal.Laws
public import Idealize.ShloMosaic.PureOps.IdealRules

@[expose] public section

noncomputable section

namespace Cert.Proof.Memory

open Idealize.ShloMosaic
open scoped BigOperators

/-- A sum of real numbers, over the extended reals. -/
theorem sum_coe {ι : Type} (S : Finset ι) (f : ι → ℝ) : (∑ i ∈ S, ((f i : ℝ) : EReal)) = ((∑ i ∈ S, f i : ℝ) : EReal) := by
  classical
  induction S using Finset.induction_on with
  | empty => simp
  | insert a S ha ih => rw [Finset.sum_insert ha, Finset.sum_insert ha, ih, EReal.coe_add]

/-- A nonnegative real factor enters a sum over the extended reals. -/
theorem mul_sum {ι : Type} (S : Finset ι) (a : ℝ) (ha : 0 ≤ a) (f : ι → EReal) : (a : EReal) * ∑ i ∈ S, f i = ∑ i ∈ S, (a : EReal) * f i := by
  classical
  induction S using Finset.induction_on with
  | empty => simp
  | insert i S hi ih =>
    rw [Finset.sum_insert hi, Finset.sum_insert hi, ← ih,
      EReal.left_distrib_of_nonneg_of_ne_top (by exact_mod_cast ha) (EReal.coe_ne_top a)]

/-- The greatest of finitely many real numbers, taken from below everything, is real. -/
theorem fold_max_real {ι : Type} (S : Finset ι) (hS : S.Nonempty) (f : ι → EReal) (hf : ∀ i ∈ S, ∃ r : ℝ, f i = (r : EReal)) :
    ∃ r : ℝ, S.fold max ⊥ f = (r : EReal) := by
  classical
  induction S using Finset.induction_on with
  | empty => exact absurd hS Finset.not_nonempty_empty
  | insert i S hi ih =>
    rw [Finset.fold_insert hi]
    obtain ⟨a, ha⟩ := hf i (Finset.mem_insert_self i S)
    rw [ha]
    rcases S.eq_empty_or_nonempty with rfl | hne
    · exact ⟨a, by simp⟩
    · obtain ⟨r, hr⟩ := ih hne fun j hj => hf j (Finset.mem_insert_of_mem hj)
      exact ⟨max a r, by rw [hr]; exact (EReal.coe_strictMono.monotone.map_max).symm⟩

/-- The gate and the normalization in the two orders. -/
theorem gate_eq (Z : ℝ) (hZ : 0 < Z) (C g : EReal) :
    Ideal.div (((Z : EReal) * C) * g) ((Z : EReal) * (1 + Ideal.exp (0 - g))) = C * (g * Ideal.div 1 (1 + Ideal.exp (-g))) := by
  have hreal : ∀ w : ℝ, 0 < w → Ideal.div (((Z : EReal) * C) * g) ((Z : EReal) * (w : EReal)) = C * (g * Ideal.div 1 (w : EReal)) := by
    intro w hw
    have h : ((Z : EReal) * ((1 / (Z * w) : ℝ) : EReal)) = ((1 / w : ℝ) : EReal) := by
      rw [← EReal.coe_mul]; congr 1; field_simp
    rw [← EReal.coe_mul, Ideal.div_coe (by positivity), Ideal.div_coe (by positivity), one_mul, ← h]
    generalize ((1 / (Z * w) : ℝ) : EReal) = u
    ac_rfl
  rw [zero_sub]
  induction g using EReal.rec with
  | bot =>
    have e : (1 : EReal) + Ideal.exp (-⊥) = ⊤ := by rw [EReal.neg_bot]; exact EReal.add_top_of_ne_bot (by decide)
    rw [e, EReal.coe_mul_top_of_pos hZ]
    simp [Ideal.div]
  | top =>
    have e : (1 : EReal) + Ideal.exp (-⊤) = ((1 : ℝ) : EReal) := by rw [EReal.neg_top]; simp
    rw [e]; exact hreal 1 one_pos
  | coe r =>
    have e : (1 : EReal) + Ideal.exp (-(r : EReal)) = ((1 + Real.exp (-r) : ℝ) : EReal) := by
      rw [← EReal.coe_neg, Ideal.exp_coe]; norm_cast
    rw [e]; exact hreal _ (by positivity)

/-- The number 128, as the reference writes it. -/
theorem bits_128 : Ideal.ofBits .f32 0x43000000#32 = ((128 : ℝ) : EReal) := by
  simp [Ideal.ofBits, Ideal.ieee, -EReal.coe_mul]; norm_num

/-- The value below everything, from which both programs take their maxima. -/
theorem bits_bot : Ideal.ofBits .f32 0xFF800000#32 = ⊥ := by simp [Ideal.ofBits, Ideal.ieee]

/-- The value above everything, below which the finite values lie. -/
theorem bits_top : Ideal.ofBits .f32 0x7F800000#32 = ⊤ := by simp [Ideal.ofBits, Ideal.ieee]

/-- A value whose magnitude compares below the greatest is real. -/
theorem real_of_below (a : EReal) (h : Ideal.cmp .olt (max a (-a)) (Ideal.ofBits .f32 0x7F800000#32) = 1#1) : ∃ r : ℝ, a = (r : EReal) := by
  rw [bits_top] at h
  induction a with
  | bot => simp [Ideal.cmp] at h
  | top => simp [Ideal.cmp] at h
  | coe r => exact ⟨r, rfl⟩

/-- The number one in the narrow format. -/
theorem bits_one : Ideal.ofBits .bf16 0x3F80#16 = 1 := by
  simp [Ideal.ofBits, Ideal.ieee, -EReal.coe_mul]; norm_num

/-- The kernel's scale. -/
theorem scale : Named.named (F := Ideal) (φ := .f32) Cert.MemoryIdeal.κ "qk_scale" 0x3E0293EE#32 = (((Real.sqrt 128 * Real.log 2)⁻¹ : ℝ) : EReal) :=
  IdealRules.named_const.ideal_named_scalar _ _ _ _ rfl

/-- The scores of finite queries and keys are real, and the kernel's are those divided by the logarithm of two. -/
theorem scores (q : Fin 128 → EReal) (k : Fin 256 → Fin 128 → EReal) (hq : ∀ e, ∃ r : ℝ, q e = (r : EReal)) (hk : ∀ n e, ∃ r : ℝ, k n e = (r : EReal)) :
    ∃ x : Fin 256 → ℝ, (∀ n, Ideal.div (∑ e, q e * k n e) (Ideal.sqrt (Ideal.ofBits .f32 0x43000000#32)) = (x n : EReal))
      ∧ ∀ n, (∑ e, q e * Named.named (F := Ideal) (φ := .f32) Cert.MemoryIdeal.κ "qk_scale" 0x3E0293EE#32 * k n e) = ((x n * (Real.log 2)⁻¹ : ℝ) : EReal) := by
  choose Q hQ using hq
  choose K hK using hk
  have h128 : (0 : ℝ) < Real.sqrt 128 := Real.sqrt_pos.2 (by norm_num)
  have hl : Real.log 2 ≠ 0 := (Real.log_pos one_lt_two).ne'
  refine ⟨fun n => (∑ e, Q e * K n e) * (1 / Real.sqrt 128), fun n => ?_, fun n => ?_⟩
  · have e : Ideal.sqrt ((128 : ℝ) : EReal) = ((Real.sqrt 128 : ℝ) : EReal) := by
      show (if (128 : ℝ) < 0 then (⊥ : EReal) else _) = _
      rw [if_neg (by norm_num)]
    rw [bits_128, e, Ideal.div_coe h128.ne', EReal.coe_mul, ← sum_coe]
    congr 1
    exact Finset.sum_congr rfl fun e _ => by rw [hQ, hK, EReal.coe_mul]
  · show _ = ((((∑ e, Q e * K n e) * (1 / Real.sqrt 128)) * (Real.log 2)⁻¹ : ℝ) : EReal)
    rw [scale, Finset.sum_mul, Finset.sum_mul, ← sum_coe]
    refine Finset.sum_congr rfl fun e _ => ?_
    rw [hQ, hK, ← EReal.coe_mul, ← EReal.coe_mul]
    congr 1
    field_simp

section Row

variable {N : ℕ} [NeZero N] (x : Fin N → ℝ) (v : Fin N → EReal)

/-- The softmax of the scores `x`, weighting `v`. -/
def attended : EReal := ∑ n, ((Real.exp (x n) / ∑ n, Real.exp (x n) : ℝ) : EReal) * v n

theorem total_pos : 0 < ∑ n, Real.exp (x n) := Finset.sum_pos (fun n _ => Real.exp_pos _) ⟨0, Finset.mem_univ 0⟩

/-- Weights in base two, from scores divided by the logarithm of two, less any real number. -/
theorem base_two (m : ℝ) (n : Fin N) :
    Ideal.exp2 (((x n * (Real.log 2)⁻¹ : ℝ) : EReal) - (m : EReal)) = ((Real.exp (-(m * Real.log 2)) * Real.exp (x n) : ℝ) : EReal) := by
  have hl : Real.log 2 ≠ 0 := (Real.log_pos one_lt_two).ne'
  rw [← EReal.coe_sub, Ideal.exp2_coe, ← Real.exp_add]
  congr 1
  show (2 : ℝ) ^ (_ : ℝ) = _
  rw [Real.rpow_def_of_pos two_pos]
  congr 1
  field_simp
  ring

/-- The kernel's row: weights up to one common factor, their sum beside the weighted sum. -/
theorem kernel_row (p : Fin N → EReal) (a : ℝ) (ha : 0 < a) (hp : ∀ n, p n = ((a * Real.exp (x n) : ℝ) : EReal)) (g : EReal) :
    Ideal.div ((∑ n, p n * v n) * g) ((∑ n, p n * 1) * (1 + Ideal.exp (0 - g))) = attended x v * (g * Ideal.div 1 (1 + Ideal.exp (-g))) := by
  have hS := total_pos x
  have hZ : 0 < a * ∑ n, Real.exp (x n) := by positivity
  have e1 : (∑ n, p n * 1) = ((a * ∑ n, Real.exp (x n) : ℝ) : EReal) := by
    rw [Finset.mul_sum, ← sum_coe]
    exact Finset.sum_congr rfl fun n _ => by rw [mul_one, hp]
  have e2 : (∑ n, p n * v n) = ((a * ∑ n, Real.exp (x n) : ℝ) : EReal) * attended x v := by
    unfold attended
    rw [mul_sum _ _ hZ.le]
    refine Finset.sum_congr rfl fun n _ => ?_
    rw [hp, ← mul_assoc, ← EReal.coe_mul]
    congr 2
    field_simp
  rw [e1, e2]
  exact gate_eq _ hZ _ g

/-- The reference's row: the weights less a real number, normalized first. -/
theorem reference_row (p : Fin N → EReal) (m : ℝ) (hp : ∀ n, p n = Ideal.exp ((x n : EReal) - (m : EReal))) :
    (∑ n, v n * Ideal.div (p n) (0 + ∑ n, p n)) = attended x v := by
  have hS := total_pos x
  have hp' : ∀ n, p n = ((Real.exp (-m) * Real.exp (x n) : ℝ) : EReal) := fun n => by
    rw [hp, ← EReal.coe_sub, Ideal.exp_coe, ← Real.exp_add]; congr 2; ring
  have e1 : (0 + ∑ n, p n) = ((Real.exp (-m) * ∑ n, Real.exp (x n) : ℝ) : EReal) := by
    rw [zero_add, Finset.mul_sum, ← sum_coe]
    exact Finset.sum_congr rfl fun n _ => hp' n
  rw [e1]
  refine Finset.sum_congr rfl fun n _ => ?_
  rw [Ideal.div_coe (by positivity), hp', ← EReal.coe_mul, mul_comm]
  congr 2
  have := (Real.exp_pos (-m)).ne'
  field_simp

end Row

end Cert.Proof.Memory

end
-- ==== Proof.MemoryValue.lean ====
/- The value of the memory mixer: over the extended reals, every element the kernel writes is the reference's, where the queries
   and the keys are finite. -/
module

public import proofs.«01_k».proof.Proof.Gen.MemoryIdeal.Value
public import proofs.«01_k».proof.Proof.Gen.MemoryRefIdeal.Read
public import Idealize.ShloMosaic.Lib.Pipeline.ValueKit
public import Idealize.ShloMosaic.Lib.Pointwise
public import Idealize.ShloMosaic.PureOps.Ideal.Laws
public import proofs.«01_k».proof.Proof.MemoryMath

@[expose] public section

set_option maxRecDepth 16384

noncomputable section

namespace Cert.Proof.Memory

open Idealize.ShloMosaic Idealize.ShloMosaic.TcCoe Idealize.SL.Sem
open Idealize.ShloMosaic.Pipeline (Dat)
open Cert.MemoryIdeal Cert.MemoryIdeal.Gen
open scoped BigOperators

/-- One element of a stored tile: the row's queries and the head's keys give the real scores `x`; the extended values hold the
    head's values in their first half and ones in their second. -/
theorem pay_row (q k g : FVec Ideal S1x256x128 .bf16) (vx : FVec Ideal S1x256x256 .bf16) (r : Fin 256) (e : Fin 128)
    (v : Fin 256 → EReal) (hv : ∀ n j : Fin 256, j.val = e.val → vx (ix3 0 n j) = v n)
    (ho : ∀ n j : Fin 256, 128 ≤ j.val → vx (ix3 0 n j) = 1) (x : Fin 256 → ℝ)
    (hx : ∀ n : Fin 256, (∑ e : Fin 128, q (ix3 0 r e) * Named.named (F := Ideal) (φ := .f32) Cert.MemoryIdeal.κ "qk_scale" 0x3E0293EE#32 * k (ix3 0 n e))
      = ((x n * (Real.log 2)⁻¹ : ℝ) : EReal)) :
    k0_pay55 (F := Ideal) q k vx g (ix3 0 r e)
      = attended x v * (g (ix3 0 r e) * Ideal.div 1 (1 + Ideal.exp (-(g (ix3 0 r e))))) := by
  pointwise [k0_pay55]
  simp only [hx, bits_bot]
  obtain ⟨m, hm⟩ := fold_max_real Finset.univ ⟨(0 : Fin 256), Finset.mem_univ _⟩ (fun n => ((x n * (Real.log 2)⁻¹ : ℝ) : EReal)) fun n _ => ⟨_, rfl⟩
  rw [hm]
  refine Eq.trans ?_ (kernel_row x v _ _ (Real.exp_pos (-(m * Real.log 2))) (base_two x m) (g (ix3 0 r e)))
  congr 3
  · exact funext fun n => congrArg (Ideal.exp2 _ * ·) (hv n ⟨e.val, by omega⟩ rfl)
  · exact funext fun n => congrArg (Ideal.exp2 _ * ·) (ho n ⟨128 + e.val, by omega⟩ (Nat.le_add_right _ _))

section Reference

open Cert.MemoryRefIdeal.Read

variable (a0 : FVec Ideal Cert.MemoryRefIdeal.S32x2048x8192 .bf16) (a1 : FVec Ideal Cert.MemoryRefIdeal.S32x256x1024 .bf16)
    (b : Fin 32) (s : Fin 2048) (h : Fin 4)

/-- The reference's scores. -/
theorem ref_score (n : Fin 256) (Q K : Fin 128 → EReal) (hQ : ∀ (e : Fin 128) (j : Fin 8192), j.val = 4096 + (h.val * 128 + e.val) → a0 (ix3 b s j) = Q e)
    (hK : ∀ (e : Fin 128) (j : Fin 1024), j.val = h.val * 128 + e.val → a1 (ix3 b n j) = K e) :
    val_main_v13 (F := Ideal) a0 a1 (ix4 b h s n) = Ideal.div (∑ e, Q e * K e) (Ideal.sqrt (Ideal.ofBits .f32 0x43000000#32)) := by
  pointwise [val_main_v0, val_main_v1, val_main_v4, val_main_v5, val_main_v7, val_main_v8, val_main_v10, val_main_cst, val_main_v11,
    val_main_v12, val_main_v13]
  refine congrArg (fun z => Ideal.div z _) (Finset.sum_congr rfl fun e _ => ?_)
  rw [hQ e _ rfl, hK e _ rfl]

/-- The greatest score of a row. -/
theorem ref_top (y : FVec Ideal Cert.MemoryRefIdeal.S32x4x2048x256 .f32) (z : FVec Ideal Cert.MemoryRefIdeal.S_ .f32) :
    Host.reduce FloatOps.maximumf y z Cert.MemoryRefIdeal.Gen.reducesTo_S32x4x2048x256_S32x4x2048_d3 Cert.MemoryRefIdeal.Gen.h_S_ (ix3 b h s)
      = (Finset.univ : Finset (Fin 256)).fold max (z (Shape.Idx.first Cert.MemoryRefIdeal.Gen.h_S_)) (fun n => y (ix4 b h s n)) := by
  have hr : Shape.Reduces Cert.MemoryRefIdeal.S32x4x2048x256 [3] Cert.MemoryRefIdeal.S32x4x2048 := by decide
  have e := Host.reduce_eq_fold (FloatOps.maximumf (F := Ideal) (φ := .f32)) y z Cert.MemoryRefIdeal.Gen.reducesTo_S32x4x2048x256_S32x4x2048_d3
    Cert.MemoryRefIdeal.Gen.h_S_ (ix3 b h s)
  rw [Cert.MemoryRefIdeal.Gen.reducesTo_S32x4x2048x256_S32x4x2048_d3.drop_eq_drop hr, hr.fold_filter_drop_single] at e
  refine e.trans (congrArg (fun f => (Finset.univ : Finset (Fin 256)).fold max _ f) (funext fun n => congrArg y ?_))
  exact (funext fun a => Fin.ext (by match a with | ⟨0, _⟩ => rfl | ⟨1, _⟩ => rfl | ⟨2, _⟩ => rfl | ⟨3, _⟩ => rfl))

/-- The weights before their normalization. -/
theorem ref_weight (n : Fin 256) :
    val_main_v20 (F := Ideal) a0 a1 (ix4 b h s n)
      = Ideal.exp (val_main_v13 (F := Ideal) a0 a1 (ix4 b h s n)
          - max (Ideal.ofBits .f32 0xFF800000#32) (val_main_v14 (F := Ideal) a0 a1 (ix3 b h s))) := by
  rw [val_main_v20_apply, val_main_v19_apply, val_main_v18_apply, val_main_v17_apply, val_main_v16_apply, val_main_v15_apply,
    show idx_main_v17 (idx_main_v18 (ix4 b h s n)) = ix3 b h s by idx_ext]
  generalize val_main_v14 (F := Ideal) a0 a1 (ix3 b h s) = z
  generalize val_main_v13 (F := Ideal) a0 a1 (ix4 b h s n) = y
  rfl

/-- The result, from the weights. -/
theorem ref_out (e : Fin 128) (v : Fin 256 → EReal) (g : EReal)
    (hv : ∀ (n : Fin 256) (j : Fin 1024), j.val = 512 + (h.val * 128 + e.val) → a1 (ix3 b n j) = v n)
    (hg : ∀ j : Fin 8192, j.val = 4608 + (h.val * 128 + e.val) → a0 (ix3 b s j) = g) :
    val_main_v30 (F := Ideal) a0 a1 (ix3 b s ⟨h.val * 128 + e.val, by omega⟩)
      = (∑ n, v n * Ideal.div (val_main_v20 (F := Ideal) a0 a1 (ix4 b h s n)) (0 + ∑ n, val_main_v20 (F := Ideal) a0 a1 (ix4 b h s n)))
        * (g * Ideal.div 1 (1 + Ideal.exp (-g))) := by
  unfold val_main_v30 val_main_v29 val_main_v27 val_main_v26 val_main_v25 val_main_v24 val_main_v23 val_main_v22 val_main_v21
  generalize val_main_v20 (F := Ideal) a0 a1 = y
  pointwise [val_main_v2, val_main_v3, val_main_v4, val_main_v6, val_main_v9, val_main_v28, val_main_cst_2, val_main_call0_v0,
    val_main_call0_v1, val_main_call0_v2, val_main_call0_v3, val_main_call0_v4, val_main_call0_v5, val_main_call0_cst, val_main_call0_cst_0]
  rw [hg _ rfl]
  refine congrArg (· * _) (Finset.sum_congr rfl fun n _ => ?_)
  rw [hv n _ rfl]

/-- The result, from real scores. -/
theorem ref_row (e : Fin 128) (x : Fin 256 → ℝ) (hx : ∀ n, val_main_v13 (F := Ideal) a0 a1 (ix4 b h s n) = (x n : EReal)) (v : Fin 256 → EReal) (g : EReal)
    (hv : ∀ (n : Fin 256) (j : Fin 1024), j.val = 512 + (h.val * 128 + e.val) → a1 (ix3 b n j) = v n)
    (hg : ∀ j : Fin 8192, j.val = 4608 + (h.val * 128 + e.val) → a0 (ix3 b s j) = g) :
    val_main_v30 (F := Ideal) a0 a1 (ix3 b s ⟨h.val * 128 + e.val, by omega⟩) = attended x v * (g * Ideal.div 1 (1 + Ideal.exp (-g))) := by
  obtain ⟨m, hm⟩ := fold_max_real Finset.univ ⟨(0 : Fin 256), Finset.mem_univ _⟩ (fun n => (x n : EReal)) fun n _ => ⟨_, rfl⟩
  have top : val_main_v14 (F := Ideal) a0 a1 (ix3 b h s) = (m : EReal) := by
    unfold val_main_v14
    rw [ref_top, ← hm, ← bits_bot]
    simp only [hx]
    rfl
  rw [ref_out a0 a1 b s h e v g hv hg, reference_row x v _ m fun n => ?_]
  rw [ref_weight, hx, top, bits_bot, max_eq_right bot_le]

end Reference

end Cert.Proof.Memory

end
-- ==== Proof.ProjMath.lean ====
/- The arithmetic of the projections call: over the extended reals, what the body computes from the vectors it loads is what
   the reference computes at the same place. -/
module

public import proofs.«01_k».proof.Proof.Gen.ProjIdeal.Skeleton
public import proofs.«01_k».proof.Proof.Gen.ProjRefIdeal.Read
public import Idealize.ShloMosaic.Lib.Pipeline.ValueKit
public import Idealize.ShloMosaic.Lib.Pointwise
public import Idealize.ShloMosaic.PureOps.Ideal.Laws

@[expose] public section

set_option maxRecDepth 16384

noncomputable section

namespace Cert.Proof.ProjIdeal

open Idealize.ShloMosaic Idealize.ShloMosaic.TcCoe Idealize.SL.Sem
open Cert.ProjIdeal Cert.ProjIdeal.Gen
open scoped BigOperators

/-- The row of the sequence that stands at row `r` of the order by residues mod 4. -/
abbrev tok4 (r : Fin 2048) : Fin 2048 := ⟨r.val % 512 * 4 + r.val / 512, by omega⟩

/-- The row of the sequence that stands at row `r` of the order by residues mod 16. -/
abbrev tok16 (r : Fin 2048) : Fin 2048 := ⟨r.val % 128 * 16 + r.val / 128 % 4 * 4 + r.val / 512, by omega⟩

section Rows

/-! The vectors `v` are what the body loads, the arrays `a` the reference's arguments, `b` the image of the batch. -/

variable (a0 : FVec Ideal Cert.ProjRefIdeal.S32x2048x1024 .f32) (a1 : FVec Ideal Cert.ProjRefIdeal.S1024 .f32)
    (a2 : FVec Ideal Cert.ProjRefIdeal.S1024x8192 .bf16) (a3 : FVec Ideal Cert.ProjRefIdeal.S4x1024x768 .bf16) (b : Fin 32)

/-- The reciprocal root mean squares of 256 rows, spread over a slab. -/
theorem inv_rows (v : FVec Ideal S1x256x1024 .f32) (R : Fin 256 → Fin 2048)
    (h0 : ∀ (r : Fin 256) (k : Fin 1024), v (ix3 0 r k) = a0 (ix3 b (R r) k)) (r : Fin 256) (l : Fin 128) :
    k0_pay14 (F := Ideal) v (ix2 r l) = Cert.ProjRefIdeal.Read.val_main_v7 (F := Ideal) a0 (ix3 b (R r) 0) := by
  pointwise [h0, k0_pay14, k0_pay13, k0_pay12, Cert.ProjRefIdeal.Read.val_main_v0, Cert.ProjRefIdeal.Read.val_main_cst,
      Cert.ProjRefIdeal.Read.val_main_v1, Cert.ProjRefIdeal.Read.val_main_v2, Cert.ProjRefIdeal.Read.val_main_cst_0,
      Cert.ProjRefIdeal.Read.val_main_v3, Cert.ProjRefIdeal.Read.val_main_v4, Cert.ProjRefIdeal.Read.val_main_cst_1,
      Cert.ProjRefIdeal.Read.val_main_v5, Cert.ProjRefIdeal.Read.val_main_v6, Cert.ProjRefIdeal.Read.val_main_v7]

/-- 256 normalized rows. -/
theorem norm_rows (g : FVec Ideal S1x1024 .f32) (v : FVec Ideal S1x256x1024 .f32) (R : Fin 256 → Fin 2048)
    (h0 : ∀ (r : Fin 256) (k : Fin 1024), v (ix3 0 r k) = a0 (ix3 b (R r) k))
    (h1 : ∀ k : Fin 1024, g (ix2 0 k) = a1 (ix1 k)) (r : Fin 256) (k : Fin 1024) :
    k0_pay15 (F := Ideal) g v (ix2 r k) = Cert.ProjRefIdeal.Read.val_main_v12 (F := Ideal) a0 a1 (ix3 b (R r) k) := by
  pointwise [h0, h1, k0_pay15, k0_pay11, k0_pay13, k0_pay12, Cert.ProjRefIdeal.Read.val_main_v0, Cert.ProjRefIdeal.Read.val_main_cst,
      Cert.ProjRefIdeal.Read.val_main_v1, Cert.ProjRefIdeal.Read.val_main_v2, Cert.ProjRefIdeal.Read.val_main_cst_0,
      Cert.ProjRefIdeal.Read.val_main_v3, Cert.ProjRefIdeal.Read.val_main_v4, Cert.ProjRefIdeal.Read.val_main_cst_1,
      Cert.ProjRefIdeal.Read.val_main_v5, Cert.ProjRefIdeal.Read.val_main_v6, Cert.ProjRefIdeal.Read.val_main_v7,
      Cert.ProjRefIdeal.Read.val_main_v8, Cert.ProjRefIdeal.Read.val_main_v9, Cert.ProjRefIdeal.Read.val_main_v10,
      Cert.ProjRefIdeal.Read.val_main_v11, Cert.ProjRefIdeal.Read.val_main_v12]

/-- A slab of normalized columns, from the kept reciprocal root mean squares. -/
theorem slab_norm (v : FVec Ideal S1x2048x128 .f32) (w : FVec Ideal S2048x128 .f32) (g : FVec Ideal S1x128 .f32)
    (K : Fin 128 → Fin 1024)
    (h0 : ∀ (r : Fin 2048) (l : Fin 128), v (ix3 0 r l) = a0 (ix3 b r (K l)))
    (h1 : ∀ (r : Fin 2048) (l : Fin 128), w (ix2 r l) = Cert.ProjRefIdeal.Read.val_main_v7 (F := Ideal) a0 (ix3 b r 0))
    (h2 : ∀ l : Fin 128, g (ix2 0 l) = a1 (ix1 (K l))) (r : Fin 2048) (l : Fin 128) :
    k0_pay43 (F := Ideal) v w g (ix2 r l) = Cert.ProjRefIdeal.Read.val_main_v12 (F := Ideal) a0 a1 (ix3 b r (K l)) := by
  pointwise [h0, h1, h2, k0_pay43,
      Cert.ProjRefIdeal.Read.val_main_v8, Cert.ProjRefIdeal.Read.val_main_v9, Cert.ProjRefIdeal.Read.val_main_v10,
      Cert.ProjRefIdeal.Read.val_main_v11, Cert.ProjRefIdeal.Read.val_main_v12]

/-- 512 rows of the natural projection. -/
theorem nat_rows (v : FVec Ideal S512x1024 .bf16) (w : FVec Ideal S1024x1024 .bf16) (R : Fin 512 → Fin 2048) (N : Fin 1024 → Fin 8192)
    (h0 : ∀ (r : Fin 512) (k : Fin 1024), v (ix2 r k) = Cert.ProjRefIdeal.Read.val_main_v12 (F := Ideal) a0 a1 (ix3 b (R r) k))
    (h1 : ∀ (k n : Fin 1024), w (ix2 k n) = a2 (ix2 k (N n))) (r : Fin 512) (n : Fin 1024) :
    k0_pay44 (F := Ideal) v w (ix3 0 r n) = Cert.ProjRefIdeal.Read.val_main_v15 (F := Ideal) a0 a1 a2 (ix3 b (R r) (N n)) := by
  pointwise [h0, h1, k0_pay44, Cert.ProjRefIdeal.Read.val_main_v13, Cert.ProjRefIdeal.Read.val_main_v14,
      Cert.ProjRefIdeal.Read.val_main_v15]

/-- 512 rows of a dilated projection: eight slabs side by side times the weights. -/
theorem joined (v0 v1 v2 v3 v4 v5 v6 v7 : FVec Ideal S1x512x128 .bf16) (w : FVec Ideal S1x1024x768 .bf16) (G : Fin 512 → Fin 1024 → EReal)
    (h0 : ∀ (r : Fin 512) (l : Fin 128), v0 (ix3 0 r l) = G r ⟨l.val, by omega⟩)
    (h1 : ∀ (r : Fin 512) (l : Fin 128), v1 (ix3 0 r l) = G r ⟨l.val + 128, by omega⟩)
    (h2 : ∀ (r : Fin 512) (l : Fin 128), v2 (ix3 0 r l) = G r ⟨l.val + 256, by omega⟩)
    (h3 : ∀ (r : Fin 512) (l : Fin 128), v3 (ix3 0 r l) = G r ⟨l.val + 384, by omega⟩)
    (h4 : ∀ (r : Fin 512) (l : Fin 128), v4 (ix3 0 r l) = G r ⟨l.val + 512, by omega⟩)
    (h5 : ∀ (r : Fin 512) (l : Fin 128), v5 (ix3 0 r l) = G r ⟨l.val + 640, by omega⟩)
    (h6 : ∀ (r : Fin 512) (l : Fin 128), v6 (ix3 0 r l) = G r ⟨l.val + 768, by omega⟩)
    (h7 : ∀ (r : Fin 512) (l : Fin 128), v7 (ix3 0 r l) = G r ⟨l.val + 896, by omega⟩)
    (r : Fin 512) (n : Fin 768) :
    k0_pay71 (F := Ideal) v0 v1 v2 v3 v4 v5 v6 v7 w (ix4 0 0 r n) = ∑ k : Fin 1024, G r k * w (ix3 0 k n) := by
  pointwise [h0, h1, h2, h3, h4, h5, h6, h7, k0_pay71]
  refine Finset.sum_congr rfl fun k _ => congrArg (· * _) ?_
  split_ifs
  · rfl
  all_goals exact congrArg (G r) (Fin.ext (by simp only; omega))

theorem dil_low (r : Fin 2048) (n : Fin 1536) : Cert.ProjRefIdeal.Read.val_main_v35 (F := Ideal) a0 a1 a3 (ix4 b 0 r n)
    = ∑ k : Fin 1024, (show EReal from Cert.ProjRefIdeal.Read.val_main_v18 (F := Ideal) a0 a1 (ix3 b r k)) * (show EReal from a3 (ix3 ⟨n.val / 768, by omega⟩ k ⟨n.val % 768, by omega⟩)) := by
  pointwise [Cert.ProjRefIdeal.Read.val_main_v35, Cert.ProjRefIdeal.Read.val_main_v34, Cert.ProjRefIdeal.Read.val_main_v33,
      Cert.ProjRefIdeal.Read.val_main_v32, Cert.ProjRefIdeal.Read.val_main_v28,
      Cert.ProjRefIdeal.Read.val_main_v22, Cert.ProjRefIdeal.Read.val_main_v23, Cert.ProjRefIdeal.Read.val_main_v24,
      Cert.ProjRefIdeal.Read.val_main_v25, Cert.ProjRefIdeal.Read.val_main_v26, Cert.ProjRefIdeal.Read.val_main_v27]

theorem dil_high (r : Fin 2048) (n : Fin 1536) : Cert.ProjRefIdeal.Read.val_main_v35 (F := Ideal) a0 a1 a3 (ix4 b 1 r n)
    = ∑ k : Fin 1024, (show EReal from Cert.ProjRefIdeal.Read.val_main_v21 (F := Ideal) a0 a1 (ix3 b r k)) * (show EReal from a3 (ix3 ⟨2 + n.val / 768, by omega⟩ k ⟨n.val % 768, by omega⟩)) := by
  pointwise [Cert.ProjRefIdeal.Read.val_main_v35, Cert.ProjRefIdeal.Read.val_main_v34, Cert.ProjRefIdeal.Read.val_main_v33,
      Cert.ProjRefIdeal.Read.val_main_v32, Cert.ProjRefIdeal.Read.val_main_v31,
      Cert.ProjRefIdeal.Read.val_main_v22, Cert.ProjRefIdeal.Read.val_main_v23, Cert.ProjRefIdeal.Read.val_main_v24,
      Cert.ProjRefIdeal.Read.val_main_v25, Cert.ProjRefIdeal.Read.val_main_v29, Cert.ProjRefIdeal.Read.val_main_v30]

theorem cast4 (v : FVec Ideal S512x128 .f32) (r : Fin 512) (l : Fin 128) : k0_pay46 (F := Ideal) v (ix3 0 r l) = v (ix2 r l) := by
  pointwise [k0_pay46]

theorem copy4 (v : FVec Ideal S512x128 .f32) (r : Fin 512) (l : Fin 128) : k0_pay45 (F := Ideal) v (ix2 r l) = v (ix2 r l) := by
  pointwise [k0_pay45]

theorem cast16 (v : FVec Ideal S128x128 .f32) (r : Fin 128) (l : Fin 128) : k0_pay49 (F := Ideal) v (ix3 0 r l) = v (ix2 r l) := by
  pointwise [k0_pay49]

theorem rows4 (r : Fin 2048) (k : Fin 1024) : Cert.ProjRefIdeal.Read.val_main_v18 (F := Ideal) a0 a1 (ix3 b r k)
    = Cert.ProjRefIdeal.Read.val_main_v12 (F := Ideal) a0 a1 (ix3 b (tok4 r) k) := by
  pointwise [Cert.ProjRefIdeal.Read.val_main_v16, Cert.ProjRefIdeal.Read.val_main_v17, Cert.ProjRefIdeal.Read.val_main_v18]

theorem rows16 (r : Fin 2048) (k : Fin 1024) : Cert.ProjRefIdeal.Read.val_main_v21 (F := Ideal) a0 a1 (ix3 b r k)
    = Cert.ProjRefIdeal.Read.val_main_v12 (F := Ideal) a0 a1 (ix3 b (tok16 r) k) := by
  pointwise [Cert.ProjRefIdeal.Read.val_main_v19, Cert.ProjRefIdeal.Read.val_main_v20, Cert.ProjRefIdeal.Read.val_main_v21]

end Rows

end Cert.Proof.ProjIdeal

end
-- ==== Proof.ProjStores.lean ====
/- What the projections body leaves in a buffer it fills by several stores: at each place the value of one function. -/
module

public import proofs.«01_k».proof.Proof.ProjMath
public import Idealize.ShloMosaic.Lib.Ring
public import Idealize.ShloMosaic.Lib.Pipeline.Value
public import Idealize.ShloMosaic.Lib.Pipeline.FrameBody

@[expose] public section

set_option maxRecDepth 16384

noncomputable section

namespace Cert.Proof.ProjIdeal

open Idealize.ShloMosaic Idealize.ShloMosaic.TcCoe Idealize.SL.Sem
open Cert.ProjIdeal Cert.ProjIdeal.Gen
open scoped BigOperators

section Pieces

variable {S : Shape} {e : EltTy}

/-- Every store of the list writes the values of `G` at the places it writes. -/
def Agrees (G : S.Idx → Elt Ideal e) (L : List (View.Piece (Elt Ideal) S e)) : Prop :=
  ∀ p ∈ L, ∀ x : p.1.shape.Idx, p.2 x = G (p.1.emb x)

theorem Agrees.nil (G : S.Idx → Elt Ideal e) : Agrees G [] := fun _ h => absurd h List.not_mem_nil

theorem Agrees.cons {G : S.Idx → Elt Ideal e} {r : Rect S} {w : r.shape.Idx → Elt Ideal e} {L : List (View.Piece (Elt Ideal) S e)}
    (h : ∀ x : r.shape.Idx, w x = G (r.emb x)) (hL : Agrees G L) : Agrees G (⟨r, w⟩ :: L) := by
  intro p hp
  rcases List.mem_cons.1 hp with rfl | hp
  · exact h
  · exact hL p hp

/-- Some store of the list writes the place `y`. -/
def Written (y : S.Idx) (L : List (View.Piece (Elt Ideal) S e)) : Prop := ∃ p ∈ L, y ∈ p.1.set

theorem Written.here {y : S.Idx} {r : Rect S} {w : r.shape.Idx → Elt Ideal e} {L : List (View.Piece (Elt Ideal) S e)}
    (h : y ∈ r.set) : Written y (⟨r, w⟩ :: L) := ⟨_, List.mem_cons_self, h⟩

theorem Written.later {y : S.Idx} {p : View.Piece (Elt Ideal) S e} {L : List (View.Piece (Elt Ideal) S e)}
    (h : Written y L) : Written y (p :: L) := h.imp fun _ h => ⟨List.mem_cons_of_mem _ h.1, h.2⟩

end Pieces

/-- Stores of whole rows of slab `s`, in falling order of their first row: row `r` is written by the first that starts at or
    before it. -/
theorem written_slab {s r l o n : ℕ} {hs : s < 8} {hr : r < 2048} {hl : l < 128} {off sz : Fin 3 → ℕ} (inb : ∀ a, off a + sz a ≤ S8x2048x128.size a)
    {w : (Rect.unit (s := S8x2048x128) off sz inb).shape.Idx → Elt Ideal .bf16} {L : List (View.Piece (Elt Ideal) S8x2048x128 .bf16)}
    (hoff : off = ![s, o, 0]) (hsz : sz = ![1, n, 128]) (h : r < o + n) (hL : r < o → Written (ix3 ⟨s, hs⟩ ⟨r, hr⟩ ⟨l, hl⟩) L) :
    Written (ix3 (⟨s, hs⟩ : Fin 8) (⟨r, hr⟩ : Fin 2048) (⟨l, hl⟩ : Fin 128)) (⟨Rect.unit off sz inb, w⟩ :: L) := by
  subst hoff hsz
  by_cases ho : r < o
  · exact (hL ho).later
  · refine .here (Rect.mem_set_unit.2 fun a => ?_)
    fin_cases a
    · show s ≤ s ∧ s < s + 1; omega
    · show o ≤ r ∧ r < o + n; omega
    · show 0 ≤ l ∧ l < 0 + 128; omega

/-- A store of rows of slab `s` leaves another slab alone. -/
theorem off_slab {s s' : ℕ} {o n : ℕ} {hs : s' < 8} (r : Fin 2048) (l : Fin 128) {off sz : Fin 3 → ℕ} (inb : ∀ a, off a + sz a ≤ S8x2048x128.size a)
    (hoff : off = ![s, o, 0]) (hsz : sz = ![1, n, 128]) (h : s' ≠ s) :
    ix3 (⟨s', hs⟩ : Fin 8) r l ∉ (Rect.unit (s := S8x2048x128) off sz inb).set := by
  subst hoff hsz
  intro hm
  have h0 : s ≤ s' ∧ s' < s + 1 := Rect.mem_set_unit.1 hm 0
  omega

section Values

variable (a0 : FVec Ideal Cert.ProjRefIdeal.S32x2048x1024 .f32) (a1 : FVec Ideal Cert.ProjRefIdeal.S1024 .f32) (b : Fin 32)

/-- The rows' factors, spread over a slab. -/
def factors (y : S2048x128.Idx) : Elt Ideal .f32 := Cert.ProjRefIdeal.Read.val_main_v7 (F := Ideal) a0 (ix3 b (y 0) 0)

/-- The normalized rows. -/
def rows (y : S2048x1024.Idx) : Elt Ideal .bf16 := Cert.ProjRefIdeal.Read.val_main_v12 (F := Ideal) a0 a1 (ix3 b (y 0) (y 1))

/-- The columns `K` of the normalized rows, in the order `T` of the rows. -/
def cols (K : Fin 128 → Fin 1024) (T : Fin 2048 → Fin 2048) (y : S2048x128.Idx) : Elt Ideal .f32 :=
  Cert.ProjRefIdeal.Read.val_main_v12 (F := Ideal) a0 a1 (ix3 b (T (y 0)) (K (y 1)))

/-- The same, in any slab. -/
def slab (K : Fin 128 → Fin 1024) (T : Fin 2048 → Fin 2048) (y : S8x2048x128.Idx) : Elt Ideal .bf16 :=
  Cert.ProjRefIdeal.Read.val_main_v12 (F := Ideal) a0 a1 (ix3 b (T (y 1)) (K (y 2)))

/-- 256 whole rows of the loaded image. -/
theorem load_rows (arg2 : Memref sig .tc .vmem S1x2048x1024 .f32) (harg2 : arg2.IsWhole) (x2 : FVec Ideal S1x2048x1024 .f32)
    (h2 : ∀ (r : Fin 2048) (k : Fin 1024), x2 (ix3 0 r k) = a0 (ix3 b r k)) (o : ℕ) (ho : o + 256 ≤ 2048)
    (inb : ∀ a, (![0, o, 0] : Fin 3 → ℕ) a + S1x256x1024.size a ≤ S1x2048x1024.size a) (r : Fin 256) (k : Fin 1024) :
    View.readAt (Elt Ideal) arg2.view (Rect.unit (s := S1x2048x1024) ![0, o, 0] S1x256x1024.size inb).toLoadRect (harg2.unread x2) (ix3 0 r k)
      = a0 (ix3 b (⟨o + r.val, by omega⟩ : Fin 2048) k) := by
  rw [View.readAt_apply, harg2.read_unread, ← h2]
  refine congrArg x2 (funext fun a => Fin.ext ?_)
  fin_cases a
  · rfl
  · show o + 1 * r.val = o + r.val; omega
  · show 0 + 1 * k.val = k.val; omega

theorem factors_piece (arg2 : Memref sig .tc .vmem S1x2048x1024 .f32) (harg2 : arg2.IsWhole) (x2 : FVec Ideal S1x2048x1024 .f32)
    (h2 : ∀ (r : Fin 2048) (k : Fin 1024), x2 (ix3 0 r k) = a0 (ix3 b r k)) (o : ℕ) (ho : o + 256 ≤ 2048)
    (inb : ∀ a, (![0, o, 0] : Fin 3 → ℕ) a + S1x256x1024.size a ≤ S1x2048x1024.size a)
    (inb' : ∀ a, (![o, 0] : Fin 2 → ℕ) a + S256x128.size a ≤ S2048x128.size a)
    (x : (Rect.unit (s := S2048x128) ![o, 0] S256x128.size inb').shape.Idx) :
    k0_pay14 (F := Ideal) (View.readAt (Elt Ideal) arg2.view (Rect.unit (s := S1x2048x1024) ![0, o, 0] S1x256x1024.size inb).toLoadRect (harg2.unread x2)) x
      = factors a0 b ((Rect.unit (s := S2048x128) ![o, 0] S256x128.size inb').emb x) := by
  obtain ⟨r, l, rfl⟩ : ∃ (r : Fin 256) (l : Fin 128), x = ix2 r l := ⟨x 0, x 1, by idx_ext⟩
  refine (inv_rows a0 b _ (fun r => ⟨o + r.val, by omega⟩) (load_rows a0 b arg2 harg2 x2 h2 o ho inb) r l).trans ?_
  refine congrArg (fun q : Fin 2048 => Cert.ProjRefIdeal.Read.val_main_v7 (F := Ideal) a0 (ix3 b q 0)) (Fin.ext ?_)
  show o + r.val = o + 1 * r.val; omega

theorem rows_piece (arg2 : Memref sig .tc .vmem S1x2048x1024 .f32) (harg2 : arg2.IsWhole) (x2 : FVec Ideal S1x2048x1024 .f32)
    (g : FVec Ideal S1x1024 .f32)
    (h2 : ∀ (r : Fin 2048) (k : Fin 1024), x2 (ix3 0 r k) = a0 (ix3 b r k)) (h4 : ∀ k : Fin 1024, g (ix2 0 k) = a1 (ix1 k)) (o : ℕ) (ho : o + 256 ≤ 2048)
    (inb : ∀ a, (![0, o, 0] : Fin 3 → ℕ) a + S1x256x1024.size a ≤ S1x2048x1024.size a)
    (inb' : ∀ a, (![o, 0] : Fin 2 → ℕ) a + S256x1024.size a ≤ S2048x1024.size a)
    (x : (Rect.unit (s := S2048x1024) ![o, 0] S256x1024.size inb').shape.Idx) :
    k0_pay15 (F := Ideal) g (View.readAt (Elt Ideal) arg2.view (Rect.unit (s := S1x2048x1024) ![0, o, 0] S1x256x1024.size inb).toLoadRect (harg2.unread x2)) x
      = rows a0 a1 b ((Rect.unit (s := S2048x1024) ![o, 0] S256x1024.size inb').emb x) := by
  obtain ⟨r, k, rfl⟩ : ∃ (r : Fin 256) (k : Fin 1024), x = ix2 r k := ⟨x 0, x 1, by idx_ext⟩
  refine (norm_rows a0 a1 b g _ (fun r => ⟨o + r.val, by omega⟩) (load_rows a0 b arg2 harg2 x2 h2 o ho inb) h4 r k).trans ?_
  refine congrArg₂ (fun (q : Fin 2048) (k : Fin 1024) => Cert.ProjRefIdeal.Read.val_main_v12 (F := Ideal) a0 a1 (ix3 b q k)) (Fin.ext ?_) (Fin.ext ?_)
  · show o + r.val = o + 1 * r.val; omega
  · show k.val = 0 + 1 * k.val; omega

/-- A load from a buffer filled by agreeing stores. -/
theorem load_of {S : Shape} {e : EltTy} (v : Memref sig .tc .vmem S e) {G : S.Idx → Elt Ideal e} {L : List (View.Piece (Elt Ideal) S e)} (hG : Agrees G L)
    (B : LoadRect S) (j : B.shape.Idx) (hw : Written (B.idx j) L) : v.view.readCov L B j = G (B.idx j) := by
  rw [View.readCov_eq_canon']
  exact View.canon_apply_of_pieces G L hG _ hw

/-- What stands in a buffer after agreeing stores. -/
theorem left_of {S : Shape} {e : EltTy} (v : Memref sig .tc .vmem S e) (f) {G : S.Idx → Elt Ideal e} {L : List (View.Piece (Elt Ideal) S e)} (hG : Agrees G L)
    (y : S.Idx) (hw : Written y L) : v.view.read (Elt Ideal) (v.view.writes (Elt Ideal) f L) y = G y :=
  View.read_writes_apply_of_pieces _ _ G L hG y hw

section Regroup

variable (K : Fin 128 → Fin 1024)
    (inb0 : ∀ a, (![0, 0] : Fin 2 → ℕ) a + S2048x128.size a ≤ S2048x128.size a)
    (arg14 arg15 : Memref sig .tc .vmem S2048x128 .f32) (p : FVec Ideal S2048x128 .f32)
    (hp : ∀ (r : Fin 2048) (l : Fin 128), p (ix2 r l) = Cert.ProjRefIdeal.Read.val_main_v12 (F := Ideal) a0 a1 (ix3 b r (K l)))

include hp

/-- Every fourth row of the slab. -/
theorem strip (o : ℕ) (ho : o < 4) (inb) (q : Fin 512) (l : Fin 128) :
    arg14.view.readCov [⟨Rect.unit (s := S2048x128) ![0, 0] S2048x128.size inb0, p⟩] ⟨![o, 0], S512x128.size, ![4, 1], inb⟩ (ix2 q l)
      = Cert.ProjRefIdeal.Read.val_main_v12 (F := Ideal) a0 a1 (ix3 b (⟨q.val * 4 + o, by omega⟩ : Fin 2048) (K l)) := by
  refine (load_of arg14 (G := cols a0 a1 b K id) (.cons (fun x => ?_) (.nil _)) _ _ (.here (Rect.mem_set_unit.2 fun a => ?_))).trans ?_
  · obtain ⟨r, l, rfl⟩ : ∃ (r : Fin 2048) (l : Fin 128), x = ix2 r l := ⟨x 0, x 1, by idx_ext⟩
    refine (hp r l).trans ?_
    refine congrArg₂ (fun (q : Fin 2048) (l : Fin 128) => Cert.ProjRefIdeal.Read.val_main_v12 (F := Ideal) a0 a1 (ix3 b q (K l))) (Fin.ext ?_) (Fin.ext ?_)
    · show r.val = 0 + 1 * r.val; omega
    · show l.val = 0 + 1 * l.val; omega
  · fin_cases a
    · show 0 ≤ o + 4 * q.val ∧ o + 4 * q.val < 0 + 2048; omega
    · show 0 ≤ 0 + 1 * l.val ∧ 0 + 1 * l.val < 0 + 128; omega
  · refine congrArg₂ (fun (q : Fin 2048) (l : Fin 128) => Cert.ProjRefIdeal.Read.val_main_v12 (F := Ideal) a0 a1 (ix3 b q (K l))) (Fin.ext ?_) (Fin.ext ?_)
    · show o + 4 * q.val = q.val * 4 + o; omega
    · show 0 + 1 * l.val = l.val; omega

omit hp in
/-- A strip stored in the second order of rows. -/
theorem strip_stored (o : ℕ) (ho : o < 4) (w : FVec Ideal S512x128 .f32)
    (hw : ∀ (q : Fin 512) (l : Fin 128), w (ix2 q l) = Cert.ProjRefIdeal.Read.val_main_v12 (F := Ideal) a0 a1 (ix3 b (⟨q.val * 4 + o, by omega⟩ : Fin 2048) (K l)))
    (n : ℕ) (hn : n = 512 * o) (inb : ∀ a, (![n, 0] : Fin 2 → ℕ) a + S512x128.size a ≤ S2048x128.size a)
    (x : (Rect.unit (s := S2048x128) ![n, 0] S512x128.size inb).shape.Idx) :
    k0_pay45 (F := Ideal) w x = cols a0 a1 b K tok4 ((Rect.unit (s := S2048x128) ![n, 0] S512x128.size inb).emb x) := by
  subst hn
  obtain ⟨q, l, rfl⟩ : ∃ (q : Fin 512) (l : Fin 128), x = ix2 q l := ⟨x 0, x 1, by idx_ext⟩
  refine (copy4 w q l).trans ((hw q l).trans ?_)
  refine congrArg₂ (fun (q : Fin 2048) (l : Fin 128) => Cert.ProjRefIdeal.Read.val_main_v12 (F := Ideal) a0 a1 (ix3 b q (K l))) (Fin.ext ?_) (Fin.ext ?_)
  · show q.val * 4 + o = (512 * o + 1 * q.val) % 512 * 4 + (512 * o + 1 * q.val) / 512; omega
  · show l.val = 0 + 1 * l.val; omega

omit hp in
/-- A strip stored in its slab. -/
theorem strip_slab (o : ℕ) (ho : o < 4) (w : FVec Ideal S512x128 .f32)
    (hw : ∀ (q : Fin 512) (l : Fin 128), w (ix2 q l) = Cert.ProjRefIdeal.Read.val_main_v12 (F := Ideal) a0 a1 (ix3 b (⟨q.val * 4 + o, by omega⟩ : Fin 2048) (K l)))
    (s : ℕ) (off : Fin 3 → ℕ) (hoff : off = ![s, 512 * o, 0]) (inb : ∀ a, off a + S1x512x128.size a ≤ S8x2048x128.size a)
    (x : (Rect.unit (s := S8x2048x128) off S1x512x128.size inb).shape.Idx) :
    k0_pay46 (F := Ideal) w x = slab a0 a1 b K tok4 ((Rect.unit (s := S8x2048x128) off S1x512x128.size inb).emb x) := by
  subst hoff
  obtain ⟨q, l, rfl⟩ : ∃ (q : Fin 512) (l : Fin 128), x = ix3 0 q l := ⟨x 1, x 2, by idx_ext⟩
  refine (cast4 w q l).trans ((hw q l).trans ?_)
  refine congrArg₂ (fun (q : Fin 2048) (l : Fin 128) => Cert.ProjRefIdeal.Read.val_main_v12 (F := Ideal) a0 a1 (ix3 b q (K l))) (Fin.ext ?_) (Fin.ext ?_)
  · show q.val * 4 + o = (512 * o + 1 * q.val) % 512 * 4 + (512 * o + 1 * q.val) / 512; omega
  · show l.val = 0 + 1 * l.val; omega

omit hp in
/-- Every fourth row of a strip in the second order, stored in its slab. -/
theorem fine_slab (o e : ℕ) (ho : o < 4) (he : e < 4) (w : FVec Ideal S512x128 .f32) (L : List (View.Piece (Elt Ideal) S2048x128 .f32))
    (n : ℕ) (hn : n = 512 * o) (inbw : ∀ a, (![n, 0] : Fin 2 → ℕ) a + S512x128.size a ≤ S2048x128.size a)
    (hL : Agrees (cols a0 a1 b K tok4) (⟨Rect.unit (s := S2048x128) ![n, 0] S512x128.size inbw, k0_pay45 (F := Ideal) w⟩ :: L))
    (n' : ℕ) (hn' : n' = 512 * o + e) (inbl)
    (s : ℕ) (off : Fin 3 → ℕ) (hoff : off = ![s, 512 * o + 128 * e, 0]) (inb : ∀ a, off a + S1x128x128.size a ≤ S8x2048x128.size a)
    (x : (Rect.unit (s := S8x2048x128) off S1x128x128.size inb).shape.Idx) :
    k0_pay49 (F := Ideal) (arg15.view.readCov (⟨Rect.unit (s := S2048x128) ![n, 0] S512x128.size inbw, k0_pay45 (F := Ideal) w⟩ :: L)
        ⟨![n', 0], S128x128.size, ![4, 1], inbl⟩) x
      = slab a0 a1 b K tok16 ((Rect.unit (s := S8x2048x128) off S1x128x128.size inb).emb x) := by
  subst hoff hn hn'
  obtain ⟨q, l, rfl⟩ : ∃ (q : Fin 128) (l : Fin 128), x = ix3 0 q l := ⟨x 1, x 2, by idx_ext⟩
  refine (cast16 _ q l).trans ((load_of arg15 hL _ _ (.here (Rect.mem_set_unit.2 fun a => ?_))).trans ?_)
  · fin_cases a
    · show 512 * o ≤ 512 * o + e + 4 * q.val ∧ 512 * o + e + 4 * q.val < 512 * o + 512; omega
    · show 0 ≤ 0 + 1 * l.val ∧ 0 + 1 * l.val < 0 + 128; omega
  · refine congrArg₂ (fun (q : Fin 2048) (l : Fin 128) => Cert.ProjRefIdeal.Read.val_main_v12 (F := Ideal) a0 a1 (ix3 b q (K l))) (Fin.ext ?_) (Fin.ext ?_)
    · show (512 * o + e + 4 * q.val) % 512 * 4 + (512 * o + e + 4 * q.val) / 512
        = (512 * o + 128 * e + 1 * q.val) % 128 * 16 + (512 * o + 128 * e + 1 * q.val) / 128 % 4 * 4 + (512 * o + 128 * e + 1 * q.val) / 512
      have e1 : (512 * o + e + 4 * q.val) / 512 = o := by omega
      have e2 : (512 * o + e + 4 * q.val) % 512 = e + 4 * q.val := by omega
      have e3 : (512 * o + 128 * e + 1 * q.val) / 128 = 4 * o + e := by omega
      have e4 : (512 * o + 128 * e + 1 * q.val) / 512 = o := by omega
      have e5 : (512 * o + 128 * e + 1 * q.val) % 128 = q.val := by omega
      rw [e1, e2, e3, e4, e5]
      omega
    · show 0 + 1 * l.val = 0 + 1 * l.val; rfl

end Regroup

end Values

end Cert.Proof.ProjIdeal

end
-- ==== Proof.MemoryBlock.lean ====
/- What the memory mixer's body leaves in one block of the result. -/
module

public import proofs.«01_k».proof.Proof.MemoryValue
public import proofs.«01_k».proof.Proof.ProjStores

@[expose] public section

set_option maxRecDepth 16384

noncomputable section

namespace Cert.Proof.Memory

open Idealize.ShloMosaic Idealize.ShloMosaic.TcCoe Idealize.SL.Sem
open Cert.MemoryIdeal Cert.MemoryIdeal.Gen
open Cert.Proof.ProjIdeal (Agrees)
open scoped BigOperators

/-- A load from a buffer that holds `x`. -/
theorem load_unread {S : Shape} {e : EltTy} (v : Memref sig .tc .vmem S e) (hv : v.IsWhole) (x : S.Idx → Elt Ideal e) (B : LoadRect S) (j : B.shape.Idx) :
    View.readAt (Elt Ideal) v.view B (hv.unread x) j = x (B.idx j) := by
  rw [View.readAt_apply, hv.read_unread]

section Extended

variable (x2 : FVec Ideal S1x256x1024 .bf16)

/-- The extended values of the four heads: each head's values, and ones beside them. -/
def extended (y : S4x256x256.Idx) : Elt Ideal .bf16 :=
  if h : (y 2).val < 128 then x2 (ix3 0 (y 1) ⟨512 + 128 * (y 0).val + (y 2).val, by have h0 : (y 0).val < 4 := (y 0).isLt; omega⟩) else 1

theorem extended_one (y : S4x256x256.Idx) (h : 128 ≤ (y 2).val) : extended x2 y = 1 := dif_neg (Nat.not_lt.2 h)

theorem extended_value (y : S4x256x256.Idx) (n : Fin 256) (k : Fin 1024) (h : (y 2).val < 128) (hn : (y 1).val = n.val)
    (hk : 512 + 128 * (y 0).val + (y 2).val = k.val) : extended x2 y = x2 (ix3 0 n k) :=
  (dif_pos h).trans (congrArg₂ (fun (n : Fin 256) (k : Fin 1024) => x2 (ix3 0 n k)) (Fin.ext hn) (Fin.ext hk))

/-- A store of ones. -/
theorem ones_piece (o : ℕ) (inb) (x : (Rect.unit (s := S4x256x256) ![o, 0, 128] S1x256x128.size inb).shape.Idx) :
    k0_pay2 (F := Ideal) x = extended x2 ((Rect.unit (s := S4x256x256) ![o, 0, 128] S1x256x128.size inb).emb x) := by
  obtain ⟨n, e, rfl⟩ : ∃ (n : Fin 256) (e : Fin 128), x = ix3 0 n e := ⟨x 1, x 2, by idx_ext⟩
  refine Eq.trans ?_ (extended_one x2 _ (show 128 ≤ 128 + 1 * e.val by omega)).symm
  exact bits_one

/-- A store of a head's values. -/
theorem values_piece (arg3 : Memref sig .tc .vmem S1x256x1024 .bf16) (harg3 : arg3.IsWhole) (o k : ℕ) (hk : k = 512 + 128 * o) (inb inb')
    (x : (Rect.unit (s := S4x256x256) ![o, 0, 0] S1x256x128.size inb).shape.Idx) :
    k0_pay3 (F := Ideal) (View.readAt (Elt Ideal) arg3.view (Rect.unit (s := S1x256x1024) ![0, 0, k] S1x256x128.size inb').toLoadRect (harg3.unread x2)) x
      = extended x2 ((Rect.unit (s := S4x256x256) ![o, 0, 0] S1x256x128.size inb).emb x) := by
  subst hk
  obtain ⟨n, e, rfl⟩ : ∃ (n : Fin 256) (e : Fin 128), x = ix3 0 n e := ⟨x 1, x 2, by idx_ext⟩
  have ho : o < 4 := by have h : o + 1 ≤ 4 := inb 0; omega
  refine Eq.trans ?_ (extended_value x2 _ n (⟨512 + 128 * o + e.val, by omega⟩ : Fin 1024) (show 0 + 1 * e.val < 128 by omega)
    (show 0 + 1 * n.val = n.val by omega) (show 512 + 128 * (o + 1 * 0) + (0 + 1 * e.val) = 512 + 128 * o + e.val by omega)).symm
  pointwise [k0_pay3]
  rw [load_unread]
  refine congrArg x2 (funext fun a => Fin.ext ?_)
  match a with
  | ⟨0, _⟩ => rfl
  | ⟨1, _⟩ => show 0 + 1 * n.val = n.val; omega
  | ⟨2, _⟩ => show 512 + 128 * o + 1 * e.val = 512 + 128 * o + e.val; omega

variable (c : Dev nD) (arg3 : Memref sig .tc .vmem S1x256x1024 .bf16) (harg3 : arg3.IsWhole) (arg5 : Memref sig .tc .vmem S4x256x256 .bf16)

/-- The body's stores into the extended values agree with them. -/
theorem extended_stores : Agrees (extended x2) (kernelRun0_A.sl.HS0_8 (F := Ideal) c arg3 harg3 x2) := by
  unfold kernelRun0_A.sl.HS0_8
  exact .cons (values_piece x2 arg3 harg3 3 896 rfl _ _) <| .cons (ones_piece x2 3 _) <| .cons (values_piece x2 arg3 harg3 2 768 rfl _ _) <|
    .cons (ones_piece x2 2 _) <| .cons (values_piece x2 arg3 harg3 1 640 rfl _ _) <| .cons (ones_piece x2 1 _) <|
    .cons (values_piece x2 arg3 harg3 0 512 rfl _ _) <| .cons (ones_piece x2 0 _) <| .nil _

/-- A load of a head's extended values. -/
theorem extended_load (B : LoadRect S4x256x256) (j : B.shape.Idx) :
    arg5.view.readCov (kernelRun0_A.sl.HS0_8 (F := Ideal) c arg3 harg3 x2) B j = extended x2 (B.idx j) := by
  rw [View.readCov_eq_canon']
  exact View.canon_apply_of_pieces _ _ (extended_stores x2 c arg3 harg3) _
    (View.cover_of_tiledL (kernelRun0_A.sl.HS0_8 (F := Ideal) c arg3 harg3 x2) S1x256x128.size (by sl_kernel_rfl) (B.idx j))

end Extended

section Pieces

variable (x0 x1 : FVec Ideal S1x2048x512 .bf16) (x2 : FVec Ideal S1x256x1024 .bf16)
    (a0 : FVec Ideal Cert.MemoryRefIdeal.S32x2048x8192 .bf16) (a1 : FVec Ideal Cert.MemoryRefIdeal.S32x256x1024 .bf16) (b : Fin 32)

/-- The reference's block. -/
def wantedBlock (y : S1x2048x512.Idx) : Elt Ideal .bf16 := Cert.MemoryRefIdeal.Read.val_main_v30 (F := Ideal) a0 a1 (ix3 b (y 1) (y 2))

variable (h0 : ∀ (s : Fin 2048) (j : Fin 512) (J : Fin 8192), J.val = 4096 + j.val → x0 (ix3 0 s j) = a0 (ix3 b s J))
    (h1 : ∀ (s : Fin 2048) (j : Fin 512) (J : Fin 8192), J.val = 4608 + j.val → x1 (ix3 0 s j) = a0 (ix3 b s J))
    (h2 : ∀ (n : Fin 256) (j : Fin 1024), x2 (ix3 0 n j) = a1 (ix3 b n j))
    (hq : ∀ (s : Fin 2048) (j : Fin 512), ∃ r : ℝ, x0 (ix3 0 s j) = (r : EReal))
    (hk : ∀ (n : Fin 256) (j : Fin 1024), j.val < 512 → ∃ r : ℝ, x2 (ix3 0 n j) = (r : EReal))

include h0 h1 h2 hq hk

/-- One stored tile: 256 rows of one head. -/
theorem piece (c : Dev nD) (arg1 : Memref sig .tc .vmem S1x2048x512 .bf16) (harg1 : arg1.IsWhole) (arg2 : Memref sig .tc .vmem S1x2048x512 .bf16) (harg2 : arg2.IsWhole)
    (arg3 : Memref sig .tc .vmem S1x256x1024 .bf16) (harg3 : arg3.IsWhole) (arg5 : Memref sig .tc .vmem S4x256x256 .bf16)
    (o h l : ℕ) (ho : o + 256 ≤ 2048) (hh : h < 4) (hl : l = h * 128) (inb inbk inbv inb')
    (x : (Rect.unit (s := S1x2048x512) ![0, o, l] S1x256x128.size inb').shape.Idx) :
    k0_pay55 (F := Ideal)
        (View.readAt (Elt Ideal) arg1.view (Rect.unit (s := S1x2048x512) ![0, o, l] S1x256x128.size inb).toLoadRect (harg1.unread x0))
        (View.readAt (Elt Ideal) arg3.view (Rect.unit (s := S1x256x1024) ![0, 0, l] S1x256x128.size inbk).toLoadRect (harg3.unread x2))
        (arg5.view.readCov (kernelRun0_A.sl.HS0_8 (F := Ideal) c arg3 harg3 x2) (Rect.unit (s := S4x256x256) ![h, 0, 0] S1x256x256.size inbv).toLoadRect)
        (View.readAt (Elt Ideal) arg2.view (Rect.unit (s := S1x2048x512) ![0, o, l] S1x256x128.size inb).toLoadRect (harg2.unread x1)) x
      = wantedBlock a0 a1 b ((Rect.unit (s := S1x2048x512) ![0, o, l] S1x256x128.size inb').emb x) := by
  subst hl
  obtain ⟨r, e, rfl⟩ : ∃ (r : Fin 256) (e : Fin 128), x = ix3 0 r e := ⟨x 1, x 2, by idx_ext⟩
  have tileq : ∀ (arg : Memref sig .tc .vmem S1x2048x512 .bf16) (harg : arg.IsWhole) (y : FVec Ideal S1x2048x512 .bf16) (e : Fin 128),
      View.readAt (Elt Ideal) arg.view (Rect.unit (s := S1x2048x512) ![0, o, h * 128] S1x256x128.size inb).toLoadRect (harg.unread y) (ix3 0 r e)
        = y (ix3 0 (⟨o + r.val, by omega⟩ : Fin 2048) (⟨h * 128 + e.val, by omega⟩ : Fin 512)) := fun arg harg y e => by
    rw [load_unread]
    refine congrArg y (funext fun a => Fin.ext ?_)
    match a with
    | ⟨0, _⟩ => rfl
    | ⟨1, _⟩ => show o + 1 * r.val = o + r.val; omega
    | ⟨2, _⟩ => show h * 128 + 1 * e.val = h * 128 + e.val; omega
  have tilek : ∀ (n : Fin 256) (e : Fin 128),
      View.readAt (Elt Ideal) arg3.view (Rect.unit (s := S1x256x1024) ![0, 0, h * 128] S1x256x128.size inbk).toLoadRect (harg3.unread x2) (ix3 0 n e)
        = x2 (ix3 0 n (⟨h * 128 + e.val, by omega⟩ : Fin 1024)) := fun n e => by
    rw [load_unread]
    refine congrArg x2 (funext fun a => Fin.ext ?_)
    match a with
    | ⟨0, _⟩ => rfl
    | ⟨1, _⟩ => show 0 + 1 * n.val = n.val; omega
    | ⟨2, _⟩ => show h * 128 + 1 * e.val = h * 128 + e.val; omega
  obtain ⟨x, hr, hs⟩ := scores (fun e => x0 (ix3 0 (⟨o + r.val, by omega⟩ : Fin 2048) (⟨h * 128 + e.val, by omega⟩ : Fin 512)))
    (fun n e => x2 (ix3 0 n (⟨h * 128 + e.val, by omega⟩ : Fin 1024))) (fun e => hq _ _) (fun n e => hk _ _ (show h * 128 + e.val < 512 by omega))
  refine (pay_row _ _ _ _ r e (fun n => x2 (ix3 0 n (⟨512 + 128 * h + e.val, by omega⟩ : Fin 1024))) (fun n j hj => ?_) (fun n j hj => ?_) x (fun n => ?_)).trans ?_
  · rw [extended_load]
    exact extended_value x2 _ n _ (show 0 + 1 * j.val < 128 by omega) (show 0 + 1 * n.val = n.val by omega)
      (show 512 + 128 * (h + 1 * 0) + (0 + 1 * j.val) = 512 + 128 * h + e.val by omega)
  · rw [extended_load]
    exact extended_one x2 _ (show 128 ≤ 0 + 1 * j.val by omega)
  · refine Eq.trans (Finset.sum_congr rfl fun e _ => ?_) (hs n)
    rw [tileq, tilek]
  · refine Eq.trans ?_ ((ref_row a0 a1 b (⟨o + r.val, by omega⟩ : Fin 2048) (⟨h, hh⟩ : Fin 4) e x (fun n => ?_)
      (fun n => x2 (ix3 0 n (⟨512 + 128 * h + e.val, by omega⟩ : Fin 1024)))
      (x1 (ix3 0 (⟨o + r.val, by omega⟩ : Fin 2048) (⟨h * 128 + e.val, by omega⟩ : Fin 512))) (fun n j hj => ?_) (fun j hj => ?_)).symm.trans ?_)
    · rw [tileq]
    · refine (ref_score a0 a1 b _ _ n _ (fun e => x2 (ix3 0 n (⟨h * 128 + e.val, by omega⟩ : Fin 1024))) (fun e j hj => ?_) (fun e j hj => ?_)).trans (hr n)
      · exact (h0 _ _ j hj).symm
      · exact (h2 n j).symm.trans (congrArg (fun j => x2 (ix3 0 n j)) (Fin.ext hj))
    · exact (h2 n j).symm.trans (congrArg (fun j => x2 (ix3 0 n j)) (Fin.ext (by show j.val = 512 + 128 * h + e.val; rw [hj]; show 512 + (h * 128 + e.val) = _; omega)))
    · exact (h1 _ _ j hj).symm
    · unfold wantedBlock
      refine congrArg₂ (fun (s : Fin 2048) (j : Fin 512) => Cert.MemoryRefIdeal.Read.val_main_v30 (F := Ideal) a0 a1 (ix3 b s j)) (Fin.ext ?_) (Fin.ext ?_)
      · show o + r.val = o + 1 * r.val; omega
      · show h * 128 + e.val = h * 128 + 1 * e.val; omega

/-- The body's stores into the block agree with the reference's. -/
theorem stores (c : Dev nD) (i : grid0.Coords) (arg1 : Memref sig .tc .vmem S1x2048x512 .bf16) (harg1 : arg1.IsWhole)
    (arg2 : Memref sig .tc .vmem S1x2048x512 .bf16) (harg2 : arg2.IsWhole)
    (arg3 : Memref sig .tc .vmem S1x256x1024 .bf16) (harg3 : arg3.IsWhole) (arg4 : Memref sig .tc .vmem S1x2048x512 .bf16) (harg4 : arg4.IsWhole)
    (arg5 : Memref sig .tc .vmem S4x256x256 .bf16) (harg5 : arg5.IsWhole) :
    Agrees (wantedBlock a0 a1 b) (kernelRun0_A (F := Ideal) c i arg1 harg1 arg2 harg2 arg3 harg3 arg4 harg4 arg5 harg5 x0 x1 x2).1 := by
  have P := piece x0 x1 x2 a0 a1 b h0 h1 h2 hq hk c arg1 harg1 arg2 harg2 arg3 harg3 arg5
  unfold kernelRun0_A
  dsimp only
  refine .cons (P 1792 3 384 (by decide) (by decide) rfl _ _ _ _) ?_
  refine .cons (P 1792 2 256 (by decide) (by decide) rfl _ _ _ _) ?_
  refine .cons (P 1792 1 128 (by decide) (by decide) rfl _ _ _ _) ?_
  refine .cons (P 1792 0 0 (by decide) (by decide) rfl _ _ _ _) ?_
  refine .cons (P 1536 3 384 (by decide) (by decide) rfl _ _ _ _) ?_
  refine .cons (P 1536 2 256 (by decide) (by decide) rfl _ _ _ _) ?_
  refine .cons (P 1536 1 128 (by decide) (by decide) rfl _ _ _ _) ?_
  refine .cons (P 1536 0 0 (by decide) (by decide) rfl _ _ _ _) ?_
  refine .cons (P 1280 3 384 (by decide) (by decide) rfl _ _ _ _) ?_
  refine .cons (P 1280 2 256 (by decide) (by decide) rfl _ _ _ _) ?_
  refine .cons (P 1280 1 128 (by decide) (by decide) rfl _ _ _ _) ?_
  refine .cons (P 1280 0 0 (by decide) (by decide) rfl _ _ _ _) ?_
  refine .cons (P 1024 3 384 (by decide) (by decide) rfl _ _ _ _) ?_
  refine .cons (P 1024 2 256 (by decide) (by decide) rfl _ _ _ _) ?_
  refine .cons (P 1024 1 128 (by decide) (by decide) rfl _ _ _ _) ?_
  refine .cons (P 1024 0 0 (by decide) (by decide) rfl _ _ _ _) ?_
  refine .cons (P 768 3 384 (by decide) (by decide) rfl _ _ _ _) ?_
  refine .cons (P 768 2 256 (by decide) (by decide) rfl _ _ _ _) ?_
  refine .cons (P 768 1 128 (by decide) (by decide) rfl _ _ _ _) ?_
  refine .cons (P 768 0 0 (by decide) (by decide) rfl _ _ _ _) ?_
  refine .cons (P 512 3 384 (by decide) (by decide) rfl _ _ _ _) ?_
  refine .cons (P 512 2 256 (by decide) (by decide) rfl _ _ _ _) ?_
  refine .cons (P 512 1 128 (by decide) (by decide) rfl _ _ _ _) ?_
  refine .cons (P 512 0 0 (by decide) (by decide) rfl _ _ _ _) ?_
  refine .cons (P 256 3 384 (by decide) (by decide) rfl _ _ _ _) ?_
  refine .cons (P 256 2 256 (by decide) (by decide) rfl _ _ _ _) ?_
  refine .cons (P 256 1 128 (by decide) (by decide) rfl _ _ _ _) ?_
  refine .cons (P 256 0 0 (by decide) (by decide) rfl _ _ _ _) ?_
  refine .cons (P 0 3 384 (by decide) (by decide) rfl _ _ _ _) ?_
  refine .cons (P 0 2 256 (by decide) (by decide) rfl _ _ _ _) ?_
  refine .cons (P 0 1 128 (by decide) (by decide) rfl _ _ _ _) ?_
  refine .cons (P 0 0 0 (by decide) (by decide) rfl _ _ _ _) ?_
  exact .nil _

/-- The block the body leaves. -/
theorem left (c : Dev nD) (i : grid0.Coords) (arg1 : Memref sig .tc .vmem S1x2048x512 .bf16) (harg1 : arg1.IsWhole)
    (arg2 : Memref sig .tc .vmem S1x2048x512 .bf16) (harg2 : arg2.IsWhole)
    (arg3 : Memref sig .tc .vmem S1x256x1024 .bf16) (harg3 : arg3.IsWhole) (arg4 : Memref sig .tc .vmem S1x2048x512 .bf16) (harg4 : arg4.IsWhole)
    (arg5 : Memref sig .tc .vmem S4x256x256 .bf16) (harg5 : arg5.IsWhole) (y : S1x2048x512.Idx) :
    out0_A_3 (F := Ideal) c i arg1 harg1 arg2 harg2 arg3 harg3 arg4 harg4 arg5 harg5 x0 x1 x2 y = wantedBlock a0 a1 b y := by
  have e := stores x0 x1 x2 a0 a1 b h0 h1 h2 hq hk c i arg1 harg1 arg2 harg2 arg3 harg3 arg4 harg4 arg5 harg5
  have w := cover0_A_3 (F := Ideal) c i arg1 harg1 arg2 harg2 arg3 harg3 arg4 harg4 arg5 harg5 x0 x1 x2 y
  unfold out0_A_3
  generalize (kernelRun0_A (F := Ideal) c i arg1 harg1 arg2 harg2 arg3 harg3 arg4 harg4 arg5 harg5 x0 x1 x2).1 = L at e w ⊢
  exact View.read_writes_apply_of_pieces _ _ _ _ e y w

end Pieces

end Cert.Proof.Memory

end
-- ==== Proof.MemoryArrays.lean ====
/- The memory mixer's result array: over the extended reals, the reference's, where the queries and the keys are finite. -/
module

public import proofs.«01_k».proof.Proof.MemoryBlock
public import proofs.«01_k».proof.Proof.Gen.Pre_finite_memory
public import Idealize.ShloMosaic.Lib.ReduceAll
public import Idealize.ShloMosaic.Lib.Affine

@[expose] public section

set_option maxRecDepth 16384

noncomputable section

namespace Cert.Proof.Memory

open Idealize.ShloMosaic Idealize.ShloMosaic.TcCoe Idealize.SL.Sem
open Idealize.ShloMosaic.Pipeline (Dat)
open Cert.MemoryIdeal Cert.MemoryIdeal.Gen
open scoped BigOperators

section Finite

variable (a0 : FVec Ideal Cert.Pre_finite_memory.S32x2048x8192 .bf16) (a1 : FVec Ideal Cert.Pre_finite_memory.S32x256x1024 .bf16)
    (h : Cert.Pre_finite_memory.fn (F := Ideal) a0 a1 = fun _ => 1#1)

include h

/-- The queries are real. -/
theorem queries_real (b : Fin 32) (s : Fin 2048) (j : Fin 512) (J : Fin 8192) (hJ : J.val = 4096 + j.val) : ∃ r : ℝ, a0 (ix3 b s J) = (r : EReal) := by
  have e := congrFun h (fun a => a.elim0)
  dsimp only [Cert.Pre_finite_memory.fn] at e
  have e := Host.reduce_andi_all _ _ _ _ _ (IntOp.andi_eq_one.1 e).1 (ix3 b s j)
  refine real_of_below _ (Eq.trans (congrArg (fun z => Ideal.cmp .olt (max z (-z)) _) (congrArg a0 ?_)) e)
  exact (funext fun a => Fin.ext (by match a with | ⟨0, _⟩ => exact (Nat.zero_add _).symm | ⟨1, _⟩ => exact (Nat.zero_add _).symm | ⟨2, _⟩ => exact hJ))

/-- The keys are real. -/
theorem keys_real (b : Fin 32) (n : Fin 256) (j : Fin 1024) (hj : j.val < 512) : ∃ r : ℝ, a1 (ix3 b n j) = (r : EReal) := by
  have e := congrFun h (fun a => a.elim0)
  dsimp only [Cert.Pre_finite_memory.fn] at e
  have e := Host.reduce_andi_all _ _ _ _ _ (IntOp.andi_eq_one.1 e).2 (ix3 b n (⟨j.val, hj⟩ : Fin 512))
  refine real_of_below _ (Eq.trans (congrArg (fun z => Ideal.cmp .olt (max z (-z)) _) (congrArg a1 ?_)) e)
  exact (funext fun a => Fin.ext (by match a with | ⟨0, _⟩ => exact (Nat.zero_add _).symm | ⟨1, _⟩ => exact (Nat.zero_add _).symm | ⟨2, _⟩ => exact (Nat.zero_add _).symm))

end Finite

variable (m : (ℓ : Loc nD τ sig) → Buf (Elt Ideal) ℓ)

/-- What the reference computes, of the kernel's own argument arrays. -/
def wanted (c : Dev nD) : FVec Ideal Cert.MemoryRefIdeal.S32x2048x512 .bf16 :=
  Cert.MemoryRefIdeal.Read.val_main_v30 (F := Ideal) (m ((c : Thread nD τ).loc main_arg0)) (m ((c : Thread nD τ).loc main_arg1))

/-- Which block each window shows at a grid point. -/
theorem blocks_at : ∀ t : Fin cfg0.N, win0_0.index t = ![t.val, 0, 8]
    ∧ win0_1.index t = ![t.val, 0, 9]
    ∧ win0_2.index t = ![t.val, 0, 0]
    ∧ win0_3.index t = ![t.val, 0, 0] :=
  (by decide +kernel : ∀ t : Fin grid0.N, _)

/-- One block at a grid point, its windows read from the arrays. -/
theorem block (c : Dev nD) (h : Cert.Pre_finite_memory.fn (F := Ideal) (m ((c : Thread nD τ).loc main_arg0)) (m ((c : Thread nD τ).loc main_arg1)) = fun _ => 1#1)
    (t : Fin cfg0.N) (y) : outsAt0 m c t y = wanted m c (((cfg0.win 3).blk t).view.emb y) := by
  have hN : t.val < 32 := lt_of_lt_of_eq t.isLt (show cfg0.N = 32 from N_0)
  have h0 : ∀ (s : Fin 2048) (j : Fin 512) (J : Fin 8192), J.val = 4096 + j.val →
      iblk m c 0 t (ix3 0 s j) = m ((c : Thread nD τ).loc main_arg0) (ix3 (⟨t.val, hN⟩ : Fin 32) s J) := fun s j J hJ => by
    obtain ⟨J, hJ'⟩ := J
    change J = 4096 + j.val at hJ
    subst hJ
    blk_point [iblk, V, blocks_at t]
  have h1 : ∀ (s : Fin 2048) (j : Fin 512) (J : Fin 8192), J.val = 4608 + j.val →
      iblk m c 1 t (ix3 0 s j) = m ((c : Thread nD τ).loc main_arg0) (ix3 (⟨t.val, hN⟩ : Fin 32) s J) := fun s j J hJ => by
    obtain ⟨J, hJ'⟩ := J
    change J = 4608 + j.val at hJ
    subst hJ
    blk_point [iblk, V, blocks_at t]
  have h2 : ∀ (n : Fin 256) (j : Fin 1024), iblk m c 2 t (ix3 0 n j) = m ((c : Thread nD τ).loc main_arg1) (ix3 (⟨t.val, hN⟩ : Fin 32) n j) := fun n j => by
    blk_point [iblk, V, blocks_at t]
  unfold outsAt0
  refine (left (iblk m c 0 t) (iblk m c 1 t) (iblk m c 2 t) (m ((c : Thread nD τ).loc main_arg0)) (m ((c : Thread nD τ).loc main_arg1)) (⟨t.val, hN⟩ : Fin 32)
    h0 h1 h2 (fun s j => ?_) (fun n j hj => ?_) c _ _ _ _ _ _ _ _ _ _ _ y).trans ?_
  · rw [h0 s j (⟨4096 + j.val, by omega⟩ : Fin 8192) rfl]
    exact queries_real _ _ h _ s j _ rfl
  · rw [h2]
    exact keys_real _ _ h _ n j hj
  · unfold wanted wantedBlock
    refine congrArg _ ?_
    blk_ext [blocks_at t]

/-- The whole array at the end of the launch is the reference's array. -/
theorem whole (c : Dev nD) (h : Cert.Pre_finite_memory.fn (F := Ideal) (m ((c : Thread nD τ).loc main_arg0)) (m ((c : Thread nD τ).loc main_arg1)) = fun _ => 1#1) :
    (dats m 0 c).arrAt 3 (cfgs 0).N = wanted m c := by
  refine (dats m 0 c).arrAt_eq_of_covers 3 _ (by decide +kernel) fun t hf y => ?_
  blk_simp
  rw [after0_3]
  exact block m c h t y

end Cert.Proof.Memory

end
-- ==== Proof.NeighbourMath.lean ====
/- The scores of the neighbourhood mixer, in the two bases. -/
module

public import proofs.«01_k».proof.NeighbourIdeal
public import proofs.«01_k».proof.Proof.MemoryMath

@[expose] public section

noncomputable section

namespace Cert.Proof.Neighbour

open Idealize.ShloMosaic
open Cert.Proof.Memory (sum_coe)
open scoped BigOperators

/-- The reciprocal of the square root of 64, as the reference writes it. -/
theorem bits_eighth : Ideal.ofBits .f32 0x3E000000#32 = (((Real.sqrt 64)⁻¹ : ℝ) : EReal) := by
  have e : Real.sqrt 64 = 8 := by rw [show (64 : ℝ) = 8 ^ 2 by norm_num]; exact Real.sqrt_sq (by norm_num)
  rw [e]
  simp [Ideal.ofBits, Ideal.ieee, -EReal.coe_mul]; norm_num

/-- The kernel's scale of the queries. -/
theorem scale : Named.named (F := Ideal) (φ := .f32) Cert.NeighbourIdeal.κ "qk_scale" 0x3E38AA3B#32 = (((Real.sqrt 64 * Real.log 2)⁻¹ : ℝ) : EReal) :=
  IdealRules.named_const.ideal_named_scalar _ _ _ _ rfl

/-- The kernel's scale of the biases. -/
theorem scale_bias : Named.named (F := Ideal) (φ := .f32) Cert.NeighbourIdeal.κ "log2_e" 0x3FB8AA3B#32 = (((Real.log 2)⁻¹ : ℝ) : EReal) :=
  IdealRules.named_const.ideal_named_scalar _ _ _ _ rfl

/-- The scores of finite queries, keys and biases are real, and the kernel's are those divided by the logarithm of two. -/
theorem scores (q : Fin 64 → EReal) (k : Fin 512 → Fin 64 → EReal) (t : Fin 512 → EReal) (hq : ∀ e, ∃ r : ℝ, q e = (r : EReal))
    (hk : ∀ n e, ∃ r : ℝ, k n e = (r : EReal)) (ht : ∀ n, ∃ r : ℝ, t n = (r : EReal)) :
    ∃ x : Fin 512 → ℝ, (∀ n, (∑ e, q e * k n e) * Ideal.ofBits .f32 0x3E000000#32 + t n = (x n : EReal))
      ∧ ∀ n, (∑ e, q e * Named.named (F := Ideal) (φ := .f32) Cert.NeighbourIdeal.κ "qk_scale" 0x3E38AA3B#32 * k n e)
          + t n * Named.named (F := Ideal) (φ := .f32) Cert.NeighbourIdeal.κ "log2_e" 0x3FB8AA3B#32 = ((x n * (Real.log 2)⁻¹ : ℝ) : EReal) := by
  choose Q hQ using hq
  choose K hK using hk
  choose T hT using ht
  have h64 : (0 : ℝ) < Real.sqrt 64 := Real.sqrt_pos.2 (by norm_num)
  have hl : Real.log 2 ≠ 0 := (Real.log_pos one_lt_two).ne'
  refine ⟨fun n => (∑ e, Q e * K n e) * (Real.sqrt 64)⁻¹ + T n, fun n => ?_, fun n => ?_⟩
  · rw [bits_eighth, hT, EReal.coe_add, EReal.coe_mul, ← sum_coe]
    congr 2
    exact Finset.sum_congr rfl fun e _ => by rw [hQ, hK, EReal.coe_mul]
  · show _ = ((((∑ e, Q e * K n e) * (Real.sqrt 64)⁻¹ + T n) * (Real.log 2)⁻¹ : ℝ) : EReal)
    rw [scale, scale_bias, hT, add_mul, EReal.coe_add, EReal.coe_mul (T n), Finset.sum_mul, Finset.sum_mul, ← sum_coe]
    congr 1
    refine Finset.sum_congr rfl fun e _ => ?_
    rw [hQ, hK, ← EReal.coe_mul, ← EReal.coe_mul]
    congr 1
    field_simp

/-- A sum over the lanes of which one half is masked is the sum over the other half. -/
theorem sum_half (f : Fin 128 → EReal) (h : Fin 2) (hf : ∀ l : Fin 128, l.val / 64 ≠ h.val → f l = 0) :
    ∑ l, f l = ∑ e : Fin 64, f ⟨h.val * 64 + e.val, by omega⟩ := by
  rw [show (∑ l, f l) = ∑ l : Fin (64 + 64), f l from rfl, Fin.sum_univ_add]
  match h, hf with
  | ⟨0, _⟩, hf =>
    rw [Finset.sum_eq_zero (f := fun i : Fin 64 => f (Fin.natAdd 64 i)) fun i _ => hf _ (by show (64 + i.val) / 64 ≠ 0; omega), add_zero]
    exact Finset.sum_congr rfl fun e _ => congrArg f (Fin.ext (by show e.val = 0 * 64 + e.val; omega))
  | ⟨1, _⟩, hf =>
    rw [Finset.sum_eq_zero (f := fun i : Fin 64 => f (Fin.castAdd 64 i)) fun i _ => hf _ (by show i.val / 64 ≠ 1; omega), zero_add]
    exact Finset.sum_congr rfl fun e _ => congrArg f (Fin.ext (by show 64 + e.val = 1 * 64 + e.val; omega))

end Cert.Proof.Neighbour

end
-- ==== Proof.NeighbourTile.lean ====
/- The neighbourhood mixer's tile: over the extended reals, every element the kernel stores is a gated softmax row. -/
module

public import proofs.«01_k».proof.Proof.Gen.NeighbourIdeal.Value
public import Idealize.ShloMosaic.Lib.Pipeline.ValueKit
public import Idealize.ShloMosaic.Lib.Pointwise
public import Idealize.ShloMosaic.PureOps.Ideal.Laws
public import proofs.«01_k».proof.Proof.NeighbourMath

@[expose] public section

set_option maxRecDepth 16384

noncomputable section

namespace Cert.Proof.Neighbour

open Idealize.ShloMosaic Idealize.ShloMosaic.TcCoe Idealize.SL.Sem
open Idealize.ShloMosaic.Pipeline (Dat)
open Cert.NeighbourIdeal Cert.NeighbourIdeal.Gen
open Cert.Proof.Memory
open scoped BigOperators

/-- One stored tile: the attention of the 64 queries of a row of the grid, for the two heads of a pair. -/
abbrev tile (q : FVec Ideal S1x64x128 .bf16) (k : FVec Ideal S1x512x128 .bf16) (vx : FVec Ideal S512x256 .bf16) (t : FVec Ideal S1x1x128x512 .f32)
    (g : FVec Ideal S1x64x128 .bf16) : FVec Ideal S1x64x128 .bf16 :=
  k0_pay16 (F := Ideal) (k0_pay4 q) (k0_pay5 k) vx t g

/-- Lane `e` of head `h` of a pair. -/
def lane (h : Fin 2) (e : Fin 64) : Fin 128 := ⟨h.val * 64 + e.val, by omega⟩

theorem lane_zero (p) (e : Fin 64) : lane ⟨0, p⟩ e = ⟨e.val, by omega⟩ := Fin.ext (show 0 * 64 + e.val = e.val by omega)

theorem lane_one (p) (e : Fin 64) : lane ⟨1, p⟩ e = ⟨64 + e.val, by omega⟩ := Fin.ext (show 1 * 64 + e.val = 64 + e.val by omega)

/-- The kernel's test of a lane for the first head. -/
theorem first_head : ∀ l : Fin 128, IntOp.cmpi .slt (BitVec.ofNat 32 l.val) 64#32 = if l.val < 64 then 1#1 else 0#1 := by decide

theorem select_one (a b : EReal) : Scalar.select 1#1 a b = a := rfl

theorem select_zero (a b : EReal) : Scalar.select 0#1 a b = b := rfl

/-- The masked sum of the first head. -/
theorem sum_first (f : Fin 128 → EReal) :
    (∑ l : Fin 128, Scalar.select (IntOp.cmpi .slt (BitVec.ofNat 32 l.val) 64#32) (f l) 0) = ∑ e : Fin 64, f ⟨e.val, by omega⟩ := by
  refine (sum_half _ ⟨0, two_pos⟩ fun l hl => ?_).trans (Finset.sum_congr rfl fun e _ => ?_)
  · rw [first_head, if_neg (by intro h; exact hl (Nat.div_eq_of_lt h)), select_zero]
  · have e0 : (⟨0 * 64 + e.val, by omega⟩ : Fin 128) = ⟨e.val, by omega⟩ := Fin.ext (show 0 * 64 + e.val = e.val by omega)
    rw [first_head, e0, if_pos e.isLt, select_one]

/-- The masked sum of the second head. -/
theorem sum_second (f : Fin 128 → EReal) :
    (∑ l : Fin 128, Scalar.select (IntOp.cmpi .slt (BitVec.ofNat 32 l.val) 64#32) 0 (f l)) = ∑ e : Fin 64, f ⟨64 + e.val, by omega⟩ := by
  refine (sum_half _ ⟨1, one_lt_two⟩ fun l hl => ?_).trans (Finset.sum_congr rfl fun e _ => ?_)
  · rw [first_head, if_pos (by have h : l.val / 64 ≠ 1 := hl; omega), select_one]
  · have e0 : (⟨1 * 64 + e.val, by omega⟩ : Fin 128) = ⟨64 + e.val, by omega⟩ := Fin.ext (show 1 * 64 + e.val = 64 + e.val by omega)
    rw [first_head, e0, if_neg (show ¬ (64 + e.val < 64) by omega), select_zero]

/-- A row of the kernel, from its real scores. -/
theorem row_value (x : Fin 512 → ℝ) (v w u : Fin 512 → EReal) (hw : ∀ n, w n = v n) (hu : ∀ n, u n = 1) (g : EReal) :
    Ideal.div ((∑ n, Ideal.exp2 (((x n * (Real.log 2)⁻¹ : ℝ) : EReal) - Finset.fold max ⊥ (fun n => ((x n * (Real.log 2)⁻¹ : ℝ) : EReal)) Finset.univ) * w n) * g)
        ((∑ n, Ideal.exp2 (((x n * (Real.log 2)⁻¹ : ℝ) : EReal) - Finset.fold max ⊥ (fun n => ((x n * (Real.log 2)⁻¹ : ℝ) : EReal)) Finset.univ) * u n) * (1 + Ideal.exp (0 - g)))
      = attended x v * (g * Ideal.div 1 (1 + Ideal.exp (-g))) := by
  obtain ⟨m, hm⟩ := fold_max_real Finset.univ ⟨(0 : Fin 512), Finset.mem_univ _⟩ (fun n => ((x n * (Real.log 2)⁻¹ : ℝ) : EReal)) fun n _ => ⟨_, rfl⟩
  rw [hm, funext hw, funext hu]
  exact kernel_row x v _ _ (Real.exp_pos (-(m * Real.log 2))) (base_two x m) g

/-- One element of a stored tile, from the real scores of its row: the extended values hold the values in their first half and
    ones in their second. -/
theorem pay_row (q g : FVec Ideal S1x64x128 .bf16) (k : FVec Ideal S1x512x128 .bf16) (vx : FVec Ideal S512x256 .bf16)
    (t : FVec Ideal S1x1x128x512 .f32) (r : Fin 64) (h : Fin 2) (e : Fin 64)
    (v : Fin 512 → EReal) (hv : ∀ (n : Fin 512) (j : Fin 256), j.val = (lane h e).val → vx (ix2 n j) = v n)
    (ho : ∀ (n : Fin 512) (j : Fin 256), 128 ≤ j.val → vx (ix2 n j) = 1) (x : Fin 512 → ℝ)
    (hx : ∀ n : Fin 512, (∑ e : Fin 64, q (ix3 0 r (lane h e)) * Named.named (F := Ideal) (φ := .f32) Cert.NeighbourIdeal.κ "qk_scale" 0x3E38AA3B#32 * k (ix3 0 n (lane h e)))
        + t (ix4 0 0 (lane h r) n) * Named.named (F := Ideal) (φ := .f32) Cert.NeighbourIdeal.κ "log2_e" 0x3FB8AA3B#32
      = ((x n * (Real.log 2)⁻¹ : ℝ) : EReal)) :
    tile q k vx t g (ix3 0 r (lane h e)) = attended x v * (g (ix3 0 r (lane h e)) * Ideal.div 1 (1 + Ideal.exp (-(g (ix3 0 r (lane h e)))))) := by
  unfold tile
  match h, hv, hx with
  | ⟨0, p⟩, hv, hx =>
    simp only [lane_zero] at hx hv ⊢
    pointwise [k0_pay16, k0_pay4, k0_pay5]
    rw [show IntOp.cmpi .slt (BitVec.ofNat 32 e.val) 64#32 = 1#1 from (first_head ⟨e.val, by omega⟩).trans (if_pos e.isLt), select_one, select_one]
    simp only [sum_first, hx, bits_bot]
    exact row_value x v _ _ (fun n => hv n _ rfl) (fun n => ho n _ (Nat.le_add_right _ _)) _
  | ⟨1, p⟩, hv, hx =>
    simp only [lane_one] at hx hv ⊢
    pointwise [k0_pay16, k0_pay4, k0_pay5]
    rw [show IntOp.cmpi .slt (BitVec.ofNat 32 (64 + e.val)) 64#32 = 0#1 from (first_head ⟨64 + e.val, by omega⟩).trans (if_neg (show ¬ (64 + e.val < 64) by omega)),
      select_zero, select_zero]
    simp only [sum_second, hx, bits_bot]
    exact row_value x v _ _ (fun n => hv n _ rfl) (fun n => ho n _ (Nat.le_add_right _ _)) _

end Cert.Proof.Neighbour

end
-- ==== Proof.NeighbourRef.lean ====
/- The neighbourhood mixer's reference, read at one element. -/
module

public import proofs.«01_k».proof.Proof.Gen.NeighbourRefIdeal.Read
public import proofs.«01_k».proof.Proof.NeighbourTile

@[expose] public section

set_option maxRecDepth 16384

noncomputable section

namespace Cert.Proof.Neighbour

open Idealize.ShloMosaic Idealize.ShloMosaic.TcCoe Idealize.SL.Sem
open Cert.NeighbourRefIdeal Cert.NeighbourRefIdeal.Gen Cert.NeighbourRefIdeal.Read
open Cert.Proof.Memory
open scoped BigOperators

/-- The first row of the window of keys of grid row `r`. -/
def first (r : Fin 32) : ℕ := min (r.val - 4) 24

/-- The rows that the reference gathers. -/
theorem window_row : ∀ (r : Fin 32) (w : Fin 8), (val_main_v26 (F := Ideal) (ix3 r w 0)).toInt.toNat = first r + w.val := by
  decide +kernel

theorem window_row' : ∀ (r : Fin 32) (w : Fin 8), (val_main_v34 (F := Ideal) (ix3 r w 0)).toInt.toNat = first r + w.val := by
  decide +kernel

theorem bias_row : ∀ (r : Fin 32), (val_main_v44 (F := Ideal) (ix2 r 0)).toInt.toNat = r.val - first r := by
  decide +kernel

/-- The coordinates at which a gather reads its operand. -/
theorem gather_at {s si t : Shape} {α : Type} {w : ℕ} (d : GatherDims s si t) (x : s.Idx → α) (idx : IVec si w) (y : t.Idx) (z : s.Idx)
    (hz : ∀ a, d.start y idx a + d.batchCoord y a + d.offCoord y a = (z a).val) : Host.gather d x idx y = x z := by
  unfold Host.gather
  exact congrArg x (funext fun a => Fin.ext (hz a))

/-- A gathered window of rows. -/
theorem gather_window (x : FVec Ideal S32x32x64x4x2x64 .f32) (idx : IVec S32x8x1 32) (b r : Fin 32) (w : Fin 8) (n : Fin 64) (p : Fin 4) (h : Fin 2) (e : Fin 64) :
    Host.gather gather_S32x32x64x4x2x64_S32x8x1_S32x32x8x64x4x2x64_03456_1_n_n_1_2_321644264 x idx (ix7 b r w n p h e) = x (ix6 b ⟨min (idx (ix3 r w 0)).toInt.toNat 31, by omega⟩ n p h e) := by
  refine gather_at _ x idx _ _ fun a => ?_
  rw [GatherDims.batchCoord_eq_zero _ _ _ List.not_mem_nil]
  unfold GatherDims.start GatherDims.offCoord
  match a with
  | ⟨0, l⟩ =>
    rw [dif_neg (show ⟨0, l⟩ ∉ gather_S32x32x64x4x2x64_S32x8x1_S32x32x8x64x4x2x64_03456_1_n_n_1_2_321644264.startIndexMap from (by decide : (0 : Fin 6) ∉ gather_S32x32x64x4x2x64_S32x8x1_S32x32x8x64x4x2x64_03456_1_n_n_1_2_321644264.startIndexMap)),
      dif_pos (show ⟨0, l⟩ ∈ gather_S32x32x64x4x2x64_S32x8x1_S32x32x8x64x4x2x64_03456_1_n_n_1_2_321644264.sKept from (by decide : (0 : Fin 6) ∈ gather_S32x32x64x4x2x64_S32x8x1_S32x32x8x64x4x2x64_03456_1_n_n_1_2_321644264.sKept)), Nat.zero_add]
    rfl
  | ⟨1, l⟩ =>
    rw [dif_pos (show ⟨1, l⟩ ∈ gather_S32x32x64x4x2x64_S32x8x1_S32x32x8x64x4x2x64_03456_1_n_n_1_2_321644264.startIndexMap from (by decide : (1 : Fin 6) ∈ gather_S32x32x64x4x2x64_S32x8x1_S32x32x8x64x4x2x64_03456_1_n_n_1_2_321644264.startIndexMap)),
      dif_neg (show ⟨1, l⟩ ∉ gather_S32x32x64x4x2x64_S32x8x1_S32x32x8x64x4x2x64_03456_1_n_n_1_2_321644264.sKept from (by decide : (1 : Fin 6) ∉ gather_S32x32x64x4x2x64_S32x8x1_S32x32x8x64x4x2x64_03456_1_n_n_1_2_321644264.sKept)), Nat.add_zero]
    refine congrArg (fun z => min (idx z).toInt.toNat 31) (funext fun a => Fin.ext ?_)
    match a with
    | ⟨0, _⟩ => rfl
    | ⟨1, _⟩ => rfl
    | ⟨2, _⟩ => rfl
  | ⟨2, l⟩ =>
    rw [dif_neg (show ⟨2, l⟩ ∉ gather_S32x32x64x4x2x64_S32x8x1_S32x32x8x64x4x2x64_03456_1_n_n_1_2_321644264.startIndexMap from (by decide : (2 : Fin 6) ∉ gather_S32x32x64x4x2x64_S32x8x1_S32x32x8x64x4x2x64_03456_1_n_n_1_2_321644264.startIndexMap)),
      dif_pos (show ⟨2, l⟩ ∈ gather_S32x32x64x4x2x64_S32x8x1_S32x32x8x64x4x2x64_03456_1_n_n_1_2_321644264.sKept from (by decide : (2 : Fin 6) ∈ gather_S32x32x64x4x2x64_S32x8x1_S32x32x8x64x4x2x64_03456_1_n_n_1_2_321644264.sKept)), Nat.zero_add]
    rfl
  | ⟨3, l⟩ =>
    rw [dif_neg (show ⟨3, l⟩ ∉ gather_S32x32x64x4x2x64_S32x8x1_S32x32x8x64x4x2x64_03456_1_n_n_1_2_321644264.startIndexMap from (by decide : (3 : Fin 6) ∉ gather_S32x32x64x4x2x64_S32x8x1_S32x32x8x64x4x2x64_03456_1_n_n_1_2_321644264.startIndexMap)),
      dif_pos (show ⟨3, l⟩ ∈ gather_S32x32x64x4x2x64_S32x8x1_S32x32x8x64x4x2x64_03456_1_n_n_1_2_321644264.sKept from (by decide : (3 : Fin 6) ∈ gather_S32x32x64x4x2x64_S32x8x1_S32x32x8x64x4x2x64_03456_1_n_n_1_2_321644264.sKept)), Nat.zero_add]
    rfl
  | ⟨4, l⟩ =>
    rw [dif_neg (show ⟨4, l⟩ ∉ gather_S32x32x64x4x2x64_S32x8x1_S32x32x8x64x4x2x64_03456_1_n_n_1_2_321644264.startIndexMap from (by decide : (4 : Fin 6) ∉ gather_S32x32x64x4x2x64_S32x8x1_S32x32x8x64x4x2x64_03456_1_n_n_1_2_321644264.startIndexMap)),
      dif_pos (show ⟨4, l⟩ ∈ gather_S32x32x64x4x2x64_S32x8x1_S32x32x8x64x4x2x64_03456_1_n_n_1_2_321644264.sKept from (by decide : (4 : Fin 6) ∈ gather_S32x32x64x4x2x64_S32x8x1_S32x32x8x64x4x2x64_03456_1_n_n_1_2_321644264.sKept)), Nat.zero_add]
    rfl
  | ⟨5, l⟩ =>
    rw [dif_neg (show ⟨5, l⟩ ∉ gather_S32x32x64x4x2x64_S32x8x1_S32x32x8x64x4x2x64_03456_1_n_n_1_2_321644264.startIndexMap from (by decide : (5 : Fin 6) ∉ gather_S32x32x64x4x2x64_S32x8x1_S32x32x8x64x4x2x64_03456_1_n_n_1_2_321644264.startIndexMap)),
      dif_pos (show ⟨5, l⟩ ∈ gather_S32x32x64x4x2x64_S32x8x1_S32x32x8x64x4x2x64_03456_1_n_n_1_2_321644264.sKept from (by decide : (5 : Fin 6) ∈ gather_S32x32x64x4x2x64_S32x8x1_S32x32x8x64x4x2x64_03456_1_n_n_1_2_321644264.sKept)), Nat.zero_add]
    rfl

/-- The gathered rows of the biases. -/
theorem gather_bias (x : FVec Ideal S4x8x2x64x512 .f32) (idx : IVec S32x1 32) (p : Fin 4) (r : Fin 32) (h : Fin 2) (c : Fin 64) (n : Fin 512) :
    Host.gather gather_S4x8x2x64x512_S32x1_S4x32x2x64x512_0234_1_n_n_1_1_41264512 x idx (ix5 p r h c n) = x (ix5 p ⟨min (idx (ix2 r 0)).toInt.toNat 7, by omega⟩ h c n) := by
  refine gather_at _ x idx _ _ fun a => ?_
  rw [GatherDims.batchCoord_eq_zero _ _ _ List.not_mem_nil]
  unfold GatherDims.start GatherDims.offCoord
  match a with
  | ⟨0, l⟩ =>
    rw [dif_neg (show ⟨0, l⟩ ∉ gather_S4x8x2x64x512_S32x1_S4x32x2x64x512_0234_1_n_n_1_1_41264512.startIndexMap from (by decide : (0 : Fin 5) ∉ gather_S4x8x2x64x512_S32x1_S4x32x2x64x512_0234_1_n_n_1_1_41264512.startIndexMap)),
      dif_pos (show ⟨0, l⟩ ∈ gather_S4x8x2x64x512_S32x1_S4x32x2x64x512_0234_1_n_n_1_1_41264512.sKept from (by decide : (0 : Fin 5) ∈ gather_S4x8x2x64x512_S32x1_S4x32x2x64x512_0234_1_n_n_1_1_41264512.sKept)), Nat.zero_add]
    rfl
  | ⟨1, l⟩ =>
    rw [dif_pos (show ⟨1, l⟩ ∈ gather_S4x8x2x64x512_S32x1_S4x32x2x64x512_0234_1_n_n_1_1_41264512.startIndexMap from (by decide : (1 : Fin 5) ∈ gather_S4x8x2x64x512_S32x1_S4x32x2x64x512_0234_1_n_n_1_1_41264512.startIndexMap)),
      dif_neg (show ⟨1, l⟩ ∉ gather_S4x8x2x64x512_S32x1_S4x32x2x64x512_0234_1_n_n_1_1_41264512.sKept from (by decide : (1 : Fin 5) ∉ gather_S4x8x2x64x512_S32x1_S4x32x2x64x512_0234_1_n_n_1_1_41264512.sKept)), Nat.add_zero]
    refine congrArg (fun z => min (idx z).toInt.toNat 7) (funext fun a => Fin.ext ?_)
    match a with
    | ⟨0, _⟩ => rfl
    | ⟨1, _⟩ => rfl
  | ⟨2, l⟩ =>
    rw [dif_neg (show ⟨2, l⟩ ∉ gather_S4x8x2x64x512_S32x1_S4x32x2x64x512_0234_1_n_n_1_1_41264512.startIndexMap from (by decide : (2 : Fin 5) ∉ gather_S4x8x2x64x512_S32x1_S4x32x2x64x512_0234_1_n_n_1_1_41264512.startIndexMap)),
      dif_pos (show ⟨2, l⟩ ∈ gather_S4x8x2x64x512_S32x1_S4x32x2x64x512_0234_1_n_n_1_1_41264512.sKept from (by decide : (2 : Fin 5) ∈ gather_S4x8x2x64x512_S32x1_S4x32x2x64x512_0234_1_n_n_1_1_41264512.sKept)), Nat.zero_add]
    rfl
  | ⟨3, l⟩ =>
    rw [dif_neg (show ⟨3, l⟩ ∉ gather_S4x8x2x64x512_S32x1_S4x32x2x64x512_0234_1_n_n_1_1_41264512.startIndexMap from (by decide : (3 : Fin 5) ∉ gather_S4x8x2x64x512_S32x1_S4x32x2x64x512_0234_1_n_n_1_1_41264512.startIndexMap)),
      dif_pos (show ⟨3, l⟩ ∈ gather_S4x8x2x64x512_S32x1_S4x32x2x64x512_0234_1_n_n_1_1_41264512.sKept from (by decide : (3 : Fin 5) ∈ gather_S4x8x2x64x512_S32x1_S4x32x2x64x512_0234_1_n_n_1_1_41264512.sKept)), Nat.zero_add]
    rfl
  | ⟨4, l⟩ =>
    rw [dif_neg (show ⟨4, l⟩ ∉ gather_S4x8x2x64x512_S32x1_S4x32x2x64x512_0234_1_n_n_1_1_41264512.startIndexMap from (by decide : (4 : Fin 5) ∉ gather_S4x8x2x64x512_S32x1_S4x32x2x64x512_0234_1_n_n_1_1_41264512.startIndexMap)),
      dif_pos (show ⟨4, l⟩ ∈ gather_S4x8x2x64x512_S32x1_S4x32x2x64x512_0234_1_n_n_1_1_41264512.sKept from (by decide : (4 : Fin 5) ∈ gather_S4x8x2x64x512_S32x1_S4x32x2x64x512_0234_1_n_n_1_1_41264512.sKept)), Nat.zero_add]
    rfl

variable (a0 : FVec Ideal S32x2048x8192 .bf16) (a1 : FVec Ideal S4x8x128x512 .f32) (b r : Fin 32) (p : Fin 4) (h : Fin 2) (c : Fin 64)

/-- The queries. -/
theorem ref_query (e : Fin 64) (z : EReal) (hz : ∀ (s : Fin 2048) (J : Fin 8192), s.val = r.val * 64 + c.val → J.val = 1536 + (p.val * 384 + h.val * 64 + e.val) → a0 (ix3 b s J) = z) :
    val_main_v4 (F := Ideal) a0 (ix6 b r c p h e) = z := by
  pointwise [val_main_v0, val_main_v1, val_main_v2, val_main_v3, val_main_v4]
  refine hz _ _ ?_ ?_ <;> first | rfl | (dsimp only; omega)

/-- The keys, before the windows are gathered. -/
theorem ref_key (e : Fin 64) (z : EReal) (hz : ∀ (s : Fin 2048) (J : Fin 8192), s.val = r.val * 64 + c.val → J.val = 1664 + (p.val * 384 + h.val * 64 + e.val) → a0 (ix3 b s J) = z) :
    val_main_v6 (F := Ideal) a0 (ix6 b r c p h e) = z := by
  pointwise [val_main_v0, val_main_v1, val_main_v2, val_main_v5, val_main_v6]
  refine hz _ _ ?_ ?_ <;> first | rfl | (dsimp only; omega)

/-- The values, before the windows are gathered. -/
theorem ref_val (e : Fin 64) (z : EReal) (hz : ∀ (s : Fin 2048) (J : Fin 8192), s.val = r.val * 64 + c.val → J.val = 1792 + (p.val * 384 + h.val * 64 + e.val) → a0 (ix3 b s J) = z) :
    val_main_v8 (F := Ideal) a0 (ix6 b r c p h e) = z := by
  pointwise [val_main_v0, val_main_v1, val_main_v2, val_main_v7, val_main_v8]
  refine hz _ _ ?_ ?_ <;> first | rfl | (dsimp only; omega)

theorem first_le (w : Fin 8) : first r + w.val ≤ 31 := by unfold first; omega

/-- The keys of the window of row `r`. -/
theorem ref_keys (n : Fin 512) (e : Fin 64) (z : EReal)
    (hz : ∀ (s : Fin 2048) (J : Fin 8192), s.val = first r * 64 + n.val → J.val = 1664 + (p.val * 384 + h.val * 64 + e.val) → a0 (ix3 b s J) = z) :
    val_main_v28 (F := Ideal) a0 (ix6 b r n p h e) = z := by
  have row : (val_main_v26 (F := Ideal) (ix3 r (⟨n.val / 64, by omega⟩ : Fin 8) 0)).toInt.toNat = first r + n.val / 64 := window_row r ⟨n.val / 64, by omega⟩
  have le := first_le r ⟨n.val / 64, by omega⟩
  have key := fun (i : Fin 32) (hi : i.val = first r + n.val / 64) => ref_key a0 b i p h ⟨n.val % 64, by omega⟩ e z fun s J hs hJ =>
    hz s J (by rw [hs, hi]; show (first r + n.val / 64) * 64 + n.val % 64 = _; omega) hJ
  unfold val_main_v28 val_main_v27
  generalize val_main_v6 (F := Ideal) a0 = y at key ⊢
  generalize val_main_v26 (F := Ideal) = i at row ⊢
  pointwise []
  rw [gather_window]
  exact key _ (by show min _ 31 = _; rw [row]; exact min_eq_left le)

/-- The values of the window of row `r`. -/
theorem ref_vals (n : Fin 512) (e : Fin 64) (z : EReal)
    (hz : ∀ (s : Fin 2048) (J : Fin 8192), s.val = first r * 64 + n.val → J.val = 1792 + (p.val * 384 + h.val * 64 + e.val) → a0 (ix3 b s J) = z) :
    val_main_v36 (F := Ideal) a0 (ix6 b r n p h e) = z := by
  have row : (val_main_v34 (F := Ideal) (ix3 r (⟨n.val / 64, by omega⟩ : Fin 8) 0)).toInt.toNat = first r + n.val / 64 := window_row' r ⟨n.val / 64, by omega⟩
  have le := first_le r ⟨n.val / 64, by omega⟩
  have key := fun (i : Fin 32) (hi : i.val = first r + n.val / 64) => ref_val a0 b i p h ⟨n.val % 64, by omega⟩ e z fun s J hs hJ =>
    hz s J (by rw [hs, hi]; show (first r + n.val / 64) * 64 + n.val % 64 = _; omega) hJ
  unfold val_main_v36 val_main_v35
  generalize val_main_v8 (F := Ideal) a0 = y at key ⊢
  generalize val_main_v34 (F := Ideal) = i at row ⊢
  pointwise []
  rw [gather_window]
  exact key _ (by show min _ 31 = _; rw [row]; exact min_eq_left le)

/-- The biases of row `r`. -/
theorem ref_bias (n : Fin 512) (z : EReal) (hz : ∀ (o : Fin 8) (l : Fin 128), o.val = r.val - first r → l.val = h.val * 64 + c.val → a1 (ix4 p o l n) = z) :
    val_main_v51 (F := Ideal) a1 (ix6 b r p h c n) = z := by
  have row := bias_row r
  have le : r.val - first r ≤ 7 := by unfold first; omega
  have key : ∀ o : Fin 8, o.val = r.val - first r → val_main_v37 (F := Ideal) a1 (ix5 p o h c n) = z := fun o ho => by
    pointwise [val_main_v37]
    refine hz _ _ ?_ ?_ <;> first | exact ho | rfl | (dsimp only; omega)
  unfold val_main_v51 val_main_v50 val_main_v46 val_main_v45
  generalize val_main_v37 (F := Ideal) a1 = y at key ⊢
  generalize val_main_v44 (F := Ideal) = i at row ⊢
  pointwise []
  rw [gather_bias]
  exact key _ (by show min _ 7 = _; rw [row]; exact min_eq_left le)

/-- The scores. -/
theorem ref_score (n : Fin 512) (Q K : Fin 64 → EReal) (T : EReal) (hQ : ∀ e, val_main_v4 (F := Ideal) a0 (ix6 b r c p h e) = Q e)
    (hK : ∀ e, val_main_v28 (F := Ideal) a0 (ix6 b r n p h e) = K e) (hT : val_main_v51 (F := Ideal) a1 (ix6 b r p h c n) = T) :
    val_main_v52 (F := Ideal) a0 a1 (ix6 b r p h c n) = (∑ e, Q e * K e) * Ideal.ofBits .f32 0x3E000000#32 + T := by
  have dot : val_main_v47 (F := Ideal) a0 (ix6 b r p h c n) = ∑ e, Q e * K e := by
    rw [val_main_v47_apply]
    refine Finset.sum_congr rfl fun e _ => ?_
    rw [← hQ e, ← hK e]
    exact congrArg₂ (fun i j => val_main_v4 (F := Ideal) a0 i * val_main_v28 (F := Ideal) a0 j) (by idx_ext) (by idx_ext)
  rw [val_main_v52_apply, val_main_v49_apply, val_main_v48_apply, dot, hT]
  rfl

/-- The greatest score of a row. -/
theorem ref_top (y : FVec Ideal S32x32x4x2x64x512 .f32) (z : FVec Ideal S_ .f32) :
    Host.reduce FloatOps.maximumf y z reducesTo_S32x32x4x2x64x512_S32x32x4x2x64_d5 h_S_ (ix5 b r p h c)
      = (Finset.univ : Finset (Fin 512)).fold max (z (Shape.Idx.first h_S_)) (fun n => y (ix6 b r p h c n)) := by
  have hr : Shape.Reduces S32x32x4x2x64x512 [5] S32x32x4x2x64 := by decide
  have e := Host.reduce_eq_fold (FloatOps.maximumf (F := Ideal) (φ := .f32)) y z reducesTo_S32x32x4x2x64x512_S32x32x4x2x64_d5 h_S_ (ix5 b r p h c)
  rw [reducesTo_S32x32x4x2x64x512_S32x32x4x2x64_d5.drop_eq_drop hr, hr.fold_filter_drop_single] at e
  refine e.trans (congrArg (fun f => (Finset.univ : Finset (Fin 512)).fold max _ f) (funext fun n => congrArg y ?_))
  exact (funext fun a => Fin.ext (by match a with | ⟨0, _⟩ => rfl | ⟨1, _⟩ => rfl | ⟨2, _⟩ => rfl | ⟨3, _⟩ => rfl | ⟨4, _⟩ => rfl | ⟨5, _⟩ => rfl))

/-- The weights before their normalization. -/
theorem ref_weight (n : Fin 512) :
    val_main_v59 (F := Ideal) a0 a1 (ix6 b r p h c n)
      = Ideal.exp (val_main_v52 (F := Ideal) a0 a1 (ix6 b r p h c n)
          - max (Ideal.ofBits .f32 0xFF800000#32) (val_main_v53 (F := Ideal) a0 a1 (ix5 b r p h c))) := by
  rw [val_main_v59_apply, val_main_v58_apply, val_main_v57_apply, val_main_v56_apply, val_main_v55_apply, val_main_v54_apply,
    show idx_main_v56 (idx_main_v57 (ix6 b r p h c n)) = ix5 b r p h c by idx_ext]
  generalize val_main_v53 (F := Ideal) a0 a1 (ix5 b r p h c) = z
  generalize val_main_v52 (F := Ideal) a0 a1 (ix6 b r p h c n) = y
  rfl

/-- The result, from the weights. -/
theorem ref_out (e : Fin 64) (v : Fin 512 → EReal) (g : EReal) (hv : ∀ n, val_main_v36 (F := Ideal) a0 (ix6 b r n p h e) = v n)
    (hg : ∀ (s : Fin 2048) (J : Fin 8192), s.val = r.val * 64 + c.val → J.val = 3584 + (p.val * 128 + (h.val * 64 + e.val)) → a0 (ix3 b s J) = g) :
    val_main_v69 (F := Ideal) a0 a1 (ix3 b ⟨r.val * 64 + c.val, by omega⟩ ⟨p.val * 128 + (h.val * 64 + e.val), by omega⟩)
      = (∑ n, v n * Ideal.div (val_main_v59 (F := Ideal) a0 a1 (ix6 b r p h c n)) (0 + ∑ n, val_main_v59 (F := Ideal) a0 a1 (ix6 b r p h c n)))
        * (g * Ideal.div 1 (1 + Ideal.exp (-g))) := by
  have total : val_main_v60 (F := Ideal) a0 a1 (ix5 b r p h c) = 0 + ∑ n, val_main_v59 (F := Ideal) a0 a1 (ix6 b r p h c n) := by
    rw [val_main_v60_apply]
    refine congrArg₂ (· + ·) ?_ (Finset.sum_congr rfl fun n _ => congrArg _ (by idx_ext))
    pointwise [val_main_cst_10]
  unfold val_main_v69 val_main_v68 val_main_v66 val_main_v65 val_main_v64 val_main_v63 val_main_v62 val_main_v61
  generalize val_main_v60 (F := Ideal) a0 a1 = t at total ⊢
  generalize val_main_v59 (F := Ideal) a0 a1 = y at total ⊢
  generalize val_main_v36 (F := Ideal) a0 = u at hv ⊢
  pointwise [val_main_v9, val_main_v10, val_main_v67, val_main_call1_v0, val_main_call1_v1, val_main_call1_v2, val_main_call1_v3,
    val_main_call1_v4, val_main_call1_v5, val_main_call1_cst, val_main_call1_cst_0]
  rw [hg _ _ rfl rfl]
  refine congrArg (· * _) (Finset.sum_congr rfl fun n _ => ?_)
  rw [hv, total, zero_add]

/-- The result, from real scores. -/
theorem ref_row (e : Fin 64) (x : Fin 512 → ℝ) (hx : ∀ n, val_main_v52 (F := Ideal) a0 a1 (ix6 b r p h c n) = (x n : EReal)) (v : Fin 512 → EReal) (g : EReal)
    (hv : ∀ n, val_main_v36 (F := Ideal) a0 (ix6 b r n p h e) = v n)
    (hg : ∀ (s : Fin 2048) (J : Fin 8192), s.val = r.val * 64 + c.val → J.val = 3584 + (p.val * 128 + (h.val * 64 + e.val)) → a0 (ix3 b s J) = g) :
    val_main_v69 (F := Ideal) a0 a1 (ix3 b ⟨r.val * 64 + c.val, by omega⟩ ⟨p.val * 128 + (h.val * 64 + e.val), by omega⟩)
      = attended x v * (g * Ideal.div 1 (1 + Ideal.exp (-g))) := by
  obtain ⟨m, hm⟩ := fold_max_real Finset.univ ⟨(0 : Fin 512), Finset.mem_univ _⟩ (fun n => (x n : EReal)) fun n _ => ⟨_, rfl⟩
  have top : val_main_v53 (F := Ideal) a0 a1 (ix5 b r p h c) = (m : EReal) := by
    unfold val_main_v53
    rw [ref_top, ← hm, ← bits_bot]
    simp only [hx]
    rfl
  rw [ref_out a0 a1 b r p h c e v g hv hg, reference_row x v _ m fun n => ?_]
  rw [ref_weight, hx, top, bits_bot, max_eq_right bot_le]

end Cert.Proof.Neighbour

end
-- ==== Proof.NeighbourBlock.lean ====
/- What the neighbourhood mixer's body leaves in one block of the result. -/
module

public import proofs.«01_k».proof.Proof.NeighbourTile
public import proofs.«01_k».proof.Proof.NeighbourRef
public import proofs.«01_k».proof.Proof.ProjStores

@[expose] public section

set_option maxRecDepth 16384

noncomputable section

namespace Cert.Proof.Neighbour

open Idealize.ShloMosaic Idealize.ShloMosaic.TcCoe Idealize.SL.Sem
open Cert.NeighbourIdeal Cert.NeighbourIdeal.Gen
open Cert.Proof.ProjIdeal (Agrees)
open Cert.Proof.Memory (attended bits_one)
open scoped BigOperators

/-- A load from a buffer that holds `x`. -/
theorem load_unread {S : Shape} {e : EltTy} (v : Memref sig .tc .vmem S e) (hv : v.IsWhole) (x : S.Idx → Elt Ideal e) (B : LoadRect S) (j : B.shape.Idx) :
    View.readAt (Elt Ideal) v.view B (hv.unread x) j = x (B.idx j) := by
  rw [View.readAt_apply, hv.read_unread]

section Extended

variable (x0 : FVec Ideal S1x2048x384 .bf16)

/-- The extended values: the values of the two heads, and ones beside them. -/
def extended (y : S2048x256.Idx) : Elt Ideal .bf16 := if h : (y 1).val < 128 then x0 (ix3 0 (y 0) ⟨256 + (y 1).val, by omega⟩) else 1

theorem extended_one (y : S2048x256.Idx) (h : 128 ≤ (y 1).val) : extended x0 y = 1 := dif_neg (Nat.not_lt.2 h)

theorem extended_value (y : S2048x256.Idx) (n : Fin 2048) (k : Fin 384) (h : (y 1).val < 128) (hn : (y 0).val = n.val)
    (hk : 256 + (y 1).val = k.val) : extended x0 y = x0 (ix3 0 n k) :=
  (dif_pos h).trans (congrArg₂ (fun (n : Fin 2048) (k : Fin 384) => x0 (ix3 0 n k)) (Fin.ext hn) (Fin.ext hk))

/-- The store of ones. -/
theorem ones_piece (inb) (x : (Rect.unit (s := S2048x256) ![0, 128] S2048x128.size inb).shape.Idx) :
    k0_pay2 (F := Ideal) x = extended x0 ((Rect.unit (s := S2048x256) ![0, 128] S2048x128.size inb).emb x) := by
  obtain ⟨n, e, rfl⟩ : ∃ (n : Fin 2048) (e : Fin 128), x = ix2 n e := ⟨x 0, x 1, by idx_ext⟩
  refine Eq.trans ?_ (extended_one x0 _ (show 128 ≤ 128 + 1 * e.val by omega)).symm
  exact bits_one

/-- The store of the values. -/
theorem values_piece (arg2 : Memref sig .tc .vmem S1x2048x384 .bf16) (harg2 : arg2.IsWhole) (inb inb')
    (x : (Rect.unit (s := S2048x256) ![0, 0] S2048x128.size inb).shape.Idx) :
    k0_pay3 (F := Ideal) (View.readAt (Elt Ideal) arg2.view (Rect.unit (s := S1x2048x384) ![0, 0, 256] S1x2048x128.size inb').toLoadRect (harg2.unread x0)) x
      = extended x0 ((Rect.unit (s := S2048x256) ![0, 0] S2048x128.size inb).emb x) := by
  obtain ⟨n, e, rfl⟩ : ∃ (n : Fin 2048) (e : Fin 128), x = ix2 n e := ⟨x 0, x 1, by idx_ext⟩
  refine Eq.trans ?_ (extended_value x0 _ n (⟨256 + e.val, by omega⟩ : Fin 384) (show 0 + 1 * e.val < 128 by omega)
    (show 0 + 1 * n.val = n.val by omega) (show 256 + (0 + 1 * e.val) = 256 + e.val by omega)).symm
  pointwise [k0_pay3]
  rw [load_unread]
  refine congrArg x0 (funext fun a => Fin.ext ?_)
  match a with
  | ⟨0, _⟩ => rfl
  | ⟨1, _⟩ => show 0 + 1 * n.val = n.val; omega
  | ⟨2, _⟩ => show 256 + 1 * e.val = 256 + e.val; omega

variable (c : Dev nD) (arg2 : Memref sig .tc .vmem S1x2048x384 .bf16) (harg2 : arg2.IsWhole) (arg6 : Memref sig .tc .vmem S2048x256 .bf16)

/-- The body's stores into the extended values agree with them. -/
theorem extended_stores : Agrees (extended x0) (kernelRun0_A.sl.HS0_2 (F := Ideal) c arg2 harg2 x0) := by
  unfold kernelRun0_A.sl.HS0_2
  exact .cons (values_piece x0 arg2 harg2 _ _) <| .cons (ones_piece x0 _) <| .nil _

/-- A load of a window's extended values. -/
theorem extended_load (B : LoadRect S2048x256) (j : B.shape.Idx) :
    arg6.view.readCov (kernelRun0_A.sl.HS0_2 (F := Ideal) c arg2 harg2 x0) B j = extended x0 (B.idx j) := by
  rw [View.readCov_eq_canon']
  exact View.canon_apply_of_pieces _ _ (extended_stores x0 c arg2 harg2) _
    (View.cover_of_tiledL (kernelRun0_A.sl.HS0_2 (F := Ideal) c arg2 harg2 x0) S2048x128.size (by sl_kernel_rfl) (B.idx j))

end Extended

section Pieces

variable (x0 : FVec Ideal S1x2048x384 .bf16) (x1 : FVec Ideal S1x2048x128 .bf16) (x2 : FVec Ideal S1x8x128x512 .f32)
    (a0 : FVec Ideal Cert.NeighbourRefIdeal.S32x2048x8192 .bf16) (a1 : FVec Ideal Cert.NeighbourRefIdeal.S4x8x128x512 .f32) (b : Fin 32) (p : Fin 4)

/-- The reference's block. -/
def wantedBlock (y : S1x2048x128.Idx) : Elt Ideal .bf16 :=
  Cert.NeighbourRefIdeal.Read.val_main_v69 (F := Ideal) a0 a1 (ix3 b (y 1) ⟨p.val * 128 + (y 2).val, by have h : (y 2).val < 128 := (y 2).isLt; omega⟩)

variable (h0 : ∀ (s : Fin 2048) (j : Fin 384) (J : Fin 8192), J.val = 1536 + (p.val * 384 + j.val) → x0 (ix3 0 s j) = a0 (ix3 b s J))
    (h1 : ∀ (s : Fin 2048) (j : Fin 128) (J : Fin 8192), J.val = 3584 + (p.val * 128 + j.val) → x1 (ix3 0 s j) = a0 (ix3 b s J))
    (h2 : ∀ (o : Fin 8) (l : Fin 128) (n : Fin 512), x2 (ix4 0 o l n) = a1 (ix4 p o l n))
    (hq : ∀ (s : Fin 2048) (j : Fin 384), j.val < 256 → ∃ r : ℝ, x0 (ix3 0 s j) = (r : EReal))
    (ht : ∀ (o : Fin 8) (l : Fin 128) (n : Fin 512), ∃ r : ℝ, x2 (ix4 0 o l n) = (r : EReal))

include h0 h1 h2 hq ht

/-- One stored tile: the queries of row `r` of the grid. -/
theorem piece (c : Dev nD) (arg2 : Memref sig .tc .vmem S1x2048x384 .bf16) (harg2 : arg2.IsWhole) (arg3 : Memref sig .tc .vmem S1x2048x128 .bf16) (harg3 : arg3.IsWhole)
    (arg4 : Memref sig .tc .vmem S1x8x128x512 .f32) (harg4 : arg4.IsWhole) (arg6 : Memref sig .tc .vmem S2048x256 .bf16)
    (r : Fin 32) (o w d : ℕ) (ho : o = r.val * 64) (hw : w = first r * 64) (hd : d = r.val - first r) (inb inbk inbv inbt inbg inb')
    (x : (Rect.unit (s := S1x2048x128) ![0, o, 0] S1x64x128.size inb').shape.Idx) :
    tile (View.readAt (Elt Ideal) arg2.view (Rect.unit (s := S1x2048x384) ![0, o, 0] S1x64x128.size inb).toLoadRect (harg2.unread x0))
        (View.readAt (Elt Ideal) arg2.view (Rect.unit (s := S1x2048x384) ![0, w, 128] S1x512x128.size inbk).toLoadRect (harg2.unread x0))
        (arg6.view.readCov (kernelRun0_A.sl.HS0_2 (F := Ideal) c arg2 harg2 x0) (Rect.unit (s := S2048x256) ![w, 0] S512x256.size inbv).toLoadRect)
        (View.readAt (Elt Ideal) arg4.view (Rect.unit (s := S1x8x128x512) ![0, d, 0, 0] S1x1x128x512.size inbt).toLoadRect (harg4.unread x2))
        (View.readAt (Elt Ideal) arg3.view (Rect.unit (s := S1x2048x128) ![0, o, 0] S1x64x128.size inbg).toLoadRect (harg3.unread x1)) x
      = wantedBlock a0 a1 b p ((Rect.unit (s := S1x2048x128) ![0, o, 0] S1x64x128.size inb').emb x) := by
  subst ho hw hd
  have hf : first r + 7 ≤ 31 := first_le r 7
  have hb : r.val - first r < 8 := by unfold first; omega
  obtain ⟨s, h, e, rfl⟩ : ∃ (s : Fin 64) (h : Fin 2) (e : Fin 64), x = ix3 0 s (lane h e) :=
    ⟨x 1, ⟨(x 2).val / 64, by have l : (x 2).val < 128 := (x 2).isLt; omega⟩, ⟨(x 2).val % 64, by omega⟩, by
      have e : lane ⟨(x 2).val / 64, by have l : (x 2).val < 128 := (x 2).isLt; omega⟩ ⟨(x 2).val % 64, by omega⟩ = x 2 :=
        Fin.ext (show (x 2).val / 64 * 64 + (x 2).val % 64 = (x 2).val by omega)
      rw [e]
      idx_ext⟩
  have tileq : ∀ l : Fin 128,
      View.readAt (Elt Ideal) arg2.view (Rect.unit (s := S1x2048x384) ![0, r.val * 64, 0] S1x64x128.size inb).toLoadRect (harg2.unread x0) (ix3 0 s l)
        = x0 (ix3 0 (⟨r.val * 64 + s.val, by omega⟩ : Fin 2048) (⟨l.val, by omega⟩ : Fin 384)) := fun l => by
    rw [load_unread]
    refine congrArg x0 (funext fun a => Fin.ext ?_)
    match a with
    | ⟨0, _⟩ => rfl
    | ⟨1, _⟩ => show r.val * 64 + 1 * s.val = r.val * 64 + s.val; omega
    | ⟨2, _⟩ => show 0 + 1 * l.val = l.val; omega
  have tileg : ∀ l : Fin 128,
      View.readAt (Elt Ideal) arg3.view (Rect.unit (s := S1x2048x128) ![0, r.val * 64, 0] S1x64x128.size inbg).toLoadRect (harg3.unread x1) (ix3 0 s l)
        = x1 (ix3 0 (⟨r.val * 64 + s.val, by omega⟩ : Fin 2048) l) := fun l => by
    rw [load_unread]
    refine congrArg x1 (funext fun a => Fin.ext ?_)
    match a with
    | ⟨0, _⟩ => rfl
    | ⟨1, _⟩ => show r.val * 64 + 1 * s.val = r.val * 64 + s.val; omega
    | ⟨2, _⟩ => show 0 + 1 * l.val = l.val; omega
  have tilek : ∀ (n : Fin 512) (l : Fin 128),
      View.readAt (Elt Ideal) arg2.view (Rect.unit (s := S1x2048x384) ![0, first r * 64, 128] S1x512x128.size inbk).toLoadRect (harg2.unread x0) (ix3 0 n l)
        = x0 (ix3 0 (⟨first r * 64 + n.val, by omega⟩ : Fin 2048) (⟨128 + l.val, by omega⟩ : Fin 384)) := fun n l => by
    rw [load_unread]
    refine congrArg x0 (funext fun a => Fin.ext ?_)
    match a with
    | ⟨0, _⟩ => rfl
    | ⟨1, _⟩ => show first r * 64 + 1 * n.val = first r * 64 + n.val; omega
    | ⟨2, _⟩ => show 128 + 1 * l.val = 128 + l.val; omega
  have tilet : ∀ (l : Fin 128) (n : Fin 512),
      View.readAt (Elt Ideal) arg4.view (Rect.unit (s := S1x8x128x512) ![0, r.val - first r, 0, 0] S1x1x128x512.size inbt).toLoadRect (harg4.unread x2) (ix4 0 0 l n)
        = x2 (ix4 0 (⟨r.val - first r, hb⟩ : Fin 8) l n) := fun l n => by
    rw [load_unread]
    refine congrArg x2 (funext fun a => Fin.ext ?_)
    match a with
    | ⟨0, _⟩ => rfl
    | ⟨1, _⟩ => show r.val - first r + 1 * 0 = r.val - first r; omega
    | ⟨2, _⟩ => show 0 + 1 * l.val = l.val; omega
    | ⟨3, _⟩ => show 0 + 1 * n.val = n.val; omega
  have at0 : ∀ (s S : Fin 2048) (j : Fin 384) (J : Fin 8192), S.val = s.val → J.val = 1536 + (p.val * 384 + j.val) → a0 (ix3 b S J) = x0 (ix3 0 s j) :=
    fun s S j J hS hJ => by
      obtain rfl : S = s := Fin.ext hS
      exact (h0 _ _ J hJ).symm
  have at1 : ∀ (s S : Fin 2048) (j : Fin 128) (J : Fin 8192), S.val = s.val → J.val = 3584 + (p.val * 128 + j.val) → a0 (ix3 b S J) = x1 (ix3 0 s j) :=
    fun s S j J hS hJ => by
      obtain rfl : S = s := Fin.ext hS
      exact (h1 _ _ J hJ).symm
  have at2 : ∀ (o O : Fin 8) (l L : Fin 128) (n : Fin 512), O.val = o.val → L.val = l.val → a1 (ix4 p O L n) = x2 (ix4 0 o l n) :=
    fun o O l L n hO hL => by
      obtain rfl : O = o := Fin.ext hO
      obtain rfl : L = l := Fin.ext hL
      exact (h2 _ _ n).symm
  have hl : ∀ e : Fin 64, (lane h e).val = h.val * 64 + e.val := fun e => rfl
  obtain ⟨x, hr, hs⟩ := scores (fun e => x0 (ix3 0 (⟨r.val * 64 + s.val, by omega⟩ : Fin 2048) (⟨(lane h e).val, by omega⟩ : Fin 384)))
    (fun n e => x0 (ix3 0 (⟨first r * 64 + n.val, by omega⟩ : Fin 2048) (⟨128 + (lane h e).val, by omega⟩ : Fin 384)))
    (fun n => x2 (ix4 0 (⟨r.val - first r, hb⟩ : Fin 8) (lane h s) n))
    (fun e => hq _ _ (show (lane h e).val < 256 by omega)) (fun n e => hq _ _ (show 128 + (lane h e).val < 256 by omega)) (fun n => ht _ _ _)
  refine (pay_row _ _ _ _ _ s h e (fun n => x0 (ix3 0 (⟨first r * 64 + n.val, by omega⟩ : Fin 2048) (⟨256 + (lane h e).val, by omega⟩ : Fin 384)))
    (fun n j hj => ?_) (fun n j hj => ?_) x (fun n => ?_)).trans ?_
  · rw [extended_load]
    exact extended_value x0 _ _ _ (show 0 + 1 * j.val < 128 by omega) (show first r * 64 + 1 * n.val = first r * 64 + n.val by omega)
      (show 256 + (0 + 1 * j.val) = 256 + (lane h e).val by omega)
  · rw [extended_load]
    exact extended_one x0 _ (show 128 ≤ 0 + 1 * j.val by omega)
  · refine Eq.trans (congrArg₂ (· + ·) (Finset.sum_congr rfl fun e _ => ?_) (congrArg (· * _) (tilet _ n))) (hs n)
    rw [tileq, tilek]
  · rw [tileg]
    refine (ref_row a0 a1 b r p h s e x (fun n => ?_) _ _ (fun n => ?_) (fun S J hS hJ => ?_)).symm.trans ?_
    · refine (ref_score a0 a1 b r p h s n _ _ _ (fun e => ?_) (fun e => ?_) ?_).trans (hr n)
      · refine ref_query a0 b r p h s e _ fun S J hS hJ => ?_
        exact at0 _ S _ J hS (by show J.val = 1536 + (p.val * 384 + (lane h e).val); rw [hl, hJ]; omega)
      · refine ref_keys a0 b r p h n e _ fun S J hS hJ => ?_
        exact at0 _ S _ J hS (by show J.val = 1536 + (p.val * 384 + (128 + (lane h e).val)); rw [hl, hJ]; omega)
      · refine ref_bias a1 b r p h s n _ fun o l ho hl => ?_
        exact at2 _ o _ l n ho hl
    · refine ref_vals a0 b r p h n e _ fun S J hS hJ => ?_
      exact at0 _ S _ J hS (by show J.val = 1536 + (p.val * 384 + (256 + (lane h e).val)); rw [hl, hJ]; omega)
    · exact at1 _ S _ J hS (by rw [hl, hJ])
    · unfold wantedBlock
      refine congrArg₂ (fun (s : Fin 2048) (j : Fin 512) => Cert.NeighbourRefIdeal.Read.val_main_v69 (F := Ideal) a0 a1 (ix3 b s j)) (Fin.ext ?_) (Fin.ext ?_)
      · show r.val * 64 + s.val = r.val * 64 + 1 * s.val; omega
      · show p.val * 128 + (h.val * 64 + e.val) = p.val * 128 + (0 + 1 * (h.val * 64 + e.val)); omega

/-- The body's stores into the block agree with the reference's. -/
theorem stores (c : Dev nD) (i : grid0.Coords) (arg2 : Memref sig .tc .vmem S1x2048x384 .bf16) (harg2 : arg2.IsWhole)
    (arg3 : Memref sig .tc .vmem S1x2048x128 .bf16) (harg3 : arg3.IsWhole) (arg4 : Memref sig .tc .vmem S1x8x128x512 .f32) (harg4 : arg4.IsWhole)
    (arg5 : Memref sig .tc .vmem S1x2048x128 .bf16) (harg5 : arg5.IsWhole) (arg6 : Memref sig .tc .vmem S2048x256 .bf16) (harg6 : arg6.IsWhole) :
    Agrees (wantedBlock a0 a1 b p) (kernelRun0_A (F := Ideal) c i arg2 harg2 arg3 harg3 arg4 harg4 arg5 harg5 arg6 harg6 x0 x1 x2).1 := by
  have P := piece x0 x1 x2 a0 a1 b p h0 h1 h2 hq ht c arg2 harg2 arg3 harg3 arg4 harg4 arg6
  unfold kernelRun0_A
  dsimp only
  refine .cons (P 31 1984 1536 7 rfl rfl rfl _ _ _ _ _ _) ?_
  refine .cons (P 30 1920 1536 6 rfl rfl rfl _ _ _ _ _ _) ?_
  refine .cons (P 29 1856 1536 5 rfl rfl rfl _ _ _ _ _ _) ?_
  refine .cons (P 28 1792 1536 4 rfl rfl rfl _ _ _ _ _ _) ?_
  refine .cons (P 27 1728 1472 4 rfl rfl rfl _ _ _ _ _ _) ?_
  refine .cons (P 26 1664 1408 4 rfl rfl rfl _ _ _ _ _ _) ?_
  refine .cons (P 25 1600 1344 4 rfl rfl rfl _ _ _ _ _ _) ?_
  refine .cons (P 24 1536 1280 4 rfl rfl rfl _ _ _ _ _ _) ?_
  refine .cons (P 23 1472 1216 4 rfl rfl rfl _ _ _ _ _ _) ?_
  refine .cons (P 22 1408 1152 4 rfl rfl rfl _ _ _ _ _ _) ?_
  refine .cons (P 21 1344 1088 4 rfl rfl rfl _ _ _ _ _ _) ?_
  refine .cons (P 20 1280 1024 4 rfl rfl rfl _ _ _ _ _ _) ?_
  refine .cons (P 19 1216 960 4 rfl rfl rfl _ _ _ _ _ _) ?_
  refine .cons (P 18 1152 896 4 rfl rfl rfl _ _ _ _ _ _) ?_
  refine .cons (P 17 1088 832 4 rfl rfl rfl _ _ _ _ _ _) ?_
  refine .cons (P 16 1024 768 4 rfl rfl rfl _ _ _ _ _ _) ?_
  refine .cons (P 15 960 704 4 rfl rfl rfl _ _ _ _ _ _) ?_
  refine .cons (P 14 896 640 4 rfl rfl rfl _ _ _ _ _ _) ?_
  refine .cons (P 13 832 576 4 rfl rfl rfl _ _ _ _ _ _) ?_
  refine .cons (P 12 768 512 4 rfl rfl rfl _ _ _ _ _ _) ?_
  refine .cons (P 11 704 448 4 rfl rfl rfl _ _ _ _ _ _) ?_
  refine .cons (P 10 640 384 4 rfl rfl rfl _ _ _ _ _ _) ?_
  refine .cons (P 9 576 320 4 rfl rfl rfl _ _ _ _ _ _) ?_
  refine .cons (P 8 512 256 4 rfl rfl rfl _ _ _ _ _ _) ?_
  refine .cons (P 7 448 192 4 rfl rfl rfl _ _ _ _ _ _) ?_
  refine .cons (P 6 384 128 4 rfl rfl rfl _ _ _ _ _ _) ?_
  refine .cons (P 5 320 64 4 rfl rfl rfl _ _ _ _ _ _) ?_
  refine .cons (P 4 256 0 4 rfl rfl rfl _ _ _ _ _ _) ?_
  refine .cons (P 3 192 0 3 rfl rfl rfl _ _ _ _ _ _) ?_
  refine .cons (P 2 128 0 2 rfl rfl rfl _ _ _ _ _ _) ?_
  refine .cons (P 1 64 0 1 rfl rfl rfl _ _ _ _ _ _) ?_
  refine .cons (P 0 0 0 0 rfl rfl rfl _ _ _ _ _ _) ?_
  exact .nil _

/-- The block the body leaves. -/
theorem left (c : Dev nD) (i : grid0.Coords) (arg2 : Memref sig .tc .vmem S1x2048x384 .bf16) (harg2 : arg2.IsWhole)
    (arg3 : Memref sig .tc .vmem S1x2048x128 .bf16) (harg3 : arg3.IsWhole) (arg4 : Memref sig .tc .vmem S1x8x128x512 .f32) (harg4 : arg4.IsWhole)
    (arg5 : Memref sig .tc .vmem S1x2048x128 .bf16) (harg5 : arg5.IsWhole) (arg6 : Memref sig .tc .vmem S2048x256 .bf16) (harg6 : arg6.IsWhole) (y : S1x2048x128.Idx) :
    out0_A_3 (F := Ideal) c i arg2 harg2 arg3 harg3 arg4 harg4 arg5 harg5 arg6 harg6 x0 x1 x2 y = wantedBlock a0 a1 b p y := by
  have e := stores x0 x1 x2 a0 a1 b p h0 h1 h2 hq ht c i arg2 harg2 arg3 harg3 arg4 harg4 arg5 harg5 arg6 harg6
  have w := cover0_A_3 (F := Ideal) c i arg2 harg2 arg3 harg3 arg4 harg4 arg5 harg5 arg6 harg6 x0 x1 x2 y
  unfold out0_A_3
  generalize (kernelRun0_A (F := Ideal) c i arg2 harg2 arg3 harg3 arg4 harg4 arg5 harg5 arg6 harg6 x0 x1 x2).1 = L at e w ⊢
  exact View.read_writes_apply_of_pieces _ _ _ _ e y w

end Pieces

end Cert.Proof.Neighbour

end
-- ==== Proof.NeighbourArrays.lean ====
/- The neighbourhood mixer's result array: over the extended reals, the reference's, where the queries, the keys and the biases are
   finite. -/
module

public import proofs.«01_k».proof.Proof.NeighbourBlock
public import proofs.«01_k».proof.Proof.Gen.Pre_finite_neighbour
public import Idealize.ShloMosaic.Lib.ReduceAll
public import Idealize.ShloMosaic.Lib.Affine

@[expose] public section

set_option maxRecDepth 16384

noncomputable section

namespace Cert.Proof.Neighbour

open Idealize.ShloMosaic Idealize.ShloMosaic.TcCoe Idealize.SL.Sem
open Idealize.ShloMosaic.Pipeline (Dat)
open Cert.NeighbourIdeal Cert.NeighbourIdeal.Gen
open Cert.Proof.Memory (real_of_below)
open scoped BigOperators

section Finite

variable (a0 : FVec Ideal Cert.Pre_finite_neighbour.S32x2048x8192 .bf16) (a1 : FVec Ideal Cert.Pre_finite_neighbour.S4x8x128x512 .f32)
    (h : Cert.Pre_finite_neighbour.fn (F := Ideal) a0 a1 = fun _ => 1#1)

include h

/-- The queries and the keys are real. -/
theorem attention_real (b : Fin 32) (s : Fin 2048) (p : Fin 4) (j : Fin 384) (hj : j.val < 256) (J : Fin 8192) (hJ : J.val = 1536 + (p.val * 384 + j.val)) :
    ∃ r : ℝ, a0 (ix3 b s J) = (r : EReal) := by
  obtain ⟨J, hJ'⟩ := J
  change J = 1536 + (p.val * 384 + j.val) at hJ
  subst hJ
  have e := congrFun h (fun a => a.elim0)
  dsimp only [Cert.Pre_finite_neighbour.fn] at e
  have e := Host.reduce_andi_all _ _ _ _ _ (IntOp.andi_eq_one.1 e).1 (ix5 b s p (⟨j.val / 128, by omega⟩ : Fin 2) (⟨j.val % 128, by omega⟩ : Fin 128))
  refine real_of_below _ (Eq.trans (congrArg (fun z => Ideal.cmp .olt (max z (-z)) _) ?_) e)
  symm
  pointwise []
  exact congrArg (fun J => a0 (ix3 b s J)) (Fin.ext (show 1536 + (p.val * 384 + j.val / 128 * 128 + j.val % 128) = 1536 + (p.val * 384 + j.val) by omega))

/-- The biases are real. -/
theorem biases_real (p : Fin 4) (o : Fin 8) (l : Fin 128) (n : Fin 512) : ∃ r : ℝ, a1 (ix4 p o l n) = (r : EReal) := by
  have e := congrFun h (fun a => a.elim0)
  dsimp only [Cert.Pre_finite_neighbour.fn] at e
  exact real_of_below _ (Host.reduce_andi_all _ _ _ _ _ (IntOp.andi_eq_one.1 e).2 (ix4 p o l n))

end Finite

variable (m : (ℓ : Loc nD τ sig) → Buf (Elt Ideal) ℓ)

/-- What the reference computes, of the kernel's own argument arrays. -/
def wanted (c : Dev nD) : FVec Ideal Cert.NeighbourRefIdeal.S32x2048x512 .bf16 :=
  Cert.NeighbourRefIdeal.Read.val_main_v69 (F := Ideal) (m ((c : Thread nD τ).loc main_arg0)) (m ((c : Thread nD τ).loc main_arg1))

/-- Which block each window shows at a grid point. -/
theorem blocks_at : ∀ t : Fin cfg0.N, win0_0.index t = ![t.val % 32, 0, 4 + t.val / 32]
    ∧ win0_1.index t = ![t.val % 32, 0, 28 + t.val / 32]
    ∧ win0_2.index t = ![t.val / 32, 0, 0, 0]
    ∧ win0_3.index t = ![t.val % 32, 0, t.val / 32] :=
  (by decide +kernel : ∀ t : Fin grid0.N, _)

/-- One block at a grid point, its windows read from the arrays. -/
theorem block (c : Dev nD) (h : Cert.Pre_finite_neighbour.fn (F := Ideal) (m ((c : Thread nD τ).loc main_arg0)) (m ((c : Thread nD τ).loc main_arg1)) = fun _ => 1#1)
    (t : Fin cfg0.N) (y) : outsAt0 m c t y = wanted m c (((cfg0.win 3).blk t).view.emb y) := by
  have hN : t.val < 128 := lt_of_lt_of_eq t.isLt (show cfg0.N = 128 from N_0)
  have hb : t.val % 32 < 32 := Nat.mod_lt _ (by decide)
  have hp : t.val / 32 < 4 := by omega
  have h0 : ∀ (s : Fin 2048) (j : Fin 384) (J : Fin 8192), J.val = 1536 + (t.val / 32 * 384 + j.val) →
      X0_0 m c t (ix3 0 s j) = m ((c : Thread nD τ).loc main_arg0) (ix3 (⟨t.val % 32, hb⟩ : Fin 32) s J) := fun s j J hJ => by
    obtain ⟨J, hJ'⟩ := J
    change J = 1536 + (t.val / 32 * 384 + j.val) at hJ
    subst hJ
    unfold X0_0 Pipeline.Window.fill
    rw [dif_pos (moved0_0 t _)]
    blk_point [iblk, V, blocks_at t]
  have h1 : ∀ (s : Fin 2048) (j : Fin 128) (J : Fin 8192), J.val = 3584 + (t.val / 32 * 128 + j.val) →
      iblk m c 1 t (ix3 0 s j) = m ((c : Thread nD τ).loc main_arg0) (ix3 (⟨t.val % 32, hb⟩ : Fin 32) s J) := fun s j J hJ => by
    obtain ⟨J, hJ'⟩ := J
    change J = 3584 + (t.val / 32 * 128 + j.val) at hJ
    subst hJ
    blk_point [iblk, V, blocks_at t]
  have h2 : ∀ (o : Fin 8) (l : Fin 128) (n : Fin 512),
      iblk m c 2 t (ix4 0 o l n) = m ((c : Thread nD τ).loc main_arg1) (ix4 (⟨t.val / 32, hp⟩ : Fin 4) o l n) := fun o l n => by
    blk_point [iblk, V, blocks_at t]
  unfold outsAt0
  refine (left (X0_0 m c t) (iblk m c 1 t) (iblk m c 2 t) (m ((c : Thread nD τ).loc main_arg0)) (m ((c : Thread nD τ).loc main_arg1))
    (⟨t.val % 32, hb⟩ : Fin 32) (⟨t.val / 32, hp⟩ : Fin 4) h0 h1 h2 (fun s j hj => ?_) (fun o l n => ?_) c _ _ _ _ _ _ _ _ _ _ _ y).trans ?_
  · rw [h0 s j (⟨1536 + (t.val / 32 * 384 + j.val), by omega⟩ : Fin 8192) rfl]
    exact attention_real _ _ h _ s (⟨t.val / 32, hp⟩ : Fin 4) j hj _ rfl
  · rw [h2]
    exact biases_real _ _ h _ o l n
  · unfold wanted wantedBlock
    refine congrArg _ ?_
    blk_ext [blocks_at t]

/-- The whole array at the end of the launch is the reference's array. -/
theorem whole (c : Dev nD) (h : Cert.Pre_finite_neighbour.fn (F := Ideal) (m ((c : Thread nD τ).loc main_arg0)) (m ((c : Thread nD τ).loc main_arg1)) = fun _ => 1#1) :
    (dats m 0 c).arrAt 3 (cfgs 0).N = wanted m c := by
  refine (dats m 0 c).arrAt_eq_of_covers 3 _ (by decide +kernel) fun t hf y => ?_
  blk_simp
  rw [after0_3]
  exact block m c h t y

end Cert.Proof.Neighbour

end
-- ==== Proof.MergeValue.lean ====
/- The value of the merging call: over the extended reals, every element the kernel writes is the reference's. -/
module

public import proofs.«01_k».proof.Proof.Gen.MergeIdeal.Value
public import proofs.«01_k».proof.Proof.Gen.MergeRefIdeal.Read
public import Idealize.ShloMosaic.Lib.Pipeline.ValueKit
public import Idealize.ShloMosaic.Lib.Pointwise

@[expose] public section

set_option maxRecDepth 16384

noncomputable section

namespace Cert.Proof.Merge

open Idealize.ShloMosaic Idealize.ShloMosaic.TcCoe Idealize.SL.Sem
open Idealize.ShloMosaic.Pipeline (Dat)
open Cert.MergeIdeal Cert.MergeIdeal.Gen
open scoped BigOperators

variable (m : (ℓ : Loc nD τ sig) → Buf (Elt Ideal) ℓ)

/-- What the reference computes, of the kernel's own argument arrays. -/
def wanted (c : Dev nD) : FVec Ideal Cert.MergeRefIdeal.S32x2048x1024 .f32 :=
  Cert.MergeRefIdeal.Read.val_main_v40 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9))

/-- Which block each window shows at a grid point. -/
theorem blocks_at : ∀ t : Fin cfg0.N, win0_0.index t = ![t.val / 2, t.val % 2, 0]
    ∧ win0_1.index t = ![t.val / 2, t.val % 2, 0]
    ∧ win0_2.index t = ![t.val / 2, t.val % 2, 0]
    ∧ win0_3.index t = ![t.val / 2, t.val % 2, 5]
    ∧ win0_4.index t = ![t.val / 2, t.val % 2, 6]
    ∧ win0_5.index t = ![t.val / 2, t.val % 2, 7]
    ∧ win0_6.index t = ![t.val / 2, t.val % 2, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![t.val / 2, t.val % 2, 0] :=
  (by decide +kernel : ∀ t : Fin grid0.N, _)

section Rows

/-! The vectors `v` are what the body loads for one chunk of 512 rows, the arrays `a` the reference's arguments; row `r` of
    the chunk is row `R r` of image `b`. -/

variable
    (v0 : FVec Ideal S1x512x512 .bf16)
    (v1 : FVec Ideal S1x512x512 .bf16)
    (v2 : FVec Ideal S1x512x512 .bf16)
    (v3 : FVec Ideal S1x512x1024 .bf16)
    (v4 : FVec Ideal S1x512x1024 .bf16)
    (v5 : FVec Ideal S1x512x1024 .bf16)
    (v6 : FVec Ideal S1x512x1024 .f32)
    (v7 : FVec Ideal S512x1024 .bf16)
    (v8 : FVec Ideal S512x1024 .bf16)
    (v9 : FVec Ideal S512x1024 .bf16)
    (v10 : FVec Ideal S1024x1024 .bf16)
    (v11 : FVec Ideal S1x1024 .f32)
    (a0 : FVec Ideal Cert.MergeRefIdeal.S32x2048x512 .bf16) (a1 : FVec Ideal Cert.MergeRefIdeal.S32x2048x512 .bf16) (a2 : FVec Ideal Cert.MergeRefIdeal.S32x2048x512 .bf16) (a3 : FVec Ideal Cert.MergeRefIdeal.S32x2048x8192 .bf16) (a4 : FVec Ideal Cert.MergeRefIdeal.S32x2048x1024 .f32) (a5 : FVec Ideal Cert.MergeRefIdeal.S512x1024 .f32) (a6 : FVec Ideal Cert.MergeRefIdeal.S512x1024 .f32) (a7 : FVec Ideal Cert.MergeRefIdeal.S512x1024 .f32) (a8 : FVec Ideal Cert.MergeRefIdeal.S1024x1024 .f32) (a9 : FVec Ideal Cert.MergeRefIdeal.S1024 .f32)
    (b : Fin 32) (R : Fin 512 → Fin 2048)
    (h0 : ∀ (r : Fin 512) (k : Fin 512), v0 (ix3 0 r k) = a0 (ix3 b (R r) k))
    (h1 : ∀ (r : Fin 512) (k : Fin 512), v1 (ix3 0 r k) = a1 (ix3 b (R r) k))
    (h2 : ∀ (r : Fin 512) (k : Fin 512), v2 (ix3 0 r k) = a2 (ix3 b (R r) k))
    (h3 : ∀ (r : Fin 512) (d : Fin 1024), v3 (ix3 0 r d) = a3 (ix3 b (R r) ⟨5120 + d.val, by omega⟩))
    (h4 : ∀ (r : Fin 512) (d : Fin 1024), v4 (ix3 0 r d) = a3 (ix3 b (R r) ⟨5120 + (1024 + d.val), by omega⟩))
    (h5 : ∀ (r : Fin 512) (d : Fin 1024), v5 (ix3 0 r d) = a3 (ix3 b (R r) ⟨5120 + (2048 + d.val), by omega⟩))
    (h6 : ∀ (r : Fin 512) (d : Fin 1024), v6 (ix3 0 r d) = a4 (ix3 b (R r) d))
    (h7 : ∀ (k : Fin 512) (d : Fin 1024), v7 (ix2 k d) = a5 (ix2 k d))
    (h8 : ∀ (k : Fin 512) (d : Fin 1024), v8 (ix2 k d) = a6 (ix2 k d))
    (h9 : ∀ (k : Fin 512) (d : Fin 1024), v9 (ix2 k d) = a7 (ix2 k d))
    (h10 : ∀ (k d : Fin 1024), v10 (ix2 k d) = a8 (ix2 k d))
    (h11 : ∀ d : Fin 1024, v11 (ix2 0 d) = a9 (ix1 d))

include h0 h1 h2 h3 h4 h5 h7 h8 h9
/-- The gated sum of the three projected branches, at one row of the first chunk. -/
theorem gated_low (r : Fin 512) (d : Fin 1024) :
    (show EReal from k0_pay2 (F := Ideal) v0 v7 v3 v1 v8 v4 (ix2 r d)) + (show EReal from k0_pay3 (F := Ideal) v2 v9 v5 (ix2 r d))
      = Cert.MergeRefIdeal.Read.val_main_v25 (F := Ideal) a0 a1 a2 a3 a5 a6 a7 (ix3 b (R r) d) := by
  pointwise [h0, h1, h2, h3, h4, h5, h7, h8, h9, Ideal.logistic, k0_pay2, k0_pay3,
      Cert.MergeRefIdeal.Read.val_main_v0, Cert.MergeRefIdeal.Read.val_main_v1,
      Cert.MergeRefIdeal.Read.val_main_v2, Cert.MergeRefIdeal.Read.val_main_v3,
      Cert.MergeRefIdeal.Read.val_main_v4, Cert.MergeRefIdeal.Read.val_main_v5,
      Cert.MergeRefIdeal.Read.val_main_v6, Cert.MergeRefIdeal.Read.val_main_v7,
      Cert.MergeRefIdeal.Read.val_main_v8, Cert.MergeRefIdeal.Read.val_main_v9,
      Cert.MergeRefIdeal.Read.val_main_v10, Cert.MergeRefIdeal.Read.val_main_v11,
      Cert.MergeRefIdeal.Read.val_main_v12, Cert.MergeRefIdeal.Read.val_main_v13,
      Cert.MergeRefIdeal.Read.val_main_v14, Cert.MergeRefIdeal.Read.val_main_v15,
      Cert.MergeRefIdeal.Read.val_main_v16, Cert.MergeRefIdeal.Read.val_main_v17,
      Cert.MergeRefIdeal.Read.val_main_v18, Cert.MergeRefIdeal.Read.val_main_v19,
      Cert.MergeRefIdeal.Read.val_main_v20, Cert.MergeRefIdeal.Read.val_main_v21,
      Cert.MergeRefIdeal.Read.val_main_v22, Cert.MergeRefIdeal.Read.val_main_v23,
      Cert.MergeRefIdeal.Read.val_main_v24, Cert.MergeRefIdeal.Read.val_main_v25,
      Cert.MergeRefIdeal.Read.val_main_cst, Cert.MergeRefIdeal.Read.val_main_cst_0]

include h6 h10
/-- The residual sum, at one row of the second chunk. -/
theorem sum_high (r : Fin 512) (d : Fin 1024) :
    k0_pay6 (F := Ideal) (k0_pay5 v0 v7 v3) v1 v8 v4 v2 v9 v5 v6 v10 (ix2 r d)
      = Cert.MergeRefIdeal.Read.val_main_v27 (F := Ideal) a0 a1 a2 a3 a4 a5 a6 a7 a8 (ix3 b (R r) d) := by
  pointwise [h0, h1, h2, h3, h4, h5, h6, h7, h8, h9, h10, Ideal.logistic, k0_pay6, k0_pay5,
      Cert.MergeRefIdeal.Read.val_main_v0, Cert.MergeRefIdeal.Read.val_main_v1,
      Cert.MergeRefIdeal.Read.val_main_v2, Cert.MergeRefIdeal.Read.val_main_v3,
      Cert.MergeRefIdeal.Read.val_main_v4, Cert.MergeRefIdeal.Read.val_main_v5,
      Cert.MergeRefIdeal.Read.val_main_v6, Cert.MergeRefIdeal.Read.val_main_v7,
      Cert.MergeRefIdeal.Read.val_main_v8, Cert.MergeRefIdeal.Read.val_main_v9,
      Cert.MergeRefIdeal.Read.val_main_v10, Cert.MergeRefIdeal.Read.val_main_v11,
      Cert.MergeRefIdeal.Read.val_main_v12, Cert.MergeRefIdeal.Read.val_main_v13,
      Cert.MergeRefIdeal.Read.val_main_v14, Cert.MergeRefIdeal.Read.val_main_v15,
      Cert.MergeRefIdeal.Read.val_main_v16, Cert.MergeRefIdeal.Read.val_main_v17,
      Cert.MergeRefIdeal.Read.val_main_v18, Cert.MergeRefIdeal.Read.val_main_v19,
      Cert.MergeRefIdeal.Read.val_main_v20, Cert.MergeRefIdeal.Read.val_main_v21,
      Cert.MergeRefIdeal.Read.val_main_v22, Cert.MergeRefIdeal.Read.val_main_v23,
      Cert.MergeRefIdeal.Read.val_main_v24, Cert.MergeRefIdeal.Read.val_main_v25,
      Cert.MergeRefIdeal.Read.val_main_cst, Cert.MergeRefIdeal.Read.val_main_cst_0,
      Cert.MergeRefIdeal.Read.val_main_v26, Cert.MergeRefIdeal.Read.val_main_v27]

include h11
/-- The first chunk the body stores: the normalized rows. -/
theorem chunk_low (r : Fin 512) (d : Fin 1024) :
    k0_pay4 (F := Ideal) (k0_pay2 v0 v7 v3 v1 v8 v4) (k0_pay3 v2 v9 v5) v6 v10 v11 (ix3 0 r d)
      = Cert.MergeRefIdeal.Read.val_main_v40 (F := Ideal) a0 a1 a2 a3 a4 a5 a6 a7 a8 a9 (ix3 b (R r) d) := by
  have g := gated_low v0 v1 v2 v3 v4 v5 v7 v8 v9 a0 a1 a2 a3 a5 a6 a7 b R h0 h1 h2 h3 h4 h5 h7 h8 h9
  pointwise [g, h6, h10, h11, k0_pay4,
      Cert.MergeRefIdeal.Read.val_main_v28, Cert.MergeRefIdeal.Read.val_main_v29,
      Cert.MergeRefIdeal.Read.val_main_v30, Cert.MergeRefIdeal.Read.val_main_v31,
      Cert.MergeRefIdeal.Read.val_main_v32, Cert.MergeRefIdeal.Read.val_main_v33,
      Cert.MergeRefIdeal.Read.val_main_v34, Cert.MergeRefIdeal.Read.val_main_v35,
      Cert.MergeRefIdeal.Read.val_main_v36, Cert.MergeRefIdeal.Read.val_main_v37,
      Cert.MergeRefIdeal.Read.val_main_v38, Cert.MergeRefIdeal.Read.val_main_v39,
      Cert.MergeRefIdeal.Read.val_main_v40, Cert.MergeRefIdeal.Read.val_main_cst_1,
      Cert.MergeRefIdeal.Read.val_main_cst_2, Cert.MergeRefIdeal.Read.val_main_cst_3,
      Cert.MergeRefIdeal.Read.val_main_v26, Cert.MergeRefIdeal.Read.val_main_v27]

/-- The second chunk the body stores. -/
theorem chunk_high (r : Fin 512) (d : Fin 1024) :
    k0_pay1 (F := Ideal) (k0_pay6 (F := Ideal) (k0_pay5 v0 v7 v3) v1 v8 v4 v2 v9 v5 v6 v10)
      (k0_pay7 (F := Ideal) (k0_pay5 v0 v7 v3) v1 v8 v4 v2 v9 v5 v6 v10) (Scalar.ofBits .f32 0x358637BD#32) v11 (ix3 0 r d)
      = Cert.MergeRefIdeal.Read.val_main_v40 (F := Ideal) a0 a1 a2 a3 a4 a5 a6 a7 a8 a9 (ix3 b (R r) d) := by
  have g := sum_high v0 v1 v2 v3 v4 v5 v6 v7 v8 v9 v10 a0 a1 a2 a3 a4 a5 a6 a7 a8 b R h0 h1 h2 h3 h4 h5 h6 h7 h8 h9 h10
  pointwise [g, h11, k0_pay1, k0_pay7,
      Cert.MergeRefIdeal.Read.val_main_v28, Cert.MergeRefIdeal.Read.val_main_v29,
      Cert.MergeRefIdeal.Read.val_main_v30, Cert.MergeRefIdeal.Read.val_main_v31,
      Cert.MergeRefIdeal.Read.val_main_v32, Cert.MergeRefIdeal.Read.val_main_v33,
      Cert.MergeRefIdeal.Read.val_main_v34, Cert.MergeRefIdeal.Read.val_main_v35,
      Cert.MergeRefIdeal.Read.val_main_v36, Cert.MergeRefIdeal.Read.val_main_v37,
      Cert.MergeRefIdeal.Read.val_main_v38, Cert.MergeRefIdeal.Read.val_main_v39,
      Cert.MergeRefIdeal.Read.val_main_v40, Cert.MergeRefIdeal.Read.val_main_cst_1,
      Cert.MergeRefIdeal.Read.val_main_cst_2, Cert.MergeRefIdeal.Read.val_main_cst_3]

end Rows

section Block

variable
    (x0 : FVec Ideal S1x1024x512 .bf16)
    (x1 : FVec Ideal S1x1024x512 .bf16)
    (x2 : FVec Ideal S1x1024x512 .bf16)
    (x3 : FVec Ideal S1x1024x1024 .bf16)
    (x4 : FVec Ideal S1x1024x1024 .bf16)
    (x5 : FVec Ideal S1x1024x1024 .bf16)
    (x6 : FVec Ideal S1x1024x1024 .f32)
    (x7 : FVec Ideal S512x1024 .bf16)
    (x8 : FVec Ideal S512x1024 .bf16)
    (x9 : FVec Ideal S512x1024 .bf16)
    (x10 : FVec Ideal S1024x1024 .bf16)
    (x11 : FVec Ideal S1x1024 .f32)
    (a0 : FVec Ideal Cert.MergeRefIdeal.S32x2048x512 .bf16) (a1 : FVec Ideal Cert.MergeRefIdeal.S32x2048x512 .bf16) (a2 : FVec Ideal Cert.MergeRefIdeal.S32x2048x512 .bf16) (a3 : FVec Ideal Cert.MergeRefIdeal.S32x2048x8192 .bf16) (a4 : FVec Ideal Cert.MergeRefIdeal.S32x2048x1024 .f32) (a5 : FVec Ideal Cert.MergeRefIdeal.S512x1024 .f32) (a6 : FVec Ideal Cert.MergeRefIdeal.S512x1024 .f32) (a7 : FVec Ideal Cert.MergeRefIdeal.S512x1024 .f32) (a8 : FVec Ideal Cert.MergeRefIdeal.S1024x1024 .f32) (a9 : FVec Ideal Cert.MergeRefIdeal.S1024 .f32)
    (b : Fin 32) (R : Fin 1024 → Fin 2048)
    (h0 : ∀ (r : Fin 1024) (k : Fin 512), x0 (ix3 0 r k) = a0 (ix3 b (R r) k))
    (h1 : ∀ (r : Fin 1024) (k : Fin 512), x1 (ix3 0 r k) = a1 (ix3 b (R r) k))
    (h2 : ∀ (r : Fin 1024) (k : Fin 512), x2 (ix3 0 r k) = a2 (ix3 b (R r) k))
    (h3 : ∀ (r : Fin 1024) (d : Fin 1024), x3 (ix3 0 r d) = a3 (ix3 b (R r) ⟨5120 + d.val, by omega⟩))
    (h4 : ∀ (r : Fin 1024) (d : Fin 1024), x4 (ix3 0 r d) = a3 (ix3 b (R r) ⟨5120 + (1024 + d.val), by omega⟩))
    (h5 : ∀ (r : Fin 1024) (d : Fin 1024), x5 (ix3 0 r d) = a3 (ix3 b (R r) ⟨5120 + (2048 + d.val), by omega⟩))
    (h6 : ∀ (r : Fin 1024) (d : Fin 1024), x6 (ix3 0 r d) = a4 (ix3 b (R r) d))
    (h7 : ∀ (k : Fin 512) (d : Fin 1024), x7 (ix2 k d) = a5 (ix2 k d))
    (h8 : ∀ (k : Fin 512) (d : Fin 1024), x8 (ix2 k d) = a6 (ix2 k d))
    (h9 : ∀ (k : Fin 512) (d : Fin 1024), x9 (ix2 k d) = a7 (ix2 k d))
    (h10 : ∀ (k d : Fin 1024), x10 (ix2 k d) = a8 (ix2 k d))
    (h11 : ∀ d : Fin 1024, x11 (ix2 0 d) = a9 (ix1 d))

include h0 h1 h2 h3 h4 h5 h6 h7 h8 h9 h10 h11
/-- One block of the result: each of the two row chunks the body stores holds the reference's values. -/
theorem rows (y : S1x1024x1024.Idx) :
    out0_12 x0 x1 x2 x3 x4 x5 x6 x7 x8 x9 x10 x11 y = Cert.MergeRefIdeal.Read.val_main_v40 (F := Ideal) a0 a1 a2 a3 a4 a5 a6 a7 a8 a9 (ix3 b (R (y 1)) (y 2)) := by
  canon_tiles x e
  · obtain ⟨r, d, rfl⟩ : ∃ r d, x = ix3 0 r d := ⟨x 1, x 2, by idx_ext⟩
    rw [show y 1 = (⟨512 + r.val, by omega⟩ : Fin 1024) from Fin.ext e1, show y 2 = d from Fin.ext e2]
    unfold k0_pay8
    refine chunk_high _ _ _ _ _ _ _ _ _ _ _ _ a0 a1 a2 a3 a4 a5 a6 a7 a8 a9 b (fun r => R ⟨512 + r.val, by omega⟩)
      (fun r k => ?_) (fun r k => ?_) (fun r k => ?_) (fun r k => ?_) (fun r k => ?_) (fun r k => ?_) (fun r k => ?_)
      (fun r k => ?_) (fun r k => ?_) (fun r k => ?_) (fun r k => ?_) (fun r => ?_) r d
    all_goals pointwise [h0, h1, h2, h3, h4, h5, h6, h7, h8, h9, h10, h11, r0_1, r0_3, r0_4, r0_5, r0_6]
  · obtain ⟨r, d, rfl⟩ : ∃ r d, x = ix3 0 r d := ⟨x 1, x 2, by idx_ext⟩
    rw [show y 1 = (⟨r.val, by omega⟩ : Fin 1024) from Fin.ext e1, show y 2 = d from Fin.ext e2]
    refine chunk_low _ _ _ _ _ _ _ _ _ _ _ _ a0 a1 a2 a3 a4 a5 a6 a7 a8 a9 b (fun r => R ⟨r.val, by omega⟩)
      (fun r k => ?_) (fun r k => ?_) (fun r k => ?_) (fun r k => ?_) (fun r k => ?_) (fun r k => ?_) (fun r k => ?_)
      (fun r k => ?_) (fun r k => ?_) (fun r k => ?_) (fun r k => ?_) (fun r => ?_) r d
    all_goals pointwise [h0, h1, h2, h3, h4, h5, h6, h7, h8, h9, h10, h11, r0_0, r0_1, r0_2, r0_3, r0_4]

end Block

/-- One block at a grid point, its windows read from the arrays. -/
theorem block (c : Dev nD) (t : Fin cfg0.N) (y) :
    out0_12 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) y
      = wanted m c (((cfg0.win 12).blk t).view.emb y) := by
  have hN : t.val < 64 := lt_of_lt_of_eq t.isLt (show cfg0.N = 64 from N_0)
  unfold wanted
  refine (rows _ _ _ _ _ _ _ _ _ _ _ _ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
    (⟨t.val / 2, by omega⟩ : Fin 32)
    (fun r => (⟨t.val % 2 * 1024 + r.val, by omega⟩ : Fin 2048))
      (fun r k => ?_) (fun r k => ?_) (fun r k => ?_) (fun r k => ?_) (fun r k => ?_) (fun r k => ?_) (fun r k => ?_)
      (fun r k => ?_) (fun r k => ?_) (fun r k => ?_) (fun r k => ?_) (fun r => ?_) y).trans ?_
  all_goals blk_point [iblk, V, blocks_at t]

/-- The whole array at the end of the launch is the reference's array. -/
theorem whole (c : Dev nD) : (dats m 0 c).arrAt 12 (cfgs 0).N = wanted m c := by
  refine (dats m 0 c).arrAt_eq_of_covers 12 _ (by decide +kernel) fun t hf y => ?_
  blk_simp
  rw [after0_12]
  exact block m c t y

end Cert.Proof.Merge

end
-- ==== Proof.MemProjValue.lean ====
/- The value of the call that normalizes and projects the memory: over the extended reals, every element the kernel writes
   is the reference's. -/
module

public import proofs.«01_k».proof.Proof.Gen.MemProjIdeal.Value
public import proofs.«01_k».proof.Proof.Gen.MemProjRefIdeal.Read
public import Idealize.ShloMosaic.Lib.Pipeline.ValueKit
public import Idealize.ShloMosaic.Lib.Pointwise

@[expose] public section

set_option maxRecDepth 16384

noncomputable section

namespace Cert.Proof.MemProj

open Idealize.ShloMosaic Idealize.ShloMosaic.TcCoe Idealize.SL.Sem
open Idealize.ShloMosaic.Pipeline (Dat)
open Cert.MemProjIdeal Cert.MemProjIdeal.Gen
open scoped BigOperators

variable (m : (ℓ : Loc nD τ sig) → Buf (Elt Ideal) ℓ)

/-- What the reference computes, of the kernel's own argument arrays. -/
def wanted (c : Dev nD) : FVec Ideal Cert.MemProjRefIdeal.S8x1024x1024 .bf16 :=
  Cert.MemProjRefIdeal.Read.val_main_v15 (F := Ideal) (m ((c : Thread nD τ).loc main_arg0)) (m ((c : Thread nD τ).loc main_arg1))
    (m ((c : Thread nD τ).loc main_arg2))

/-- Which block each window shows at a grid point. -/
theorem blocks_at : ∀ t : Fin cfg0.N, win0_0.index t = ![t.val, 0, 0]
    ∧ win0_1.index t = ![0, 0]
    ∧ win0_2.index t = ![0, 0]
    ∧ win0_3.index t = ![t.val, 0, 0] :=
  (by decide +kernel : ∀ t : Fin grid0.N, _)

section Rows

/-! `v` holds the 256 rows of memory `b` that one chunk loads, `g` the gains, `w` the weights. -/

variable (v : FVec Ideal S1x256x1024 .f32) (g : FVec Ideal S1x1024 .f32) (w : FVec Ideal S1024x1024 .bf16)
    (a0 : FVec Ideal Cert.MemProjRefIdeal.S32x256x1024 .f32) (a1 : FVec Ideal Cert.MemProjRefIdeal.S1024 .f32)
    (a2 : FVec Ideal Cert.MemProjRefIdeal.S1024x1024 .f32) (b : Fin 32)
    (h0 : ∀ (r : Fin 256) (k : Fin 1024), v (ix3 0 r k) = a0 (ix3 b r k))
    (h1 : ∀ k : Fin 1024, g (ix2 0 k) = a1 (ix1 k))
    (h2 : ∀ k n : Fin 1024, w (ix2 k n) = a2 (ix2 k n))

include h0 h1 h2

/-- One of the four chunks the body stores. -/
theorem chunk0 (r : Fin 256) (n : Fin 1024) :
    k0_pay3 (F := Ideal) g v w (ix3 0 r n) = Cert.MemProjRefIdeal.Read.val_main_v14 (F := Ideal) a0 a1 a2 (ix3 b r n) := by
  pointwise [h0, h1, h2, k0_pay3, k0_pay2,
      Cert.MemProjRefIdeal.Read.val_main_v0, Cert.MemProjRefIdeal.Read.val_main_v1,
      Cert.MemProjRefIdeal.Read.val_main_v2, Cert.MemProjRefIdeal.Read.val_main_v3,
      Cert.MemProjRefIdeal.Read.val_main_v4, Cert.MemProjRefIdeal.Read.val_main_v5,
      Cert.MemProjRefIdeal.Read.val_main_v6, Cert.MemProjRefIdeal.Read.val_main_v7,
      Cert.MemProjRefIdeal.Read.val_main_v8, Cert.MemProjRefIdeal.Read.val_main_v9,
      Cert.MemProjRefIdeal.Read.val_main_v10, Cert.MemProjRefIdeal.Read.val_main_v11,
      Cert.MemProjRefIdeal.Read.val_main_v12, Cert.MemProjRefIdeal.Read.val_main_v13,
      Cert.MemProjRefIdeal.Read.val_main_v14, Cert.MemProjRefIdeal.Read.val_main_cst,
      Cert.MemProjRefIdeal.Read.val_main_cst_0, Cert.MemProjRefIdeal.Read.val_main_cst_1]

/-- One of the four chunks the body stores. -/
theorem chunk1 (r : Fin 256) (n : Fin 1024) :
    k0_pay5 (F := Ideal) (k0_pay4 g v) w (ix3 0 r n) = Cert.MemProjRefIdeal.Read.val_main_v14 (F := Ideal) a0 a1 a2 (ix3 b r n) := by
  pointwise [h0, h1, h2, k0_pay5, k0_pay4, k0_pay2,
      Cert.MemProjRefIdeal.Read.val_main_v0, Cert.MemProjRefIdeal.Read.val_main_v1,
      Cert.MemProjRefIdeal.Read.val_main_v2, Cert.MemProjRefIdeal.Read.val_main_v3,
      Cert.MemProjRefIdeal.Read.val_main_v4, Cert.MemProjRefIdeal.Read.val_main_v5,
      Cert.MemProjRefIdeal.Read.val_main_v6, Cert.MemProjRefIdeal.Read.val_main_v7,
      Cert.MemProjRefIdeal.Read.val_main_v8, Cert.MemProjRefIdeal.Read.val_main_v9,
      Cert.MemProjRefIdeal.Read.val_main_v10, Cert.MemProjRefIdeal.Read.val_main_v11,
      Cert.MemProjRefIdeal.Read.val_main_v12, Cert.MemProjRefIdeal.Read.val_main_v13,
      Cert.MemProjRefIdeal.Read.val_main_v14, Cert.MemProjRefIdeal.Read.val_main_cst,
      Cert.MemProjRefIdeal.Read.val_main_cst_0, Cert.MemProjRefIdeal.Read.val_main_cst_1]

/-- One of the four chunks the body stores. -/
theorem chunk2 (r : Fin 256) (n : Fin 1024) :
    k0_pay6 (F := Ideal) (k0_pay2 g) v w (ix3 0 r n) = Cert.MemProjRefIdeal.Read.val_main_v14 (F := Ideal) a0 a1 a2 (ix3 b r n) := by
  pointwise [h0, h1, h2, k0_pay6, k0_pay2,
      Cert.MemProjRefIdeal.Read.val_main_v0, Cert.MemProjRefIdeal.Read.val_main_v1,
      Cert.MemProjRefIdeal.Read.val_main_v2, Cert.MemProjRefIdeal.Read.val_main_v3,
      Cert.MemProjRefIdeal.Read.val_main_v4, Cert.MemProjRefIdeal.Read.val_main_v5,
      Cert.MemProjRefIdeal.Read.val_main_v6, Cert.MemProjRefIdeal.Read.val_main_v7,
      Cert.MemProjRefIdeal.Read.val_main_v8, Cert.MemProjRefIdeal.Read.val_main_v9,
      Cert.MemProjRefIdeal.Read.val_main_v10, Cert.MemProjRefIdeal.Read.val_main_v11,
      Cert.MemProjRefIdeal.Read.val_main_v12, Cert.MemProjRefIdeal.Read.val_main_v13,
      Cert.MemProjRefIdeal.Read.val_main_v14, Cert.MemProjRefIdeal.Read.val_main_cst,
      Cert.MemProjRefIdeal.Read.val_main_cst_0, Cert.MemProjRefIdeal.Read.val_main_cst_1]

/-- One of the four chunks the body stores. -/
theorem chunk3 (r : Fin 256) (n : Fin 1024) :
    k0_pay1 (F := Ideal) (k0_pay2 g) (k0_pay7 v) (k0_pay8 v) (Scalar.ofBits .f32 0x44800000#32) w (ix3 0 r n) = Cert.MemProjRefIdeal.Read.val_main_v14 (F := Ideal) a0 a1 a2 (ix3 b r n) := by
  pointwise [h0, h1, h2, k0_pay1, k0_pay2, k0_pay7, k0_pay8,
      Cert.MemProjRefIdeal.Read.val_main_v0, Cert.MemProjRefIdeal.Read.val_main_v1,
      Cert.MemProjRefIdeal.Read.val_main_v2, Cert.MemProjRefIdeal.Read.val_main_v3,
      Cert.MemProjRefIdeal.Read.val_main_v4, Cert.MemProjRefIdeal.Read.val_main_v5,
      Cert.MemProjRefIdeal.Read.val_main_v6, Cert.MemProjRefIdeal.Read.val_main_v7,
      Cert.MemProjRefIdeal.Read.val_main_v8, Cert.MemProjRefIdeal.Read.val_main_v9,
      Cert.MemProjRefIdeal.Read.val_main_v10, Cert.MemProjRefIdeal.Read.val_main_v11,
      Cert.MemProjRefIdeal.Read.val_main_v12, Cert.MemProjRefIdeal.Read.val_main_v13,
      Cert.MemProjRefIdeal.Read.val_main_v14, Cert.MemProjRefIdeal.Read.val_main_cst,
      Cert.MemProjRefIdeal.Read.val_main_cst_0, Cert.MemProjRefIdeal.Read.val_main_cst_1]

end Rows

section Block

variable (x0 : FVec Ideal S1x1024x1024 .f32) (x1 : FVec Ideal S1x1024 .f32) (x2 : FVec Ideal S1024x1024 .bf16)
    (a0 : FVec Ideal Cert.MemProjRefIdeal.S32x256x1024 .f32) (a1 : FVec Ideal Cert.MemProjRefIdeal.S1024 .f32)
    (a2 : FVec Ideal Cert.MemProjRefIdeal.S1024x1024 .f32) (B : Fin 4 → Fin 32)
    (h0 : ∀ (q : Fin 4) (r : Fin 256) (k : Fin 1024), x0 (ix3 0 ⟨q.val * 256 + r.val, by omega⟩ k) = a0 (ix3 (B q) r k))
    (h1 : ∀ k : Fin 1024, x1 (ix2 0 k) = a1 (ix1 k))
    (h2 : ∀ k n : Fin 1024, x2 (ix2 k n) = a2 (ix2 k n))

include h0 h1 h2

/-- One block of the result: four memories of 256 rows. -/
theorem rows (y : S1x1024x1024.Idx) (q : Fin 4) (r : Fin 256) (n : Fin 1024) (e : (y 1).val = q.val * 256 + r.val) (e' : (y 2).val = n.val) :
    out0_3 x0 x1 x2 y = Cert.MemProjRefIdeal.Read.val_main_v14 (F := Ideal) a0 a1 a2 (ix3 (B q) r n) := by
  canon_tiles x d
  · obtain ⟨r', n', rfl⟩ : ∃ r' n', x = ix3 0 r' n' := ⟨x 1, x 2, by idx_ext⟩
    have f : (y 1).val = 3 * 256 + r'.val := d1
    have f' : (y 2).val = n'.val := d2
    obtain rfl : q = 3 := Fin.ext (show q.val = 3 by omega)
    obtain rfl : r = r' := Fin.ext (by omega)
    obtain rfl : n = n' := Fin.ext (by omega)
    try unfold k0_pay9
    refine chunk3 _ _ _ a0 a1 a2 (B 3) (fun r k => ?_) (fun k => ?_) (fun k n => ?_) r n
    · pointwise [r0_0, r0_1, r0_2, r0_3, r0_4, r0_5]
      exact h0 3 r k
    · pointwise [h1, r0_0]
    · pointwise [h2, r0_2]
  · obtain ⟨r', n', rfl⟩ : ∃ r' n', x = ix3 0 r' n' := ⟨x 1, x 2, by idx_ext⟩
    have f : (y 1).val = 2 * 256 + r'.val := d1
    have f' : (y 2).val = n'.val := d2
    obtain rfl : q = 2 := Fin.ext (show q.val = 2 by omega)
    obtain rfl : r = r' := Fin.ext (by omega)
    obtain rfl : n = n' := Fin.ext (by omega)
    try unfold k0_pay9
    refine chunk2 _ _ _ a0 a1 a2 (B 2) (fun r k => ?_) (fun k => ?_) (fun k n => ?_) r n
    · pointwise [r0_0, r0_1, r0_2, r0_3, r0_4, r0_5]
      exact h0 2 r k
    · pointwise [h1, r0_0]
    · pointwise [h2, r0_2]
  · obtain ⟨r', n', rfl⟩ : ∃ r' n', x = ix3 0 r' n' := ⟨x 1, x 2, by idx_ext⟩
    have f : (y 1).val = 1 * 256 + r'.val := d1
    have f' : (y 2).val = n'.val := d2
    obtain rfl : q = 1 := Fin.ext (show q.val = 1 by omega)
    obtain rfl : r = r' := Fin.ext (by omega)
    obtain rfl : n = n' := Fin.ext (by omega)
    try unfold k0_pay9
    refine chunk1 _ _ _ a0 a1 a2 (B 1) (fun r k => ?_) (fun k => ?_) (fun k n => ?_) r n
    · pointwise [r0_0, r0_1, r0_2, r0_3, r0_4, r0_5]
      exact h0 1 r k
    · pointwise [h1, r0_0]
    · pointwise [h2, r0_2]
  · obtain ⟨r', n', rfl⟩ : ∃ r' n', x = ix3 0 r' n' := ⟨x 1, x 2, by idx_ext⟩
    have f : (y 1).val = 0 * 256 + r'.val := d1.trans (show r'.val = 0 * 256 + r'.val by omega)
    have f' : (y 2).val = n'.val := d2
    obtain rfl : q = 0 := Fin.ext (show q.val = 0 by omega)
    obtain rfl : r = r' := Fin.ext (by omega)
    obtain rfl : n = n' := Fin.ext (by omega)
    try unfold k0_pay9
    refine chunk0 _ _ _ a0 a1 a2 (B 0) (fun r k => ?_) (fun k => ?_) (fun k n => ?_) r n
    · pointwise [r0_0, r0_1, r0_2, r0_3, r0_4, r0_5]
      exact (congrArg x0 (by idx_ext)).trans (h0 0 r k)
    · pointwise [h1, r0_0]
    · pointwise [h2, r0_2]

end Block

/-- One block at a grid point, its windows read from the arrays. -/
theorem block (c : Dev nD) (t : Fin cfg0.N) (y) :
    out0_3 (iblk m c 0 t) (iblk m c 1 t) (iblk m c 2 t) y = wanted m c (((cfg0.win 3).blk t).view.emb y) := by
  have hN : t.val < 8 := lt_of_lt_of_eq t.isLt (show cfg0.N = 8 from N_0)
  have hy : (y 1).val < 1024 := (y 1).isLt
  unfold wanted
  refine (rows _ _ _ (m ((c : Thread nD τ).loc main_arg0)) (m ((c : Thread nD τ).loc main_arg1)) (m ((c : Thread nD τ).loc main_arg2))
    (fun q => (⟨t.val * 4 + q.val, by omega⟩ : Fin 32)) (fun q r k => ?_) (fun k => ?_) (fun k n => ?_) y
    ⟨(y 1).val / 256, by omega⟩ ⟨(y 1).val % 256, by omega⟩ (y 2) (by show _ = (y 1).val / 256 * 256 + (y 1).val % 256; omega) rfl).trans ?_
  · blk_point [iblk, V, blocks_at t]
  · blk_point [iblk, V, blocks_at t]
  · blk_point [iblk, V, blocks_at t]
  · rw [Cert.MemProjRefIdeal.Read.val_main_v15_apply]
    refine congrArg _ ?_
    blk_ext [blocks_at t]

/-- The whole array at the end of the launch is the reference's array. -/
theorem whole (c : Dev nD) : (dats m 0 c).arrAt 3 (cfgs 0).N = wanted m c := by
  refine (dats m 0 c).arrAt_eq_of_covers 3 _ (by decide +kernel) fun t hf y => ?_
  blk_simp
  rw [after0_3]
  exact block m c t y

end Cert.Proof.MemProj

end
-- ==== Proof.ProjIdealConds.lean ====
/- When each branch of the projecting body is taken. -/
module

public import proofs.«01_k».proof.Proof.Gen.ProjIdeal.Launch
public import proofs.«01_k».proof.Proof.Gen.ProjIdeal.Skeleton
public import proofs.«01_k».proof.Proof.Gen.ProjIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.ProjIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal Cert.ProjIdeal.Gen

variable {F : FTy → Type} [FloatOps F]

local notation "𝕄" => MT nD τ sig Unit (Elt F) ℕ (UR sig nD τ) ℕ

/-- The first branch is taken: the grid's second coordinate is zero. -/
abbrev first (i : grid0.Coords) : Prop := (Scalar.cmpi .ne (Scalar.extui (Scalar.cmpi .eq (BitVec.ofNat 32 (i 1).val) 0#32)) 0#32) = 1#1
/-- The second branch is taken: a point of the first phase. -/
abbrev slabs (i : grid0.Coords) : Prop := k0_cond2 i = 1#1
/-- The third branch is taken: the slabs dilated by four are multiplied. -/
abbrev four (i : grid0.Coords) : Prop := k0_cond3 i = 1#1
/-- The fourth branch is taken: the slabs dilated by sixteen are multiplied. -/
abbrev sixteen (i : grid0.Coords) : Prop := k0_cond4 i = 1#1

end Cert.Proof.ProjIdeal

end
-- ==== Proof.ProjIdealRunA.lean ====
/- One case of the projecting body, run on whole buffers. -/
module

public import proofs.«01_k».proof.Proof.Gen.ProjIdeal.Launch
public import proofs.«01_k».proof.Proof.Gen.ProjIdeal.Skeleton
public import proofs.«01_k».proof.Proof.Gen.ProjIdeal.Points
public import proofs.«01_k».proof.Proof.ProjIdealConds
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.ProjIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal Cert.ProjIdeal.Gen

variable {F : FTy → Type} [FloatOps F]

local notation "𝕄" => MT nD τ sig Unit (Elt F) ℕ (UR sig nD τ) ℕ

set_option maxHeartbeats 3200000 in
/-- The body at the first point of an image: the rows are normalized, then the first slab of outputs is computed. Run on whole buffers, it leaves the buffers it only reads as they were,
    and each buffer it stores into with a list of stored pieces, which the run itself finds. -/
def runA (c : Dev nD) (i : grid0.Coords) (arg2 : Memref sig .tc .vmem S1x2048x1024 .f32) (harg2 : arg2.IsWhole) (arg3 : Memref sig .tc .vmem S1x2048x128 .f32) (harg3 : arg3.IsWhole) (arg4 : Memref sig .tc .vmem S1x1024 .f32) (harg4 : arg4.IsWhole) (arg5 : Memref sig .tc .vmem S1x128 .f32) (harg5 : arg5.IsWhole) (arg6 : Memref sig .tc .vmem S1024x1024 .bf16) (harg6 : arg6.IsWhole) (arg7 : Memref sig .tc .vmem S1x1024x768 .bf16) (harg7 : arg7.IsWhole) (arg8 : Memref sig .tc .vmem S1x2048x1024 .bf16) (harg8 : arg8.IsWhole) (arg9 : Memref sig .tc .vmem S1x1x2048x768 .bf16) (harg9 : arg9.IsWhole) (arg10 : Memref sig .tc .vmem S2048x1024 .bf16) (harg10 : arg10.IsWhole) (arg11 : Memref sig .tc .vmem S8x2048x128 .bf16) (harg11 : arg11.IsWhole) (arg12 : Memref sig .tc .vmem S8x2048x128 .bf16) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole)
    (hc0 : first i) (hc1 : slabs i) (hc2 : ¬four i) (hc3 : ¬sixteen i)
    (x2 : Vec F S1x2048x1024 .f32) (x3 : Vec F S1x2048x128 .f32) (x4 : Vec F S1x1024 .f32) (x5 : Vec F S1x128 .f32) (x6 : Vec F S1024x1024 .bf16) (x7 : Vec F S1x1024x768 .bf16) :
    { L : List (View.Piece (Elt F) S1x2048x1024 .bf16) × List (View.Piece (Elt F) S2048x1024 .bf16) × List (View.Piece (Elt F) S8x2048x128 .bf16) × List (View.Piece (Elt F) S8x2048x128 .bf16) × List (View.Piece (Elt F) S2048x128 .f32) //
      ∀ (E : Set ℕ) (K : PUnit → sProp 𝕄),
        iprop(owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ owns (c : Thread nD τ) arg7 fullShare x7
          ∗ (∃ d, owns (c : Thread nD τ) arg8 fullShare d)
          ∗ (∃ d, owns (c : Thread nD τ) arg9 fullShare d)
          ∗ (∃ d, owns (c : Thread nD τ) arg10 fullShare d)
          ∗ (∃ d, owns (c : Thread nD τ) arg11 fullShare d)
          ∗ (∃ d, owns (c : Thread nD τ) arg12 fullShare d)
          ∗ (∃ d, owns (c : Thread nD τ) arg13 fullShare d)
          ∗ (∃ d, owns (c : Thread nD τ) arg14 fullShare d)
          ∗ (∃ d, owns (c : Thread nD τ) arg15 fullShare d)
          ∗ (iprop(owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ (∃ f, arg8.view.loc (c : Thread nD τ) ↦[arg8.view.set]{fullShare} arg8.view.writes (Elt F) f L.1)
            ∗ (∃ d, owns (c : Thread nD τ) arg9 fullShare d)
            ∗ (∃ f, arg10.view.loc (c : Thread nD τ) ↦[arg10.view.set]{fullShare} arg10.view.writes (Elt F) f L.2.1)
            ∗ (∃ f, arg11.view.loc (c : Thread nD τ) ↦[arg11.view.set]{fullShare} arg11.view.writes (Elt F) f L.2.2.1)
            ∗ (∃ f, arg12.view.loc (c : Thread nD τ) ↦[arg12.view.set]{fullShare} arg12.view.writes (Elt F) f L.2.2.2.1)
            ∗ (∃ f, arg13.view.loc (c : Thread nD τ) ↦[arg13.view.set]{fullShare} arg13.view.writes (Elt F) f L.2.2.2.2)
            ∗ (∃ d, owns (c : Thread nD τ) arg14 fullShare d)
            ∗ (∃ d, owns (c : Thread nD τ) arg15 fullShare d)) -∗ K ⟨⟩))
          ⊢ wp frame (wpE (defs₀ (F := F)) Variants.none c none) E (cc0_fused_proj i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨(?_, ?_, ?_, ?_, ?_), fun E K => ?run⟩
  case run =>
    simp only [cc0_fused_proj_eq_skeleton]; unfold cc0_fused_proj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7
    sl_exec (disch := first | sl_exact hc0 | sl_exact hc1 | sl_exact hc2 | sl_exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    isplitl [H9]
    · iexists _, _; isplitr; swap; · iexact H9
      ipureintro; rfl
    isplitl [H10]
    · iexists _; iexact H10
    isplitl [H11]
    · iexists _; iexact H11
    isplitl [H12]
    · iexists _; iexact H12
    isplitl [H13]
    · iexists _; iexact H13
    isplitl [H14]
    · iexists _, _; isplitr; swap; · iexact H14
      ipureintro; rfl
    iexists _, _; isplitr; swap; · iexact H15
    ipureintro; rfl

end Cert.Proof.ProjIdeal

end
-- ==== Proof.ProjIdealRunB.lean ====
/- One case of the projecting body, run on whole buffers. -/
module

public import proofs.«01_k».proof.Proof.Gen.ProjIdeal.Launch
public import proofs.«01_k».proof.Proof.Gen.ProjIdeal.Skeleton
public import proofs.«01_k».proof.Proof.Gen.ProjIdeal.Points
public import proofs.«01_k».proof.Proof.ProjIdealConds
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.ProjIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal Cert.ProjIdeal.Gen

variable {F : FTy → Type} [FloatOps F]

local notation "𝕄" => MT nD τ sig Unit (Elt F) ℕ (UR sig nD τ) ℕ

set_option maxHeartbeats 3200000 in
/-- The body at the other points of the first phase: one slab of outputs from the rows kept in scratch. Run on whole buffers, it leaves the buffers it only reads as they were,
    and each buffer it stores into with a list of stored pieces, which the run itself finds. -/
def runB (c : Dev nD) (i : grid0.Coords) (arg2 : Memref sig .tc .vmem S1x2048x1024 .f32) (harg2 : arg2.IsWhole) (arg3 : Memref sig .tc .vmem S1x2048x128 .f32) (harg3 : arg3.IsWhole) (arg4 : Memref sig .tc .vmem S1x1024 .f32) (harg4 : arg4.IsWhole) (arg5 : Memref sig .tc .vmem S1x128 .f32) (harg5 : arg5.IsWhole) (arg6 : Memref sig .tc .vmem S1024x1024 .bf16) (harg6 : arg6.IsWhole) (arg7 : Memref sig .tc .vmem S1x1024x768 .bf16) (harg7 : arg7.IsWhole) (arg8 : Memref sig .tc .vmem S1x2048x1024 .bf16) (harg8 : arg8.IsWhole) (arg9 : Memref sig .tc .vmem S1x1x2048x768 .bf16) (harg9 : arg9.IsWhole) (arg10 : Memref sig .tc .vmem S2048x1024 .bf16) (harg10 : arg10.IsWhole) (arg11 : Memref sig .tc .vmem S8x2048x128 .bf16) (harg11 : arg11.IsWhole) (arg12 : Memref sig .tc .vmem S8x2048x128 .bf16) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole)
    (hc0 : ¬first i) (hc1 : slabs i) (hc2 : ¬four i) (hc3 : ¬sixteen i)
    (x2 : Vec F S1x2048x1024 .f32) (x3 : Vec F S1x2048x128 .f32) (x4 : Vec F S1x1024 .f32) (x5 : Vec F S1x128 .f32) (x6 : Vec F S1024x1024 .bf16) (x7 : Vec F S1x1024x768 .bf16) (x10 : Vec F S2048x1024 .bf16) (x11 : Vec F S8x2048x128 .bf16) (x12 : Vec F S8x2048x128 .bf16) (x13 : Vec F S2048x128 .f32) :
    { L : List (View.Piece (Elt F) S1x2048x1024 .bf16) × List (View.Piece (Elt F) S8x2048x128 .bf16) × List (View.Piece (Elt F) S8x2048x128 .bf16) //
      ∀ (E : Set ℕ) (K : PUnit → sProp 𝕄),
        iprop(owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ owns (c : Thread nD τ) arg7 fullShare x7
          ∗ (∃ d, owns (c : Thread nD τ) arg8 fullShare d)
          ∗ (∃ d, owns (c : Thread nD τ) arg9 fullShare d)
          ∗ owns (c : Thread nD τ) arg10 fullShare x10
          ∗ owns (c : Thread nD τ) arg11 fullShare x11
          ∗ owns (c : Thread nD τ) arg12 fullShare x12
          ∗ owns (c : Thread nD τ) arg13 fullShare x13
          ∗ (∃ d, owns (c : Thread nD τ) arg14 fullShare d)
          ∗ (∃ d, owns (c : Thread nD τ) arg15 fullShare d)
          ∗ (iprop(owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ (∃ f, arg8.view.loc (c : Thread nD τ) ↦[arg8.view.set]{fullShare} arg8.view.writes (Elt F) f L.1)
            ∗ (∃ d, owns (c : Thread nD τ) arg9 fullShare d)
            ∗ owns (c : Thread nD τ) arg10 fullShare x10
            ∗ (arg11.view.loc (c : Thread nD τ) ↦[arg11.view.set]{fullShare} arg11.view.writes (Elt F) (harg11.unread x11) L.2.1)
            ∗ (arg12.view.loc (c : Thread nD τ) ↦[arg12.view.set]{fullShare} arg12.view.writes (Elt F) (harg12.unread x12) L.2.2)
            ∗ owns (c : Thread nD τ) arg13 fullShare x13
            ∗ (∃ d, owns (c : Thread nD τ) arg14 fullShare d)
            ∗ (∃ d, owns (c : Thread nD τ) arg15 fullShare d)) -∗ K ⟨⟩))
          ⊢ wp frame (wpE (defs₀ (F := F)) Variants.none c none) E (cc0_fused_proj i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨(?_, ?_, ?_), fun E K => ?run⟩
  case run =>
    simp only [cc0_fused_proj_eq_skeleton]; unfold cc0_fused_proj_skel
    simp only [k0_part5_eq_skeleton, k0_part6_eq_skeleton, k0_part7_eq_skeleton, k0_part8_eq_skeleton, k0_part9_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg10.eq_unread hf10; obtain rfl := harg11.eq_unread hf11; obtain rfl := harg12.eq_unread hf12; obtain rfl := harg13.eq_unread hf13
    sl_exec (disch := first | sl_exact hc0 | sl_exact hc1 | sl_exact hc2 | sl_exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    isplitl [H9]
    · iexists _, _; isplitr; swap; · iexact H9
      ipureintro; rfl
    isplitl [H10]
    · iexists _; isplitr; · ipureintro; exact harg10.read_unread _
      iexact H10
    isplitl [H11]
    · iexact H11
    isplitl [H12]
    · iexact H12
    isplitl [H13]
    · iexists _; isplitr; · ipureintro; exact harg13.read_unread _
      iexact H13
    isplitl [H14]
    · iexists _, _; isplitr; swap; · iexact H14
      ipureintro; rfl
    iexists _, _; isplitr; swap; · iexact H15
    ipureintro; rfl

end Cert.Proof.ProjIdeal

end
-- ==== Proof.ProjIdealRunC.lean ====
/- One case of the projecting body, run on whole buffers. -/
module

public import proofs.«01_k».proof.Proof.Gen.ProjIdeal.Launch
public import proofs.«01_k».proof.Proof.Gen.ProjIdeal.Skeleton
public import proofs.«01_k».proof.Proof.Gen.ProjIdeal.Points
public import proofs.«01_k».proof.Proof.ProjIdealConds
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.ProjIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal Cert.ProjIdeal.Gen

variable {F : FTy → Type} [FloatOps F]

local notation "𝕄" => MT nD τ sig Unit (Elt F) ℕ (UR sig nD τ) ℕ

set_option maxHeartbeats 3200000 in
/-- The body at the first two points of the second phase: one output block from the slabs dilated by four. Run on whole buffers, it leaves the buffers it only reads as they were,
    and each buffer it stores into with a list of stored pieces, which the run itself finds. -/
def runC (c : Dev nD) (i : grid0.Coords) (arg2 : Memref sig .tc .vmem S1x2048x1024 .f32) (harg2 : arg2.IsWhole) (arg3 : Memref sig .tc .vmem S1x2048x128 .f32) (harg3 : arg3.IsWhole) (arg4 : Memref sig .tc .vmem S1x1024 .f32) (harg4 : arg4.IsWhole) (arg5 : Memref sig .tc .vmem S1x128 .f32) (harg5 : arg5.IsWhole) (arg6 : Memref sig .tc .vmem S1024x1024 .bf16) (harg6 : arg6.IsWhole) (arg7 : Memref sig .tc .vmem S1x1024x768 .bf16) (harg7 : arg7.IsWhole) (arg8 : Memref sig .tc .vmem S1x2048x1024 .bf16) (harg8 : arg8.IsWhole) (arg9 : Memref sig .tc .vmem S1x1x2048x768 .bf16) (harg9 : arg9.IsWhole) (arg10 : Memref sig .tc .vmem S2048x1024 .bf16) (harg10 : arg10.IsWhole) (arg11 : Memref sig .tc .vmem S8x2048x128 .bf16) (harg11 : arg11.IsWhole) (arg12 : Memref sig .tc .vmem S8x2048x128 .bf16) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole)
    (hc0 : ¬first i) (hc1 : ¬slabs i) (hc2 : four i) (hc3 : ¬sixteen i)
    (x2 : Vec F S1x2048x1024 .f32) (x3 : Vec F S1x2048x128 .f32) (x4 : Vec F S1x1024 .f32) (x5 : Vec F S1x128 .f32) (x6 : Vec F S1024x1024 .bf16) (x7 : Vec F S1x1024x768 .bf16) (x8 : Vec F S1x2048x1024 .bf16) (x11 : Vec F S8x2048x128 .bf16) (x12 : Vec F S8x2048x128 .bf16) :
    { L : List (View.Piece (Elt F) S1x1x2048x768 .bf16) //
      ∀ (E : Set ℕ) (K : PUnit → sProp 𝕄),
        iprop(owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ owns (c : Thread nD τ) arg7 fullShare x7
          ∗ owns (c : Thread nD τ) arg8 fullShare x8
          ∗ (∃ d, owns (c : Thread nD τ) arg9 fullShare d)
          ∗ (∃ d, owns (c : Thread nD τ) arg10 fullShare d)
          ∗ owns (c : Thread nD τ) arg11 fullShare x11
          ∗ owns (c : Thread nD τ) arg12 fullShare x12
          ∗ (∃ d, owns (c : Thread nD τ) arg13 fullShare d)
          ∗ (∃ d, owns (c : Thread nD τ) arg14 fullShare d)
          ∗ (∃ d, owns (c : Thread nD τ) arg15 fullShare d)
          ∗ (iprop(owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ (∃ f, arg9.view.loc (c : Thread nD τ) ↦[arg9.view.set]{fullShare} arg9.view.writes (Elt F) f L)
            ∗ (∃ d, owns (c : Thread nD τ) arg10 fullShare d)
            ∗ owns (c : Thread nD τ) arg11 fullShare x11
            ∗ owns (c : Thread nD τ) arg12 fullShare x12
            ∗ (∃ d, owns (c : Thread nD τ) arg13 fullShare d)
            ∗ (∃ d, owns (c : Thread nD τ) arg14 fullShare d)
            ∗ (∃ d, owns (c : Thread nD τ) arg15 fullShare d)) -∗ K ⟨⟩))
          ⊢ wp frame (wpE (defs₀ (F := F)) Variants.none c none) E (cc0_fused_proj i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0_fused_proj_eq_skeleton]; unfold cc0_fused_proj_skel
    simp only [k0_part10_eq_skeleton, k0_part11_eq_skeleton, k0_part12_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%f12, %hf12, H12⟩, ⟨%d13, %f13, -, H13⟩, ⟨%d14, %f14, -, H14⟩, ⟨%d15, %f15, -, H15⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg11.eq_unread hf11; obtain rfl := harg12.eq_unread hf12
    sl_exec (disch := first | sl_exact hc0 | sl_exact hc1 | sl_exact hc2 | sl_exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    isplitl [H10]
    · iexists _, _; isplitr; swap; · iexact H10
      ipureintro; rfl
    isplitl [H11]
    · iexists _; isplitr; · ipureintro; exact harg11.read_unread _
      iexact H11
    isplitl [H12]
    · iexists _; isplitr; · ipureintro; exact harg12.read_unread _
      iexact H12
    isplitl [H13]
    · iexists _, _; isplitr; swap; · iexact H13
      ipureintro; rfl
    isplitl [H14]
    · iexists _, _; isplitr; swap; · iexact H14
      ipureintro; rfl
    iexists _, _; isplitr; swap; · iexact H15
    ipureintro; rfl

end Cert.Proof.ProjIdeal

end
-- ==== Proof.ProjIdealRunD.lean ====
/- One case of the projecting body, run on whole buffers. -/
module

public import proofs.«01_k».proof.Proof.Gen.ProjIdeal.Launch
public import proofs.«01_k».proof.Proof.Gen.ProjIdeal.Skeleton
public import proofs.«01_k».proof.Proof.Gen.ProjIdeal.Points
public import proofs.«01_k».proof.Proof.ProjIdealConds
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.ProjIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal Cert.ProjIdeal.Gen

variable {F : FTy → Type} [FloatOps F]

local notation "𝕄" => MT nD τ sig Unit (Elt F) ℕ (UR sig nD τ) ℕ

set_option maxHeartbeats 3200000 in
/-- The body at the last two points of the second phase: one output block from the slabs dilated by sixteen. Run on whole buffers, it leaves the buffers it only reads as they were,
    and each buffer it stores into with a list of stored pieces, which the run itself finds. -/
def runD (c : Dev nD) (i : grid0.Coords) (arg2 : Memref sig .tc .vmem S1x2048x1024 .f32) (harg2 : arg2.IsWhole) (arg3 : Memref sig .tc .vmem S1x2048x128 .f32) (harg3 : arg3.IsWhole) (arg4 : Memref sig .tc .vmem S1x1024 .f32) (harg4 : arg4.IsWhole) (arg5 : Memref sig .tc .vmem S1x128 .f32) (harg5 : arg5.IsWhole) (arg6 : Memref sig .tc .vmem S1024x1024 .bf16) (harg6 : arg6.IsWhole) (arg7 : Memref sig .tc .vmem S1x1024x768 .bf16) (harg7 : arg7.IsWhole) (arg8 : Memref sig .tc .vmem S1x2048x1024 .bf16) (harg8 : arg8.IsWhole) (arg9 : Memref sig .tc .vmem S1x1x2048x768 .bf16) (harg9 : arg9.IsWhole) (arg10 : Memref sig .tc .vmem S2048x1024 .bf16) (harg10 : arg10.IsWhole) (arg11 : Memref sig .tc .vmem S8x2048x128 .bf16) (harg11 : arg11.IsWhole) (arg12 : Memref sig .tc .vmem S8x2048x128 .bf16) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole)
    (hc0 : ¬first i) (hc1 : ¬slabs i) (hc2 : ¬four i) (hc3 : sixteen i)
    (x2 : Vec F S1x2048x1024 .f32) (x3 : Vec F S1x2048x128 .f32) (x4 : Vec F S1x1024 .f32) (x5 : Vec F S1x128 .f32) (x6 : Vec F S1024x1024 .bf16) (x7 : Vec F S1x1024x768 .bf16) (x8 : Vec F S1x2048x1024 .bf16) (x11 : Vec F S8x2048x128 .bf16) (x12 : Vec F S8x2048x128 .bf16) :
    { L : List (View.Piece (Elt F) S1x1x2048x768 .bf16) //
      ∀ (E : Set ℕ) (K : PUnit → sProp 𝕄),
        iprop(owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ owns (c : Thread nD τ) arg7 fullShare x7
          ∗ owns (c : Thread nD τ) arg8 fullShare x8
          ∗ (∃ d, owns (c : Thread nD τ) arg9 fullShare d)
          ∗ (∃ d, owns (c : Thread nD τ) arg10 fullShare d)
          ∗ owns (c : Thread nD τ) arg11 fullShare x11
          ∗ owns (c : Thread nD τ) arg12 fullShare x12
          ∗ (∃ d, owns (c : Thread nD τ) arg13 fullShare d)
          ∗ (∃ d, owns (c : Thread nD τ) arg14 fullShare d)
          ∗ (∃ d, owns (c : Thread nD τ) arg15 fullShare d)
          ∗ (iprop(owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ (∃ f, arg9.view.loc (c : Thread nD τ) ↦[arg9.view.set]{fullShare} arg9.view.writes (Elt F) f L)
            ∗ (∃ d, owns (c : Thread nD τ) arg10 fullShare d)
            ∗ owns (c : Thread nD τ) arg11 fullShare x11
            ∗ owns (c : Thread nD τ) arg12 fullShare x12
            ∗ (∃ d, owns (c : Thread nD τ) arg13 fullShare d)
            ∗ (∃ d, owns (c : Thread nD τ) arg14 fullShare d)
            ∗ (∃ d, owns (c : Thread nD τ) arg15 fullShare d)) -∗ K ⟨⟩))
          ⊢ wp frame (wpE (defs₀ (F := F)) Variants.none c none) E (cc0_fused_proj i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0_fused_proj_eq_skeleton]; unfold cc0_fused_proj_skel
    simp only [k0_part13_eq_skeleton, k0_part14_eq_skeleton, k0_part15_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%f12, %hf12, H12⟩, ⟨%d13, %f13, -, H13⟩, ⟨%d14, %f14, -, H14⟩, ⟨%d15, %f15, -, H15⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg11.eq_unread hf11; obtain rfl := harg12.eq_unread hf12
    sl_exec (disch := first | sl_exact hc0 | sl_exact hc1 | sl_exact hc2 | sl_exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    isplitl [H10]
    · iexists _, _; isplitr; swap; · iexact H10
      ipureintro; rfl
    isplitl [H11]
    · iexists _; isplitr; · ipureintro; exact harg11.read_unread _
      iexact H11
    isplitl [H12]
    · iexists _; isplitr; · ipureintro; exact harg12.read_unread _
      iexact H12
    isplitl [H13]
    · iexists _, _; isplitr; swap; · iexact H13
      ipureintro; rfl
    isplitl [H14]
    · iexists _, _; isplitr; swap; · iexact H14
      ipureintro; rfl
    iexists _, _; isplitr; swap; · iexact H15
    ipureintro; rfl

end Cert.Proof.ProjIdeal

end
-- ==== Proof.ProjIdealBody.lean ====
/- The projecting body at every point of the grid, and the run of the whole call. -/
module

public import proofs.«01_k».proof.Proof.Gen.ProjIdeal.Launch
public import proofs.«01_k».proof.Proof.Gen.ProjIdeal.Points
public import proofs.«01_k».proof.Proof.Gen.ProjIdeal.Frame
public import proofs.«01_k».proof.Proof.ProjIdealRunA
public import proofs.«01_k».proof.Proof.ProjIdealRunB
public import proofs.«01_k».proof.Proof.ProjIdealRunC
public import proofs.«01_k».proof.Proof.ProjIdealRunD
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.ProjIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal Cert.ProjIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which point takes which branches -/

/-- The first branch is taken at the first of the twelve points of an image. -/
theorem first_iff : ∀ t : Fin cfg0.N, first (grid0.coords t) ↔ t.val % 12 = 0 :=
  (by decide +kernel : ∀ t : Fin grid0.N, first (grid0.coords t) ↔ t.val % 12 = 0)
/-- The second branch is taken at the first eight. -/
theorem slabs_iff : ∀ t : Fin cfg0.N, slabs (grid0.coords t) ↔ t.val % 12 ≤ 7 :=
  (by decide +kernel : ∀ t : Fin grid0.N, slabs (grid0.coords t) ↔ t.val % 12 ≤ 7)
/-- The third branch is taken at the ninth and the tenth. -/
theorem four_iff : ∀ t : Fin cfg0.N, four (grid0.coords t) ↔ (8 ≤ t.val % 12 ∧ t.val % 12 ≤ 9) :=
  (by decide +kernel : ∀ t : Fin grid0.N, four (grid0.coords t) ↔ (8 ≤ t.val % 12 ∧ t.val % 12 ≤ 9))
/-- The fourth branch is taken at the last two. -/
theorem sixteen_iff : ∀ t : Fin cfg0.N, sixteen (grid0.coords t) ↔ 10 ≤ t.val % 12 :=
  (by decide +kernel : ∀ t : Fin grid0.N, sixteen (grid0.coords t) ↔ 10 ≤ t.val % 12)

/-! ## What is claimed of the buffers -/

/-- What is claimed of the buffers of one core: `I n` of the four scratch buffers before position `n` (the normalized
    rows, the two sets of dilated slabs, the rows' factors), `P6 n` and `P7 n` of the two output blocks after point `n`. -/
structure Claims (F : FTy → Type) [FloatOps F] where
  I : ℕ → Vec F S2048x1024 .bf16 → Vec F S8x2048x128 .bf16 → Vec F S8x2048x128 .bf16 → Vec F S2048x128 .f32 → Prop
  P6 : ℕ → Vec F S1x2048x1024 .bf16 → Prop
  P7 : ℕ → Vec F S1x1x2048x768 .bf16 → Prop

/-- The claims are kept by the four cases of the body, and nothing is claimed of the scratch between images. -/
structure Kept (S : Claims F) (c : Dev nD) : Prop where
  start : ∀ n, n % 12 = 0 → ∀ x10 x11 x12 x13, S.I n x10 x11 x12 x13
  caseA : ∀ (t : Fin cfg0.N), t.val % 12 = 0 → ∀ (arg2 : Memref sig .tc .vmem S1x2048x1024 .f32) (harg2 : arg2.IsWhole) (arg3 : Memref sig .tc .vmem S1x2048x128 .f32) (harg3 : arg3.IsWhole) (arg4 : Memref sig .tc .vmem S1x1024 .f32) (harg4 : arg4.IsWhole) (arg5 : Memref sig .tc .vmem S1x128 .f32) (harg5 : arg5.IsWhole) (arg6 : Memref sig .tc .vmem S1024x1024 .bf16) (harg6 : arg6.IsWhole) (arg7 : Memref sig .tc .vmem S1x1024x768 .bf16) (harg7 : arg7.IsWhole) (arg8 : Memref sig .tc .vmem S1x2048x1024 .bf16) (harg8 : arg8.IsWhole) (arg9 : Memref sig .tc .vmem S1x1x2048x768 .bf16) (harg9 : arg9.IsWhole) (arg10 : Memref sig .tc .vmem S2048x1024 .bf16) (harg10 : arg10.IsWhole) (arg11 : Memref sig .tc .vmem S8x2048x128 .bf16) (harg11 : arg11.IsWhole) (arg12 : Memref sig .tc .vmem S8x2048x128 .bf16) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole)
      (hc0 : first (grid0.coords t)) (hc1 : slabs (grid0.coords t)) (hc2 : ¬four (grid0.coords t)) (hc3 : ¬sixteen (grid0.coords t)),
      (∀ f, S.P6 t.val (arg8.view.read (Elt F) (arg8.view.writes (Elt F) f (runA c (grid0.coords t) arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 (iblk m c 0 t) (iblk m c 1 t) (iblk m c 2 t) (iblk m c 3 t) (iblk m c 4 t) (iblk m c 5 t)).1.1)))
      ∧ ∀ f10 f11 f12 f13, S.I (t.val + 1) (arg10.view.read (Elt F) (arg10.view.writes (Elt F) f10 (runA c (grid0.coords t) arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 (iblk m c 0 t) (iblk m c 1 t) (iblk m c 2 t) (iblk m c 3 t) (iblk m c 4 t) (iblk m c 5 t)).1.2.1))
        (arg11.view.read (Elt F) (arg11.view.writes (Elt F) f11 (runA c (grid0.coords t) arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 (iblk m c 0 t) (iblk m c 1 t) (iblk m c 2 t) (iblk m c 3 t) (iblk m c 4 t) (iblk m c 5 t)).1.2.2.1))
        (arg12.view.read (Elt F) (arg12.view.writes (Elt F) f12 (runA c (grid0.coords t) arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 (iblk m c 0 t) (iblk m c 1 t) (iblk m c 2 t) (iblk m c 3 t) (iblk m c 4 t) (iblk m c 5 t)).1.2.2.2.1))
        (arg13.view.read (Elt F) (arg13.view.writes (Elt F) f13 (runA c (grid0.coords t) arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 (iblk m c 0 t) (iblk m c 1 t) (iblk m c 2 t) (iblk m c 3 t) (iblk m c 4 t) (iblk m c 5 t)).1.2.2.2.2))
  caseB : ∀ (t : Fin cfg0.N), t.val % 12 ≠ 0 → t.val % 12 ≤ 7 → ∀ (arg2 : Memref sig .tc .vmem S1x2048x1024 .f32) (harg2 : arg2.IsWhole) (arg3 : Memref sig .tc .vmem S1x2048x128 .f32) (harg3 : arg3.IsWhole) (arg4 : Memref sig .tc .vmem S1x1024 .f32) (harg4 : arg4.IsWhole) (arg5 : Memref sig .tc .vmem S1x128 .f32) (harg5 : arg5.IsWhole) (arg6 : Memref sig .tc .vmem S1024x1024 .bf16) (harg6 : arg6.IsWhole) (arg7 : Memref sig .tc .vmem S1x1024x768 .bf16) (harg7 : arg7.IsWhole) (arg8 : Memref sig .tc .vmem S1x2048x1024 .bf16) (harg8 : arg8.IsWhole) (arg9 : Memref sig .tc .vmem S1x1x2048x768 .bf16) (harg9 : arg9.IsWhole) (arg10 : Memref sig .tc .vmem S2048x1024 .bf16) (harg10 : arg10.IsWhole) (arg11 : Memref sig .tc .vmem S8x2048x128 .bf16) (harg11 : arg11.IsWhole) (arg12 : Memref sig .tc .vmem S8x2048x128 .bf16) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole)
      (hc0 : ¬first (grid0.coords t)) (hc1 : slabs (grid0.coords t)) (hc2 : ¬four (grid0.coords t)) (hc3 : ¬sixteen (grid0.coords t))
      (x10 : Vec F S2048x1024 .bf16) (x11 x12 : Vec F S8x2048x128 .bf16) (x13 : Vec F S2048x128 .f32), S.I t.val x10 x11 x12 x13 →
      (∀ f, S.P6 t.val (arg8.view.read (Elt F) (arg8.view.writes (Elt F) f (runB c (grid0.coords t) arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 (iblk m c 0 t) (iblk m c 1 t) (iblk m c 2 t) (iblk m c 3 t) (iblk m c 4 t) (iblk m c 5 t) x10 x11 x12 x13).1.1)))
      ∧ S.I (t.val + 1) x10 (arg11.view.read (Elt F) (arg11.view.writes (Elt F) (harg11.unread x11) (runB c (grid0.coords t) arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 (iblk m c 0 t) (iblk m c 1 t) (iblk m c 2 t) (iblk m c 3 t) (iblk m c 4 t) (iblk m c 5 t) x10 x11 x12 x13).1.2.1))
        (arg12.view.read (Elt F) (arg12.view.writes (Elt F) (harg12.unread x12) (runB c (grid0.coords t) arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 (iblk m c 0 t) (iblk m c 1 t) (iblk m c 2 t) (iblk m c 3 t) (iblk m c 4 t) (iblk m c 5 t) x10 x11 x12 x13).1.2.2)) x13
  caseC : ∀ (t : Fin cfg0.N), 8 ≤ t.val % 12 → t.val % 12 ≤ 9 → ∀ (arg2 : Memref sig .tc .vmem S1x2048x1024 .f32) (harg2 : arg2.IsWhole) (arg3 : Memref sig .tc .vmem S1x2048x128 .f32) (harg3 : arg3.IsWhole) (arg4 : Memref sig .tc .vmem S1x1024 .f32) (harg4 : arg4.IsWhole) (arg5 : Memref sig .tc .vmem S1x128 .f32) (harg5 : arg5.IsWhole) (arg6 : Memref sig .tc .vmem S1024x1024 .bf16) (harg6 : arg6.IsWhole) (arg7 : Memref sig .tc .vmem S1x1024x768 .bf16) (harg7 : arg7.IsWhole) (arg8 : Memref sig .tc .vmem S1x2048x1024 .bf16) (harg8 : arg8.IsWhole) (arg9 : Memref sig .tc .vmem S1x1x2048x768 .bf16) (harg9 : arg9.IsWhole) (arg10 : Memref sig .tc .vmem S2048x1024 .bf16) (harg10 : arg10.IsWhole) (arg11 : Memref sig .tc .vmem S8x2048x128 .bf16) (harg11 : arg11.IsWhole) (arg12 : Memref sig .tc .vmem S8x2048x128 .bf16) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole)
      (hc0 : ¬first (grid0.coords t)) (hc1 : ¬slabs (grid0.coords t)) (hc2 : four (grid0.coords t)) (hc3 : ¬sixteen (grid0.coords t))
      (x8 : Vec F S1x2048x1024 .bf16) (x10 : Vec F S2048x1024 .bf16) (x11 x12 : Vec F S8x2048x128 .bf16) (x13 : Vec F S2048x128 .f32), S.I t.val x10 x11 x12 x13 →
      (∀ f, S.P7 t.val (arg9.view.read (Elt F) (arg9.view.writes (Elt F) f (runC c (grid0.coords t) arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 (iblk m c 0 t) (iblk m c 1 t) (iblk m c 2 t) (iblk m c 3 t) (iblk m c 4 t) (iblk m c 5 t) x8 x11 x12).1))) ∧ ∀ y10 y13, S.I (t.val + 1) y10 x11 x12 y13
  caseD : ∀ (t : Fin cfg0.N), 10 ≤ t.val % 12 → ∀ (arg2 : Memref sig .tc .vmem S1x2048x1024 .f32) (harg2 : arg2.IsWhole) (arg3 : Memref sig .tc .vmem S1x2048x128 .f32) (harg3 : arg3.IsWhole) (arg4 : Memref sig .tc .vmem S1x1024 .f32) (harg4 : arg4.IsWhole) (arg5 : Memref sig .tc .vmem S1x128 .f32) (harg5 : arg5.IsWhole) (arg6 : Memref sig .tc .vmem S1024x1024 .bf16) (harg6 : arg6.IsWhole) (arg7 : Memref sig .tc .vmem S1x1024x768 .bf16) (harg7 : arg7.IsWhole) (arg8 : Memref sig .tc .vmem S1x2048x1024 .bf16) (harg8 : arg8.IsWhole) (arg9 : Memref sig .tc .vmem S1x1x2048x768 .bf16) (harg9 : arg9.IsWhole) (arg10 : Memref sig .tc .vmem S2048x1024 .bf16) (harg10 : arg10.IsWhole) (arg11 : Memref sig .tc .vmem S8x2048x128 .bf16) (harg11 : arg11.IsWhole) (arg12 : Memref sig .tc .vmem S8x2048x128 .bf16) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x128 .f32) (harg15 : arg15.IsWhole)
      (hc0 : ¬first (grid0.coords t)) (hc1 : ¬slabs (grid0.coords t)) (hc2 : ¬four (grid0.coords t)) (hc3 : sixteen (grid0.coords t))
      (x8 : Vec F S1x2048x1024 .bf16) (x10 : Vec F S2048x1024 .bf16) (x11 x12 : Vec F S8x2048x128 .bf16) (x13 : Vec F S2048x128 .f32), S.I t.val x10 x11 x12 x13 →
      (∀ f, S.P7 t.val (arg9.view.read (Elt F) (arg9.view.writes (Elt F) f (runD c (grid0.coords t) arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 (iblk m c 0 t) (iblk m c 1 t) (iblk m c 2 t) (iblk m c 3 t) (iblk m c 4 t) (iblk m c 5 t) x8 x11 x12).1))) ∧ ∀ y10 y13, S.I (t.val + 1) y10 x11 x12 y13

/-- Nothing is claimed. -/
def nothing : Claims F := ⟨fun _ _ _ _ _ => True, fun _ _ => True, fun _ _ => True⟩

theorem nothing_kept (c : Dev nD) : Kept m (nothing (F := F)) c where
  start _ _ _ _ _ _ := trivial
  caseA := by intros; exact ⟨fun _ => trivial, fun _ _ _ _ => trivial⟩
  caseB := by intros; exact ⟨fun _ => trivial, trivial⟩
  caseC := by intros; exact ⟨fun _ => trivial, fun _ _ => trivial⟩
  caseD := by intros; exact ⟨fun _ => trivial, fun _ _ => trivial⟩

/-! ## The proof data -/

/-- The scratch buffers, as whole memory references. -/
abbrev sc0 : Memref sig .tc .vmem S2048x1024 .bf16 := Memref.whole cc0_scratch0
abbrev sc1 : Memref sig .tc .vmem S8x2048x128 .bf16 := Memref.whole cc0_scratch1
abbrev sc2 : Memref sig .tc .vmem S8x2048x128 .bf16 := Memref.whole cc0_scratch2
abbrev sc3 : Memref sig .tc .vmem S2048x128 .f32 := Memref.whole cc0_scratch3
abbrev sc4 : Memref sig .tc .vmem S2048x128 .f32 := Memref.whole cc0_scratch4
abbrev sc5 : Memref sig .tc .vmem S2048x128 .f32 := Memref.whole cc0_scratch5

/-- Before position `n`: the scratch buffers hold something of which `I n` is claimed, the generator some state. -/
def Inv (S : Claims F) (c : Dev nD) (n : ℕ) : sProp 𝕄 :=
  iprop((∃ x10 x11 x12 x13, ⌜S.I n x10 x11 x12 x13⌝ ∗ owns (c : Thread nD τ) sc0 fullShare x10 ∗ owns (c : Thread nD τ) sc1 fullShare x11
      ∗ owns (c : Thread nD τ) sc2 fullShare x12 ∗ owns (c : Thread nD τ) sc3 fullShare x13)
    ∗ (∃ d, owns (c : Thread nD τ) sc4 fullShare d) ∗ (∃ d, owns (c : Thread nD τ) sc5 fullShare d) ∗ (∃ r, prngReg c r))

/-- What the launch hands over, with the scratch buffers as memory references. -/
theorem given_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) := by
  unfold Pipeline.ΦA; rw [scopedRest0_eq]; simp only [sc0, sc1, sc2, sc3, sc4, sc5, owns_whole]; try rfl

/-- The proof data of the call: inputs are left as found; the first output block satisfies `P6` after a point of the first
    phase and is left as found in the second, where the second output block satisfies `P7`. -/
def rdat (S : Claims F) (c : Dev nD) : Pipeline.RDat τ (Elt F) Unit ℕ (UR sig nD τ) ℕ (cfgs 0) c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => (t.val % 12 ≤ 7 → S.P6 t.val X) ∧ (8 ≤ t.val % 12 → X = Y)
    | ⟨7, _⟩ => 8 ≤ t.val % 12 → S.P7 t.val X
  Φ t := Inv S c t.val
  q w := Pipeline.shareOf spec0 w
  owed _ := 0

theorem A_eq (S : Claims F) (c : Dev nD) (w : Fin cfg0.W) : (rdat m S c).A w = V m c (Pipeline.arrRef spec0 w) := by
  dsimp only [rdat]

/-- Input window 0 is found holding its block. -/
theorem finds0 (S : Claims F) (c : Dev nD) (t : Fin cfg0.N) (Y) (h : (rdat m S c).Finds 0 t Y) : Y = iblk m c 0 t := by
  obtain ⟨d, hd⟩ := (rdat m S c).finds_in_eq_fetched 0 rfl (fun _ _ _ => rfl) (fun t Y X h => by dsimp only [rdat] at h; exact h) t Y h
  rw [hd]; unfold Pipeline.RDat.fetched Pipeline.RDat.blockOf iblk; rw [A_eq]; try rfl
/-- Input window 1 is found holding its block. -/
theorem finds1 (S : Claims F) (c : Dev nD) (t : Fin cfg0.N) (Y) (h : (rdat m S c).Finds 1 t Y) : Y = iblk m c 1 t := by
  obtain ⟨d, hd⟩ := (rdat m S c).finds_in_eq_fetched 1 rfl (fun _ _ _ => rfl) (fun t Y X h => by dsimp only [rdat] at h; exact h) t Y h
  rw [hd]; unfold Pipeline.RDat.fetched Pipeline.RDat.blockOf iblk; rw [A_eq]; try rfl
/-- Input window 2 is found holding its block. -/
theorem finds2 (S : Claims F) (c : Dev nD) (t : Fin cfg0.N) (Y) (h : (rdat m S c).Finds 2 t Y) : Y = iblk m c 2 t := by
  obtain ⟨d, hd⟩ := (rdat m S c).finds_in_eq_fetched 2 rfl (fun _ _ _ => rfl) (fun t Y X h => by dsimp only [rdat] at h; exact h) t Y h
  rw [hd]; unfold Pipeline.RDat.fetched Pipeline.RDat.blockOf iblk; rw [A_eq]; try rfl
/-- Input window 3 is found holding its block. -/
theorem finds3 (S : Claims F) (c : Dev nD) (t : Fin cfg0.N) (Y) (h : (rdat m S c).Finds 3 t Y) : Y = iblk m c 3 t := by
  obtain ⟨d, hd⟩ := (rdat m S c).finds_in_eq_fetched 3 rfl (fun _ _ _ => rfl) (fun t Y X h => by dsimp only [rdat] at h; exact h) t Y h
  rw [hd]; unfold Pipeline.RDat.fetched Pipeline.RDat.blockOf iblk; rw [A_eq]; try rfl
/-- Input window 4 is found holding its block. -/
theorem finds4 (S : Claims F) (c : Dev nD) (t : Fin cfg0.N) (Y) (h : (rdat m S c).Finds 4 t Y) : Y = iblk m c 4 t := by
  obtain ⟨d, hd⟩ := (rdat m S c).finds_in_eq_fetched 4 rfl (fun _ _ _ => rfl) (fun t Y X h => by dsimp only [rdat] at h; exact h) t Y h
  rw [hd]; unfold Pipeline.RDat.fetched Pipeline.RDat.blockOf iblk; rw [A_eq]; try rfl
/-- Input window 5 is found holding its block. -/
theorem finds5 (S : Claims F) (c : Dev nD) (t : Fin cfg0.N) (Y) (h : (rdat m S c).Finds 5 t Y) : Y = iblk m c 5 t := by
  obtain ⟨d, hd⟩ := (rdat m S c).finds_in_eq_fetched 5 rfl (fun _ _ _ => rfl) (fun t Y X h => by dsimp only [rdat] at h; exact h) t Y h
  rw [hd]; unfold Pipeline.RDat.fetched Pipeline.RDat.blockOf iblk; rw [A_eq]; try rfl

/-! ## The body at a point -/

/-- What the body is called with at point `t`, the windows one by one, -/
def bodyPre (S : Claims F) (c : Dev nD) (t : Fin cfg0.N) (y6 : Vec F S1x2048x1024 .bf16) (y7 : Vec F S1x1x2048x768 .bf16) : sProp 𝕄 :=
  iprop(Inv S c t.val ∗ (rdat m S c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare y6
    ∗ owns (c : Thread nD τ) (st0_7 t) fullShare y7)

/-- and what it returns. -/
def bodyPost (S : Claims F) (c : Dev nD) (t : Fin cfg0.N) (y6 : Vec F S1x2048x1024 .bf16) : sProp 𝕄 :=
  iprop(Inv S c (t.val + 1) ∗ (rdat m S c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ (∃ X, ⌜(t.val % 12 ≤ 7 → S.P6 t.val X) ∧ (8 ≤ t.val % 12 → X = y6)⌝ ∗ owns (c : Thread nD τ) (st0_6 t) fullShare X)
    ∗ (∃ X, ⌜8 ≤ t.val % 12 → S.P7 t.val X⌝ ∗ owns (c : Thread nD τ) (st0_7 t) fullShare X))

set_option maxHeartbeats 3200000 in
/-- The body at the first point of an image. -/
theorem soundA (S : Claims F) (c : Dev nD) (hS : Kept m S c) (t : Fin cfg0.N) (y6 y7) (h : t.val % 12 = 0) :
    bodyPre m S c t y6 y7 ⊢ wp frame (wpE (defs₀ (F := F)) Variants.none c none) Set.univ (bodyAt0 t) (fun _ => bodyPost m S c t y6) := by
  unfold bodyPre bodyPost bodyAt0 Inv
  have hc0 : first (grid0.coords t) := (first_iff t).mpr h
  have hc1 : slabs (grid0.coords t) := (slabs_iff t).mpr (by omega)
  have hc2 : ¬four (grid0.coords t) := fun e => absurd ((four_iff t).mp e) (by omega)
  have hc3 : ¬sixteen (grid0.coords t) := fun e => absurd ((sixteen_iff t).mp e) (by omega)
  iintro ⟨⟨⟨%x10, %x11, %x12, %x13, %hI, H10, H11, H12, H13⟩, H14, H15, Hg⟩, Ho, H2, H3, H4, H5, H6, H7, H8, H9⟩
  have hk := hS.caseA t h _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) sc0 (Memref.isWhole_whole _) sc1 (Memref.isWhole_whole _) sc2 (Memref.isWhole_whole _) sc3 (Memref.isWhole_whole _) sc4 (Memref.isWhole_whole _) sc5 (Memref.isWhole_whole _) hc0 hc1 hc2 hc3
  iapply ((runA c (grid0.coords t) _ _ _ _ _ _ _ _ _ _ _ _ _ _ _ _ _ _ _ _ _ _ _ _ _ _ _ _ hc0 hc1 hc2 hc3 (iblk m c 0 t) (iblk m c 1 t) (iblk m c 2 t) (iblk m c 3 t) (iblk m c 4 t) (iblk m c 5 t)).2 Set.univ _)
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexact H14
  isplitl [H15]; · iexact H15
  iintro ⟨H2, H3, H4, H5, H6, H7, ⟨%f8, H8⟩, ⟨%d9, H9⟩, ⟨%f10, H10⟩, ⟨%f11, H11⟩, ⟨%f12, H12⟩, ⟨%f13, H13⟩, H14, H15⟩
  isplitl [H10 H11 H12 H13 H14 H15 Hg]
  · isplitl [H10 H11 H12 H13]
    · iexists _, _, _, _
      isplitr
      swap
      · isplitl [H10]
        · unfold owns; iexists _; isplitr; swap
          · iexact H10
          ipureintro; rfl
        isplitl [H11]
        · unfold owns; iexists _; isplitr; swap
          · iexact H11
          ipureintro; rfl
        isplitl [H12]
        · unfold owns; iexists _; isplitr; swap
          · iexact H12
          ipureintro; rfl
        unfold owns; iexists _; isplitr; swap
        · iexact H13
        ipureintro; rfl
      ipureintro
      exact hk.2 f10 f11 f12 f13
    isplitl [H14]; · iexact H14
    isplitl [H15]; · iexact H15
    iexact Hg
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]
  · iexists _; isplitr
    swap
    · unfold owns; iexists _; isplitr
      swap
      · iexact H8
      ipureintro; rfl
    ipureintro
    exact ⟨fun _ => hk.1 f8, fun e => absurd e (by omega)⟩
  iexists d9; isplitr
  swap
  · iexact H9
  ipureintro
  exact fun e => absurd e (by omega)

set_option maxHeartbeats 3200000 in
/-- The body at the other points of the first phase. -/
theorem soundB (S : Claims F) (c : Dev nD) (hS : Kept m S c) (t : Fin cfg0.N) (y6 y7) (h : t.val % 12 ≠ 0) (h7 : t.val % 12 ≤ 7) :
    bodyPre m S c t y6 y7 ⊢ wp frame (wpE (defs₀ (F := F)) Variants.none c none) Set.univ (bodyAt0 t) (fun _ => bodyPost m S c t y6) := by
  unfold bodyPre bodyPost bodyAt0 Inv
  have hc0 : ¬first (grid0.coords t) := fun e => absurd ((first_iff t).mp e) (by omega)
  have hc1 : slabs (grid0.coords t) := (slabs_iff t).mpr h7
  have hc2 : ¬four (grid0.coords t) := fun e => absurd ((four_iff t).mp e) (by omega)
  have hc3 : ¬sixteen (grid0.coords t) := fun e => absurd ((sixteen_iff t).mp e) (by omega)
  iintro ⟨⟨⟨%x10, %x11, %x12, %x13, %hI, H10, H11, H12, H13⟩, H14, H15, Hg⟩, Ho, H2, H3, H4, H5, H6, H7, H8, H9⟩
  have hk := hS.caseB t h h7 _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) sc0 (Memref.isWhole_whole _) sc1 (Memref.isWhole_whole _) sc2 (Memref.isWhole_whole _) sc3 (Memref.isWhole_whole _) sc4 (Memref.isWhole_whole _) sc5 (Memref.isWhole_whole _) hc0 hc1 hc2 hc3 x10 x11 x12 x13 hI
  iapply ((runB c (grid0.coords t) _ _ _ _ _ _ _ _ _ _ _ _ _ _ _ _ _ _ _ _ _ _ _ _ _ _ _ _ hc0 hc1 hc2 hc3 (iblk m c 0 t) (iblk m c 1 t) (iblk m c 2 t) (iblk m c 3 t) (iblk m c 4 t) (iblk m c 5 t) x10 x11 x12 x13).2 Set.univ _)
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexact H10
  isplitl [H11]; · iexact H11
  isplitl [H12]; · iexact H12
  isplitl [H13]; · iexact H13
  isplitl [H14]; · iexact H14
  isplitl [H15]; · iexact H15
  iintro ⟨H2, H3, H4, H5, H6, H7, ⟨%f8, H8⟩, ⟨%d9, H9⟩, H10, H11, H12, H13, H14, H15⟩
  isplitl [H10 H11 H12 H13 H14 H15 Hg]
  · isplitl [H10 H11 H12 H13]
    · iexists _, _, _, _
      isplitr
      swap
      · isplitl [H10]
        · iexact H10
        isplitl [H11]
        · unfold owns; iexists _; isplitr; swap
          · iexact H11
          ipureintro; rfl
        isplitl [H12]
        · unfold owns; iexists _; isplitr; swap
          · iexact H12
          ipureintro; rfl
        iexact H13
      ipureintro
      exact hk.2
    isplitl [H14]; · iexact H14
    isplitl [H15]; · iexact H15
    iexact Hg
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]
  · iexists _; isplitr
    swap
    · unfold owns; iexists _; isplitr
      swap
      · iexact H8
      ipureintro; rfl
    ipureintro
    exact ⟨fun _ => hk.1 f8, fun e => absurd e (by omega)⟩
  iexists d9; isplitr
  swap
  · iexact H9
  ipureintro
  exact fun e => absurd e (by omega)

set_option maxHeartbeats 3200000 in
/-- The body at the first two points of the second phase. -/
theorem soundC (S : Claims F) (c : Dev nD) (hS : Kept m S c) (t : Fin cfg0.N) (y6 y7) (h : 8 ≤ t.val % 12) (h9 : t.val % 12 ≤ 9) :
    bodyPre m S c t y6 y7 ⊢ wp frame (wpE (defs₀ (F := F)) Variants.none c none) Set.univ (bodyAt0 t) (fun _ => bodyPost m S c t y6) := by
  unfold bodyPre bodyPost bodyAt0 Inv
  have hc0 : ¬first (grid0.coords t) := fun e => absurd ((first_iff t).mp e) (by omega)
  have hc1 : ¬slabs (grid0.coords t) := fun e => absurd ((slabs_iff t).mp e) (by omega)
  have hc2 : four (grid0.coords t) := (four_iff t).mpr ⟨h, h9⟩
  have hc3 : ¬sixteen (grid0.coords t) := fun e => absurd ((sixteen_iff t).mp e) (by omega)
  iintro ⟨⟨⟨%x10, %x11, %x12, %x13, %hI, H10, H11, H12, H13⟩, H14, H15, Hg⟩, Ho, H2, H3, H4, H5, H6, H7, H8, H9⟩
  have hk := hS.caseC t h h9 _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) sc0 (Memref.isWhole_whole _) sc1 (Memref.isWhole_whole _) sc2 (Memref.isWhole_whole _) sc3 (Memref.isWhole_whole _) sc4 (Memref.isWhole_whole _) sc5 (Memref.isWhole_whole _) hc0 hc1 hc2 hc3 y6 x10 x11 x12 x13 hI
  iapply ((runC c (grid0.coords t) _ _ _ _ _ _ _ _ _ _ _ _ _ _ _ _ _ _ _ _ _ _ _ _ _ _ _ _ hc0 hc1 hc2 hc3 (iblk m c 0 t) (iblk m c 1 t) (iblk m c 2 t) (iblk m c 3 t) (iblk m c 4 t) (iblk m c 5 t) y6 x11 x12).2 Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexact H11
  isplitl [H12]; · iexact H12
  isplitl [H13]; · iexists _; iexact H13
  isplitl [H14]; · iexact H14
  isplitl [H15]; · iexact H15
  iintro ⟨H2, H3, H4, H5, H6, H7, H8, ⟨%f9, H9⟩, ⟨%d10, H10⟩, H11, H12, ⟨%d13, H13⟩, H14, H15⟩
  isplitl [H10 H11 H12 H13 H14 H15 Hg]
  · isplitl [H10 H11 H12 H13]
    · iexists _, _, _, _
      isplitr
      swap
      · isplitl [H10]
        · iexact H10
        isplitl [H11]
        · iexact H11
        isplitl [H12]
        · iexact H12
        iexact H13
      ipureintro
      exact hk.2 _ _
    isplitl [H14]; · iexact H14
    isplitl [H15]; · iexact H15
    iexact Hg
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]
  · iexists y6; isplitr
    swap
    · iexact H8
    ipureintro
    exact ⟨fun e => absurd e (by omega), fun _ => rfl⟩
  iexists _; isplitr
  swap
  · unfold owns; iexists _; isplitr
    swap
    · iexact H9
    ipureintro; rfl
  ipureintro
  exact fun _ => hk.1 f9

set_option maxHeartbeats 3200000 in
/-- The body at the last two points of the second phase. -/
theorem soundD (S : Claims F) (c : Dev nD) (hS : Kept m S c) (t : Fin cfg0.N) (y6 y7) (h : 10 ≤ t.val % 12) :
    bodyPre m S c t y6 y7 ⊢ wp frame (wpE (defs₀ (F := F)) Variants.none c none) Set.univ (bodyAt0 t) (fun _ => bodyPost m S c t y6) := by
  unfold bodyPre bodyPost bodyAt0 Inv
  have hc0 : ¬first (grid0.coords t) := fun e => absurd ((first_iff t).mp e) (by omega)
  have hc1 : ¬slabs (grid0.coords t) := fun e => absurd ((slabs_iff t).mp e) (by omega)
  have hc2 : ¬four (grid0.coords t) := fun e => absurd ((four_iff t).mp e) (by omega)
  have hc3 : sixteen (grid0.coords t) := (sixteen_iff t).mpr h
  iintro ⟨⟨⟨%x10, %x11, %x12, %x13, %hI, H10, H11, H12, H13⟩, H14, H15, Hg⟩, Ho, H2, H3, H4, H5, H6, H7, H8, H9⟩
  have hk := hS.caseD t h _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) sc0 (Memref.isWhole_whole _) sc1 (Memref.isWhole_whole _) sc2 (Memref.isWhole_whole _) sc3 (Memref.isWhole_whole _) sc4 (Memref.isWhole_whole _) sc5 (Memref.isWhole_whole _) hc0 hc1 hc2 hc3 y6 x10 x11 x12 x13 hI
  iapply ((runD c (grid0.coords t) _ _ _ _ _ _ _ _ _ _ _ _ _ _ _ _ _ _ _ _ _ _ _ _ _ _ _ _ hc0 hc1 hc2 hc3 (iblk m c 0 t) (iblk m c 1 t) (iblk m c 2 t) (iblk m c 3 t) (iblk m c 4 t) (iblk m c 5 t) y6 x11 x12).2 Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexact H11
  isplitl [H12]; · iexact H12
  isplitl [H13]; · iexists _; iexact H13
  isplitl [H14]; · iexact H14
  isplitl [H15]; · iexact H15
  iintro ⟨H2, H3, H4, H5, H6, H7, H8, ⟨%f9, H9⟩, ⟨%d10, H10⟩, H11, H12, ⟨%d13, H13⟩, H14, H15⟩
  isplitl [H10 H11 H12 H13 H14 H15 Hg]
  · isplitl [H10 H11 H12 H13]
    · iexists _, _, _, _
      isplitr
      swap
      · isplitl [H10]
        · iexact H10
        isplitl [H11]
        · iexact H11
        isplitl [H12]
        · iexact H12
        iexact H13
      ipureintro
      exact hk.2 _ _
    isplitl [H14]; · iexact H14
    isplitl [H15]; · iexact H15
    iexact Hg
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]
  · iexists y6; isplitr
    swap
    · iexact H8
    ipureintro
    exact ⟨fun e => absurd e (by omega), fun _ => rfl⟩
  iexists _; isplitr
  swap
  · unfold owns; iexists _; isplitr
    swap
    · iexact H9
    ipureintro; rfl
  ipureintro
  exact fun _ => hk.1 f9

/-- The body at any point. -/
theorem sound (S : Claims F) (c : Dev nD) (hS : Kept m S c) (t : Fin cfg0.N) (y6 y7) :
    bodyPre m S c t y6 y7 ⊢ wp frame (wpE (defs₀ (F := F)) Variants.none c none) Set.univ (bodyAt0 t) (fun _ => bodyPost m S c t y6) := by
  by_cases h : t.val % 12 = 0
  · exact soundA m S c hS t y6 y7 h
  by_cases h7 : t.val % 12 ≤ 7
  · exact soundB m S c hS t y6 y7 h h7
  by_cases h9 : t.val % 12 ≤ 9
  · exact soundC m S c hS t y6 y7 (by omega) h9
  exact soundD m S c hS t y6 y7 (by omega)

/-- The body table's row at a point's buffers is the body there. -/
theorem row (t : Fin cfg0.N) : defs₀ (F := F) .tc cfg0.body (cfg0.bodyArgs t (cfg0.slots t)) = bodyAt0 t := by
  unfold defs₀; rw [Defs.onTc_tc]

/-- The obligation of the body at every point. -/
theorem obligation (S : Claims F) (c : Dev nD) (hS : Kept m S c) :
    (rdat m S c).BodyObligation (defs₀ (F := F)) Variants.none () Set.univ := fun t Y hY => by
  have e0 := finds0 m S c t _ (hY 0)
  have e1 := finds1 m S c t _ (hY 1)
  have e2 := finds2 m S c t _ (hY 2)
  have e3 := finds3 m S c t _ (hY 3)
  have e4 := finds4 m S c t _ (hY 4)
  have e5 := finds5 m S c t _ (hY 5)
  rw [bigSep_W0, bigSep_W0, row]
  rw [e0, e1, e2, e3, e4, e5]
  refine triple_restated (sound m S c hS t (Y 6) (Y 7)) rfl .rfl fun _ => ?_
  rw [show (rdat m S c).Φ t.succ = Inv S c (t.val + 1) from rfl, show (rdat m S c).owesAt () t.succ = (rdat m S c).owesAt () t.castSucc from rfl]
  unfold bodyPost
  iintro ⟨HI, Ho, H0, H1, H2, H3, H4, H5, H6, H7⟩
  isplitl [HI]; · iexact HI
  isplitl [Ho]; · iexact Ho
  isplitl [H0]
  · iexists _; isplitr
    swap
    · iexact H0
    ipureintro; rfl
  isplitl [H1]
  · iexists _; isplitr
    swap
    · iexact H1
    ipureintro; rfl
  isplitl [H2]
  · iexists _; isplitr
    swap
    · iexact H2
    ipureintro; rfl
  isplitl [H3]
  · iexists _; isplitr
    swap
    · iexact H3
    ipureintro; rfl
  isplitl [H4]
  · iexists _; isplitr
    swap
    · iexact H4
    ipureintro; rfl
  isplitl [H5]
  · iexists _; isplitr
    swap
    · iexact H5
    ipureintro; rfl
  isplitl [H6]; · iexact H6
  iexact H7

/-! ## The run -/

theorem hin (S : Claims F) (c : Dev nD) (hS : Kept m S c) : Pipeline.ΦA spec0 c ⊢ (rdat m S c).Φ 0 := by
  rw [show (rdat m S c).Φ 0 = Inv S c 0 from rfl, given_eq]
  unfold Inv
  iintro ⟨⟨⟨%d0, H0⟩, ⟨%d1, H1⟩, ⟨%d2, H2⟩, ⟨%d3, H3⟩, H4, H5⟩, Hg⟩
  isplitl [H0 H1 H2 H3]
  · iexists d0, d1, d2, d3
    isplitr
    swap
    · isplitl [H0]; · iexact H0
      isplitl [H1]; · iexact H1
      isplitl [H2]; · iexact H2
      iexact H3
    ipureintro
    exact hS.start 0 rfl d0 d1 d2 d3
  isplitl [H4]; · iexact H4
  isplitl [H5]; · iexact H5
  iexact Hg

theorem hout (S : Claims F) (c : Dev nD) : (rdat m S c).Φ (Fin.last cfg0.N) ⊢ Pipeline.ΦA spec0 c := by
  rw [show (rdat m S c).Φ (Fin.last cfg0.N) = Inv S c (Fin.last cfg0.N).val from rfl, given_eq]
  unfold Inv
  iintro ⟨⟨%d0, %d1, %d2, %d3, %hI, H0, H1, H2, H3⟩, H4, H5, Hg⟩
  isplitl [H0 H1 H2 H3 H4 H5]
  · isplitl [H0]; · iexists d0; iexact H0
    isplitl [H1]; · iexists d1; iexact H1
    isplitl [H2]; · iexists d2; iexact H2
    isplitl [H3]; · iexists d3; iexact H3
    isplitl [H4]; · iexact H4
    iexact H5
  iexact Hg

set_option backward.isDefEq.respectTransparency.types false in
/-- The whole call runs to the end, and what each array may then hold is what the claims allow. -/
theorem run_main_quiescent (S : Claims F) (hS : ∀ c, Kept m S c) : θ_run defs (onTc (τ := τ) (main (F := F))) (s₀ m ρ) (fun r => (Pipeline.RDat.FramePost (cfgs 0) (rdat m S) (V m)) r ∧ r.2.sem = fun _ => 0) :=
  Pipeline.RDat.θ_run_frame_track_shared (Q' := fun r => Pipeline.RDat.FramePost (cfgs 0) (rdat m S) (V m) r ∧ r.2.sem = fun _ => 0) cfgs (0 : Fin 1) launch₀0 defs₀ Variants.none (rdat m S) m ρ main
    (hbody := fun c => obligation m S c (hS c)) (hq := fun _ _ _ => rfl)
    (howed := fun _ _ => rfl) (V := V m) (hmain := hmain m Variants.none) (hA := A_eq m S)
    (hin := fun c => hin m S c (hS c)) (hout := hout m S) (hQ' := fun _ h => h)

/-- The call terminates without fault, leaves its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(Pipeline.RDat.FramePost.arr_in h.1 c 1 rfl).trans ((A_eq m nothing c 1).trans (V_main_arg0 m c)),
      ((h.1 c).2 main_arg1 (Pipeline.mem_restRefs_of main_arg1 (by decide) (by decide))).trans (V_main_arg1 m c),
      (Pipeline.RDat.FramePost.arr_in h.1 c 4 rfl).trans ((A_eq m nothing c 4).trans (V_main_arg2 m c)),
      (Pipeline.RDat.FramePost.arr_in h.1 c 5 rfl).trans ((A_eq m nothing c 5).trans (V_main_arg3 m c))⟩, h.2⟩)
    (run_main_quiescent m ρ nothing (nothing_kept m))

end Cert.Proof.ProjIdeal

end
-- ==== Proof.ProjLists.lean ====
/- The lists of stores the projections body makes, and what each leaves. -/
module

public import proofs.«01_k».proof.Proof.ProjStores

@[expose] public section

set_option maxRecDepth 16384

noncomputable section

namespace Cert.Proof.ProjIdeal

open Idealize.ShloMosaic Idealize.ShloMosaic.TcCoe Idealize.SL.Sem
open Cert.ProjIdeal Cert.ProjIdeal.Gen
open scoped BigOperators

variable (a0 : FVec Ideal Cert.ProjRefIdeal.S32x2048x1024 .f32) (a1 : FVec Ideal Cert.ProjRefIdeal.S1024 .f32)
    (a2 : FVec Ideal Cert.ProjRefIdeal.S1024x8192 .bf16) (a3 : FVec Ideal Cert.ProjRefIdeal.S4x1024x768 .bf16) (b : Fin 32)
    (K : Fin 128 → Fin 1024) (i : grid0.Coords) (hi : k0_cond2 i = 1#1)

/-! ## The slabs of the first order -/

section Strips

variable (w0 w1 w2 w3 : FVec Ideal S512x128 .f32)

/-- The four strips stored in their slab. -/
def strips : List (View.Piece (Elt Ideal) S8x2048x128 .bf16) :=
  [⟨Rect.unit (s := S8x2048x128) (k0_off16 i) S1x512x128.size (k0_off16_inb i hi), k0_pay46 (F := Ideal) w3⟩,
    ⟨Rect.unit (s := S8x2048x128) (k0_off11 i) S1x512x128.size (k0_off11_inb i hi), k0_pay46 (F := Ideal) w2⟩,
    ⟨Rect.unit (s := S8x2048x128) (k0_off6 i) S1x512x128.size (k0_off6_inb i hi), k0_pay46 (F := Ideal) w1⟩,
    ⟨Rect.unit (s := S8x2048x128) (k0_off1 i) S1x512x128.size (k0_off1_inb i hi), k0_pay46 (F := Ideal) w0⟩]

theorem strips_agree (hw0 : ∀ (q : Fin 512) (l : Fin 128), w0 (ix2 q l) = Cert.ProjRefIdeal.Read.val_main_v12 (F := Ideal) a0 a1 (ix3 b (⟨q.val * 4 + 0, by omega⟩ : Fin 2048) (K l)))
     (hw1 : ∀ (q : Fin 512) (l : Fin 128), w1 (ix2 q l) = Cert.ProjRefIdeal.Read.val_main_v12 (F := Ideal) a0 a1 (ix3 b (⟨q.val * 4 + 1, by omega⟩ : Fin 2048) (K l)))
     (hw2 : ∀ (q : Fin 512) (l : Fin 128), w2 (ix2 q l) = Cert.ProjRefIdeal.Read.val_main_v12 (F := Ideal) a0 a1 (ix3 b (⟨q.val * 4 + 2, by omega⟩ : Fin 2048) (K l)))
     (hw3 : ∀ (q : Fin 512) (l : Fin 128), w3 (ix2 q l) = Cert.ProjRefIdeal.Read.val_main_v12 (F := Ideal) a0 a1 (ix3 b (⟨q.val * 4 + 3, by omega⟩ : Fin 2048) (K l))) :
    Agrees (slab a0 a1 b K tok4) (strips i hi w0 w1 w2 w3) :=
  .cons (strip_slab a0 a1 b K 3 (by omega) w3 hw3 (i 1).val _ (k0_off16_eq i) _) <| .cons (strip_slab a0 a1 b K 2 (by omega) w2 hw2 (i 1).val _ (k0_off11_eq i) _) <| .cons (strip_slab a0 a1 b K 1 (by omega) w1 hw1 (i 1).val _ (k0_off6_eq i) _) <| .cons (strip_slab a0 a1 b K 0 (by omega) w0 hw0 (i 1).val _ (k0_off1_eq i) _) <| .nil _

theorem strips_written (s : Fin 8) (hs : s.val = (i 1).val) (r : Fin 2048) (l : Fin 128) : Written (ix3 s r l) (strips i hi w0 w1 w2 w3) := by
  obtain ⟨s, hs8⟩ := s
  obtain rfl : s = (i 1).val := hs
  exact written_slab _ (k0_off16_eq i) rfl (by have := r.isLt; omega) fun h => written_slab _ (k0_off11_eq i) rfl h fun h => written_slab _ (k0_off6_eq i) rfl h fun h => written_slab _ (k0_off1_eq i) rfl h fun h => absurd h (by omega)

theorem strips_off (s : Fin 8) (hs : s.val ≠ (i 1).val) (r : Fin 2048) (l : Fin 128) : ∀ p ∈ strips i hi w0 w1 w2 w3, ix3 s r l ∉ p.1.set := by
  intro p hp
  simp only [strips, List.mem_cons, List.not_mem_nil, or_false] at hp
  obtain ⟨s, hs8⟩ := s
  rcases hp with rfl | rfl | rfl | rfl
  · exact off_slab r l (k0_off16_inb i hi) (k0_off16_eq i) rfl hs
  · exact off_slab r l (k0_off11_inb i hi) (k0_off11_eq i) rfl hs
  · exact off_slab r l (k0_off6_inb i hi) (k0_off6_eq i) rfl hs
  · exact off_slab r l (k0_off1_inb i hi) (k0_off1_eq i) rfl hs

end Strips

/-! ## The slabs of the second order -/

section Fines

variable (u0 u1 u2 u3 u4 u5 u6 u7 u8 u9 u10 u11 u12 u13 u14 u15 : FVec Ideal S128x128 .f32)

/-- The sixteen finer strips stored in their slab. -/
def fines : List (View.Piece (Elt Ideal) S8x2048x128 .bf16) :=
  [⟨Rect.unit (s := S8x2048x128) (k0_off20 i) S1x128x128.size (k0_off20_inb i hi), k0_pay49 (F := Ideal) u15⟩,
    ⟨Rect.unit (s := S8x2048x128) (k0_off19 i) S1x128x128.size (k0_off19_inb i hi), k0_pay49 (F := Ideal) u14⟩,
    ⟨Rect.unit (s := S8x2048x128) (k0_off18 i) S1x128x128.size (k0_off18_inb i hi), k0_pay49 (F := Ideal) u13⟩,
    ⟨Rect.unit (s := S8x2048x128) (k0_off17 i) S1x128x128.size (k0_off17_inb i hi), k0_pay49 (F := Ideal) u12⟩,
    ⟨Rect.unit (s := S8x2048x128) (k0_off15 i) S1x128x128.size (k0_off15_inb i hi), k0_pay49 (F := Ideal) u11⟩,
    ⟨Rect.unit (s := S8x2048x128) (k0_off14 i) S1x128x128.size (k0_off14_inb i hi), k0_pay49 (F := Ideal) u10⟩,
    ⟨Rect.unit (s := S8x2048x128) (k0_off13 i) S1x128x128.size (k0_off13_inb i hi), k0_pay49 (F := Ideal) u9⟩,
    ⟨Rect.unit (s := S8x2048x128) (k0_off12 i) S1x128x128.size (k0_off12_inb i hi), k0_pay49 (F := Ideal) u8⟩,
    ⟨Rect.unit (s := S8x2048x128) (k0_off10 i) S1x128x128.size (k0_off10_inb i hi), k0_pay49 (F := Ideal) u7⟩,
    ⟨Rect.unit (s := S8x2048x128) (k0_off9 i) S1x128x128.size (k0_off9_inb i hi), k0_pay49 (F := Ideal) u6⟩,
    ⟨Rect.unit (s := S8x2048x128) (k0_off8 i) S1x128x128.size (k0_off8_inb i hi), k0_pay49 (F := Ideal) u5⟩,
    ⟨Rect.unit (s := S8x2048x128) (k0_off7 i) S1x128x128.size (k0_off7_inb i hi), k0_pay49 (F := Ideal) u4⟩,
    ⟨Rect.unit (s := S8x2048x128) (k0_off5 i) S1x128x128.size (k0_off5_inb i hi), k0_pay49 (F := Ideal) u3⟩,
    ⟨Rect.unit (s := S8x2048x128) (k0_off4 i) S1x128x128.size (k0_off4_inb i hi), k0_pay49 (F := Ideal) u2⟩,
    ⟨Rect.unit (s := S8x2048x128) (k0_off3 i) S1x128x128.size (k0_off3_inb i hi), k0_pay49 (F := Ideal) u1⟩,
    ⟨Rect.unit (s := S8x2048x128) (k0_off2 i) S1x128x128.size (k0_off2_inb i hi), k0_pay49 (F := Ideal) u0⟩]

theorem fines_written (s : Fin 8) (hs : s.val = (i 1).val) (r : Fin 2048) (l : Fin 128) :
    Written (ix3 s r l) (fines i hi u0 u1 u2 u3 u4 u5 u6 u7 u8 u9 u10 u11 u12 u13 u14 u15) := by
  obtain ⟨s, hs8⟩ := s
  obtain rfl : s = (i 1).val := hs
  exact written_slab _ (k0_off20_eq i) rfl (by have := r.isLt; omega) fun h => written_slab _ (k0_off19_eq i) rfl h fun h => written_slab _ (k0_off18_eq i) rfl h fun h => written_slab _ (k0_off17_eq i) rfl h fun h => written_slab _ (k0_off15_eq i) rfl h fun h => written_slab _ (k0_off14_eq i) rfl h fun h => written_slab _ (k0_off13_eq i) rfl h fun h => written_slab _ (k0_off12_eq i) rfl h fun h => written_slab _ (k0_off10_eq i) rfl h fun h => written_slab _ (k0_off9_eq i) rfl h fun h => written_slab _ (k0_off8_eq i) rfl h fun h => written_slab _ (k0_off7_eq i) rfl h fun h => written_slab _ (k0_off5_eq i) rfl h fun h => written_slab _ (k0_off4_eq i) rfl h fun h => written_slab _ (k0_off3_eq i) rfl h fun h => written_slab _ (k0_off2_eq i) rfl h fun h => absurd h (by omega)

theorem fines_off (s : Fin 8) (hs : s.val ≠ (i 1).val) (r : Fin 2048) (l : Fin 128) :
    ∀ p ∈ fines i hi u0 u1 u2 u3 u4 u5 u6 u7 u8 u9 u10 u11 u12 u13 u14 u15, ix3 s r l ∉ p.1.set := by
  intro p hp
  simp only [fines, List.mem_cons, List.not_mem_nil, or_false] at hp
  obtain ⟨s, hs8⟩ := s
  rcases hp with rfl | rfl | rfl | rfl | rfl | rfl | rfl | rfl | rfl | rfl | rfl | rfl | rfl | rfl | rfl | rfl
  · exact off_slab r l (k0_off20_inb i hi) (k0_off20_eq i) rfl hs
  · exact off_slab r l (k0_off19_inb i hi) (k0_off19_eq i) rfl hs
  · exact off_slab r l (k0_off18_inb i hi) (k0_off18_eq i) rfl hs
  · exact off_slab r l (k0_off17_inb i hi) (k0_off17_eq i) rfl hs
  · exact off_slab r l (k0_off15_inb i hi) (k0_off15_eq i) rfl hs
  · exact off_slab r l (k0_off14_inb i hi) (k0_off14_eq i) rfl hs
  · exact off_slab r l (k0_off13_inb i hi) (k0_off13_eq i) rfl hs
  · exact off_slab r l (k0_off12_inb i hi) (k0_off12_eq i) rfl hs
  · exact off_slab r l (k0_off10_inb i hi) (k0_off10_eq i) rfl hs
  · exact off_slab r l (k0_off9_inb i hi) (k0_off9_eq i) rfl hs
  · exact off_slab r l (k0_off8_inb i hi) (k0_off8_eq i) rfl hs
  · exact off_slab r l (k0_off7_inb i hi) (k0_off7_eq i) rfl hs
  · exact off_slab r l (k0_off5_inb i hi) (k0_off5_eq i) rfl hs
  · exact off_slab r l (k0_off4_inb i hi) (k0_off4_eq i) rfl hs
  · exact off_slab r l (k0_off3_inb i hi) (k0_off3_eq i) rfl hs
  · exact off_slab r l (k0_off2_inb i hi) (k0_off2_eq i) rfl hs

end Fines

/-! ## Both, from the slab of normalized columns -/

section Both

variable (inb0 : ∀ a, (![0, 0] : Fin 2 → ℕ) a + S2048x128.size a ≤ S2048x128.size a)
    (arg14 arg15 : Memref sig .tc .vmem S2048x128 .f32) (p : FVec Ideal S2048x128 .f32)

/-- Every fourth row of the slab, from row `o` on. -/
def part (o : ℕ) (inb : ∀ a, S512x128.size a = 0 ∨ (![o, 0] : Fin 2 → ℕ) a + (![4, 1] : Fin 2 → ℕ) a * (S512x128.size a - 1) < S2048x128.size a) : FVec Ideal S512x128 .f32 :=
  View.readCov (Val := Elt Ideal) arg14.view [⟨Rect.unit (s := S2048x128) ![0, 0] S2048x128.size inb0, p⟩] ⟨![o, 0], S512x128.size, ![4, 1], inb⟩

/-! The strips as they are stored one under another. -/

def parts0 : List (View.Piece (Elt Ideal) S2048x128 .f32) :=
  ⟨Rect.unit (s := S2048x128) ![0, 0] S512x128.size inb_S2048x128_S512x128_0_0, k0_pay45 (F := Ideal) (part inb0 arg14 p 0 inb_S2048x128_S512x128_0_0_s_4_1)⟩ :: []

def parts1 : List (View.Piece (Elt Ideal) S2048x128 .f32) :=
  ⟨Rect.unit (s := S2048x128) ![512, 0] S512x128.size inb_S2048x128_S512x128_512_0, k0_pay45 (F := Ideal) (part inb0 arg14 p 1 inb_S2048x128_S512x128_1_0_s_4_1)⟩ :: parts0 inb0 arg14 p

def parts2 : List (View.Piece (Elt Ideal) S2048x128 .f32) :=
  ⟨Rect.unit (s := S2048x128) ![1024, 0] S512x128.size inb_S2048x128_S512x128_1024_0, k0_pay45 (F := Ideal) (part inb0 arg14 p 2 inb_S2048x128_S512x128_2_0_s_4_1)⟩ :: parts1 inb0 arg14 p

def parts3 : List (View.Piece (Elt Ideal) S2048x128 .f32) :=
  ⟨Rect.unit (s := S2048x128) ![1536, 0] S512x128.size inb_S2048x128_S512x128_1536_0, k0_pay45 (F := Ideal) (part inb0 arg14 p 3 inb_S2048x128_S512x128_3_0_s_4_1)⟩ :: parts2 inb0 arg14 p

variable (hp : ∀ (r : Fin 2048) (l : Fin 128), p (ix2 r l) = Cert.ProjRefIdeal.Read.val_main_v12 (F := Ideal) a0 a1 (ix3 b r (K l)))
include hp

theorem parts0_agree : Agrees (cols a0 a1 b K tok4) (parts0 inb0 arg14 p) :=
  .cons (strip_stored a0 a1 b K 0 (by omega) _ (strip a0 a1 b K inb0 arg14 p hp 0 (by omega) _) _ rfl _) (.nil _)

theorem parts1_agree : Agrees (cols a0 a1 b K tok4) (parts1 inb0 arg14 p) :=
  .cons (strip_stored a0 a1 b K 1 (by omega) _ (strip a0 a1 b K inb0 arg14 p hp 1 (by omega) _) _ rfl _) (parts0_agree a0 a1 b K inb0 arg14 p hp)

theorem parts2_agree : Agrees (cols a0 a1 b K tok4) (parts2 inb0 arg14 p) :=
  .cons (strip_stored a0 a1 b K 2 (by omega) _ (strip a0 a1 b K inb0 arg14 p hp 2 (by omega) _) _ rfl _) (parts1_agree a0 a1 b K inb0 arg14 p hp)

theorem parts3_agree : Agrees (cols a0 a1 b K tok4) (parts3 inb0 arg14 p) :=
  .cons (strip_stored a0 a1 b K 3 (by omega) _ (strip a0 a1 b K inb0 arg14 p hp 3 (by omega) _) _ rfl _) (parts2_agree a0 a1 b K inb0 arg14 p hp)

theorem strips_of : Agrees (slab a0 a1 b K tok4) (strips i hi
    (part inb0 arg14 p 0 inb_S2048x128_S512x128_0_0_s_4_1) (part inb0 arg14 p 1 inb_S2048x128_S512x128_1_0_s_4_1)
    (part inb0 arg14 p 2 inb_S2048x128_S512x128_2_0_s_4_1) (part inb0 arg14 p 3 inb_S2048x128_S512x128_3_0_s_4_1)) :=
  strips_agree a0 a1 b K i hi _ _ _ _ (strip a0 a1 b K inb0 arg14 p hp 0 (by omega) _) (strip a0 a1 b K inb0 arg14 p hp 1 (by omega) _)
    (strip a0 a1 b K inb0 arg14 p hp 2 (by omega) _) (strip a0 a1 b K inb0 arg14 p hp 3 (by omega) _)

omit hp in
/-- Every fourth row of the strips, from row `o` on. -/
def bit (L : List (View.Piece (Elt Ideal) S2048x128 .f32)) (o : ℕ) (inb : ∀ a, S128x128.size a = 0 ∨ (![o, 0] : Fin 2 → ℕ) a + (![4, 1] : Fin 2 → ℕ) a * (S128x128.size a - 1) < S2048x128.size a) : FVec Ideal S128x128 .f32 :=
  View.readCov (Val := Elt Ideal) arg15.view L ⟨![o, 0], S128x128.size, ![4, 1], inb⟩

theorem fines_of : Agrees (slab a0 a1 b K tok16) (fines i hi
    (bit arg15 (parts0 inb0 arg14 p) 0 inb_S2048x128_S128x128_0_0_s_4_1)
    (bit arg15 (parts0 inb0 arg14 p) 1 inb_S2048x128_S128x128_1_0_s_4_1)
    (bit arg15 (parts0 inb0 arg14 p) 2 inb_S2048x128_S128x128_2_0_s_4_1)
    (bit arg15 (parts0 inb0 arg14 p) 3 inb_S2048x128_S128x128_3_0_s_4_1)
    (bit arg15 (parts1 inb0 arg14 p) 512 inb_S2048x128_S128x128_512_0_s_4_1)
    (bit arg15 (parts1 inb0 arg14 p) 513 inb_S2048x128_S128x128_513_0_s_4_1)
    (bit arg15 (parts1 inb0 arg14 p) 514 inb_S2048x128_S128x128_514_0_s_4_1)
    (bit arg15 (parts1 inb0 arg14 p) 515 inb_S2048x128_S128x128_515_0_s_4_1)
    (bit arg15 (parts2 inb0 arg14 p) 1024 inb_S2048x128_S128x128_1024_0_s_4_1)
    (bit arg15 (parts2 inb0 arg14 p) 1025 inb_S2048x128_S128x128_1025_0_s_4_1)
    (bit arg15 (parts2 inb0 arg14 p) 1026 inb_S2048x128_S128x128_1026_0_s_4_1)
    (bit arg15 (parts2 inb0 arg14 p) 1027 inb_S2048x128_S128x128_1027_0_s_4_1)
    (bit arg15 (parts3 inb0 arg14 p) 1536 inb_S2048x128_S128x128_1536_0_s_4_1)
    (bit arg15 (parts3 inb0 arg14 p) 1537 inb_S2048x128_S128x128_1537_0_s_4_1)
    (bit arg15 (parts3 inb0 arg14 p) 1538 inb_S2048x128_S128x128_1538_0_s_4_1)
    (bit arg15 (parts3 inb0 arg14 p) 1539 inb_S2048x128_S128x128_1539_0_s_4_1)) :=
  .cons (fine_slab a0 a1 b K arg15 3 3 (by omega) (by omega) _ _ _ rfl _ (parts3_agree a0 a1 b K inb0 arg14 p hp) _ rfl _ (i 1).val _ (k0_off20_eq i) _) <|
  .cons (fine_slab a0 a1 b K arg15 3 2 (by omega) (by omega) _ _ _ rfl _ (parts3_agree a0 a1 b K inb0 arg14 p hp) _ rfl _ (i 1).val _ (k0_off19_eq i) _) <|
  .cons (fine_slab a0 a1 b K arg15 3 1 (by omega) (by omega) _ _ _ rfl _ (parts3_agree a0 a1 b K inb0 arg14 p hp) _ rfl _ (i 1).val _ (k0_off18_eq i) _) <|
  .cons (fine_slab a0 a1 b K arg15 3 0 (by omega) (by omega) _ _ _ rfl _ (parts3_agree a0 a1 b K inb0 arg14 p hp) _ rfl _ (i 1).val _ (k0_off17_eq i) _) <|
  .cons (fine_slab a0 a1 b K arg15 2 3 (by omega) (by omega) _ _ _ rfl _ (parts2_agree a0 a1 b K inb0 arg14 p hp) _ rfl _ (i 1).val _ (k0_off15_eq i) _) <|
  .cons (fine_slab a0 a1 b K arg15 2 2 (by omega) (by omega) _ _ _ rfl _ (parts2_agree a0 a1 b K inb0 arg14 p hp) _ rfl _ (i 1).val _ (k0_off14_eq i) _) <|
  .cons (fine_slab a0 a1 b K arg15 2 1 (by omega) (by omega) _ _ _ rfl _ (parts2_agree a0 a1 b K inb0 arg14 p hp) _ rfl _ (i 1).val _ (k0_off13_eq i) _) <|
  .cons (fine_slab a0 a1 b K arg15 2 0 (by omega) (by omega) _ _ _ rfl _ (parts2_agree a0 a1 b K inb0 arg14 p hp) _ rfl _ (i 1).val _ (k0_off12_eq i) _) <|
  .cons (fine_slab a0 a1 b K arg15 1 3 (by omega) (by omega) _ _ _ rfl _ (parts1_agree a0 a1 b K inb0 arg14 p hp) _ rfl _ (i 1).val _ (k0_off10_eq i) _) <|
  .cons (fine_slab a0 a1 b K arg15 1 2 (by omega) (by omega) _ _ _ rfl _ (parts1_agree a0 a1 b K inb0 arg14 p hp) _ rfl _ (i 1).val _ (k0_off9_eq i) _) <|
  .cons (fine_slab a0 a1 b K arg15 1 1 (by omega) (by omega) _ _ _ rfl _ (parts1_agree a0 a1 b K inb0 arg14 p hp) _ rfl _ (i 1).val _ (k0_off8_eq i) _) <|
  .cons (fine_slab a0 a1 b K arg15 1 0 (by omega) (by omega) _ _ _ rfl _ (parts1_agree a0 a1 b K inb0 arg14 p hp) _ rfl _ (i 1).val _ (k0_off7_eq i) _) <|
  .cons (fine_slab a0 a1 b K arg15 0 3 (by omega) (by omega) _ _ _ rfl _ (parts0_agree a0 a1 b K inb0 arg14 p hp) _ rfl _ (i 1).val _ (k0_off5_eq i) _) <|
  .cons (fine_slab a0 a1 b K arg15 0 2 (by omega) (by omega) _ _ _ rfl _ (parts0_agree a0 a1 b K inb0 arg14 p hp) _ rfl _ (i 1).val _ (k0_off4_eq i) _) <|
  .cons (fine_slab a0 a1 b K arg15 0 1 (by omega) (by omega) _ _ _ rfl _ (parts0_agree a0 a1 b K inb0 arg14 p hp) _ rfl _ (i 1).val _ (k0_off3_eq i) _) <|
  .cons (fine_slab a0 a1 b K arg15 0 0 (by omega) (by omega) _ _ _ rfl _ (parts0_agree a0 a1 b K inb0 arg14 p hp) _ rfl _ (i 1).val _ (k0_off2_eq i) _) <|
  .nil _

end Both

end Cert.Proof.ProjIdeal

end
-- ==== Proof.ProjBlocks.lean ====
/- The claims made of the projections call's buffers, and that the body keeps them. -/
module

public import proofs.«01_k».proof.Proof.ProjLists
public import proofs.«01_k».proof.Proof.ProjIdealBody

@[expose] public section

set_option maxRecDepth 16384

noncomputable section

namespace Cert.Proof.ProjIdeal

open Idealize.ShloMosaic Idealize.ShloMosaic.TcCoe Idealize.SL.Sem
open Idealize.ShloMosaic.Pipeline (Dat)
open Cert.ProjIdeal Cert.ProjIdeal.Gen
open scoped BigOperators

section Outputs

variable (a0 : FVec Ideal Cert.ProjRefIdeal.S32x2048x1024 .f32) (a1 : FVec Ideal Cert.ProjRefIdeal.S1024 .f32)
    (a2 : FVec Ideal Cert.ProjRefIdeal.S1024x8192 .bf16) (b : Fin 32)

/-- A block of the natural projection. -/
def natural (N : Fin 1024 → Fin 8192) (y : S1x2048x1024.Idx) : Elt Ideal .bf16 :=
  Cert.ProjRefIdeal.Read.val_main_v15 (F := Ideal) a0 a1 a2 (ix3 b (y 1) (N (y 2)))

theorem natural_piece (N : Fin 1024 → Fin 8192) (o : ℕ) (ho : o + 512 ≤ 2048) (v : FVec Ideal S512x1024 .bf16) (w : FVec Ideal S1024x1024 .bf16)
    (hv : ∀ (r : Fin 512) (k : Fin 1024), v (ix2 r k) = rows a0 a1 b (ix2 (⟨o + r.val, by omega⟩ : Fin 2048) k))
    (hw : ∀ (k n : Fin 1024), w (ix2 k n) = a2 (ix2 k (N n)))
    (inb : ∀ a, (![0, o, 0] : Fin 3 → ℕ) a + S1x512x1024.size a ≤ S1x2048x1024.size a)
    (x : (Rect.unit (s := S1x2048x1024) ![0, o, 0] S1x512x1024.size inb).shape.Idx) :
    k0_pay44 (F := Ideal) v w x = natural a0 a1 a2 b N ((Rect.unit (s := S1x2048x1024) ![0, o, 0] S1x512x1024.size inb).emb x) := by
  obtain ⟨r, n, rfl⟩ : ∃ (r : Fin 512) (n : Fin 1024), x = ix3 0 r n := ⟨x 1, x 2, by idx_ext⟩
  refine (nat_rows a0 a1 a2 b v w (fun r => ⟨o + r.val, by omega⟩) N hv hw r n).trans ?_
  refine congrArg₂ (fun (q : Fin 2048) (n : Fin 1024) => Cert.ProjRefIdeal.Read.val_main_v15 (F := Ideal) a0 a1 a2 (ix3 b q (N n))) (Fin.ext ?_) (Fin.ext ?_)
  · show o + r.val = o + 1 * r.val; omega
  · show n.val = 0 + 1 * n.val; omega

/-- A block of a dilated projection: the rows `H` times the weights `w`. -/
def dilated (H : Fin 2048 → Fin 1024 → EReal) (w : FVec Ideal S1x1024x768 .bf16) (y : S1x1x2048x768.Idx) : Elt Ideal .bf16 :=
  (∑ k : Fin 1024, H (y 2) k * (show EReal from w (ix3 0 k (y 3))) : EReal)

theorem load_slab (arg11 : Memref sig .tc .vmem S8x2048x128 .bf16) (harg11 : arg11.IsWhole) (x11 : FVec Ideal S8x2048x128 .bf16)
    (H : Fin 2048 → Fin 1024 → EReal) (hx : ∀ (s : Fin 8) (r : Fin 2048) (l : Fin 128) (k : Fin 1024), k.val = 128 * s.val + l.val → x11 (ix3 s r l) = H r k)
    (s o : ℕ) (hs : s < 8) (ho : o + 512 ≤ 2048) (inb : ∀ a, (![s, o, 0] : Fin 3 → ℕ) a + S1x512x128.size a ≤ S8x2048x128.size a)
    (k : Fin 128 → Fin 1024) (hk : ∀ l, (k l).val = 128 * s + l.val) (r : Fin 512) (l : Fin 128) :
    View.readAt (Elt Ideal) arg11.view (Rect.unit (s := S8x2048x128) ![s, o, 0] S1x512x128.size inb).toLoadRect (harg11.unread x11) (ix3 0 r l)
      = H (⟨o + r.val, by omega⟩ : Fin 2048) (k l) := by
  rw [View.readAt_apply, harg11.read_unread]
  refine Eq.trans ?_ (hx ⟨s, hs⟩ ⟨o + r.val, by omega⟩ l (k l) (hk l))
  refine congrArg x11 (funext fun a => Fin.ext ?_)
  fin_cases a
  · rfl
  · show o + 1 * r.val = o + r.val; omega
  · show 0 + 1 * l.val = l.val; omega

theorem dilated_piece (arg11 : Memref sig .tc .vmem S8x2048x128 .bf16) (harg11 : arg11.IsWhole) (x11 : FVec Ideal S8x2048x128 .bf16)
    (H : Fin 2048 → Fin 1024 → EReal) (hx : ∀ (s : Fin 8) (r : Fin 2048) (l : Fin 128) (k : Fin 1024), k.val = 128 * s.val + l.val → x11 (ix3 s r l) = H r k)
    (w : FVec Ideal S1x1024x768 .bf16) (o : ℕ) (ho : o + 512 ≤ 2048)
    (inb0 : ∀ a, (![0, o, 0] : Fin 3 → ℕ) a + S1x512x128.size a ≤ S8x2048x128.size a)
    (inb1 : ∀ a, (![1, o, 0] : Fin 3 → ℕ) a + S1x512x128.size a ≤ S8x2048x128.size a)
    (inb2 : ∀ a, (![2, o, 0] : Fin 3 → ℕ) a + S1x512x128.size a ≤ S8x2048x128.size a)
    (inb3 : ∀ a, (![3, o, 0] : Fin 3 → ℕ) a + S1x512x128.size a ≤ S8x2048x128.size a)
    (inb4 : ∀ a, (![4, o, 0] : Fin 3 → ℕ) a + S1x512x128.size a ≤ S8x2048x128.size a)
    (inb5 : ∀ a, (![5, o, 0] : Fin 3 → ℕ) a + S1x512x128.size a ≤ S8x2048x128.size a)
    (inb6 : ∀ a, (![6, o, 0] : Fin 3 → ℕ) a + S1x512x128.size a ≤ S8x2048x128.size a)
    (inb7 : ∀ a, (![7, o, 0] : Fin 3 → ℕ) a + S1x512x128.size a ≤ S8x2048x128.size a)
    (inb : ∀ a, (![0, 0, o, 0] : Fin 4 → ℕ) a + S1x1x512x768.size a ≤ S1x1x2048x768.size a)
    (x : (Rect.unit (s := S1x1x2048x768) ![0, 0, o, 0] S1x1x512x768.size inb).shape.Idx) :
    k0_pay71 (F := Ideal)
        (View.readAt (Elt Ideal) arg11.view (Rect.unit (s := S8x2048x128) ![0, o, 0] S1x512x128.size inb0).toLoadRect (harg11.unread x11))
        (View.readAt (Elt Ideal) arg11.view (Rect.unit (s := S8x2048x128) ![1, o, 0] S1x512x128.size inb1).toLoadRect (harg11.unread x11))
        (View.readAt (Elt Ideal) arg11.view (Rect.unit (s := S8x2048x128) ![2, o, 0] S1x512x128.size inb2).toLoadRect (harg11.unread x11))
        (View.readAt (Elt Ideal) arg11.view (Rect.unit (s := S8x2048x128) ![3, o, 0] S1x512x128.size inb3).toLoadRect (harg11.unread x11))
        (View.readAt (Elt Ideal) arg11.view (Rect.unit (s := S8x2048x128) ![4, o, 0] S1x512x128.size inb4).toLoadRect (harg11.unread x11))
        (View.readAt (Elt Ideal) arg11.view (Rect.unit (s := S8x2048x128) ![5, o, 0] S1x512x128.size inb5).toLoadRect (harg11.unread x11))
        (View.readAt (Elt Ideal) arg11.view (Rect.unit (s := S8x2048x128) ![6, o, 0] S1x512x128.size inb6).toLoadRect (harg11.unread x11))
        (View.readAt (Elt Ideal) arg11.view (Rect.unit (s := S8x2048x128) ![7, o, 0] S1x512x128.size inb7).toLoadRect (harg11.unread x11))
        w x
      = dilated H w ((Rect.unit (s := S1x1x2048x768) ![0, 0, o, 0] S1x1x512x768.size inb).emb x) := by
  obtain ⟨r, n, rfl⟩ : ∃ (r : Fin 512) (n : Fin 768), x = ix4 0 0 r n := ⟨x 2, x 3, by idx_ext⟩
  refine (joined _ _ _ _ _ _ _ _ w (fun r k => H (⟨o + r.val, by omega⟩ : Fin 2048) k)
    (load_slab arg11 harg11 x11 H hx 0 o (by omega) ho inb0 _ (fun l => by show l.val = _; omega))
    (load_slab arg11 harg11 x11 H hx 1 o (by omega) ho inb1 _ (fun l => by show l.val + 128 = _; omega))
    (load_slab arg11 harg11 x11 H hx 2 o (by omega) ho inb2 _ (fun l => by show l.val + 256 = _; omega))
    (load_slab arg11 harg11 x11 H hx 3 o (by omega) ho inb3 _ (fun l => by show l.val + 384 = _; omega))
    (load_slab arg11 harg11 x11 H hx 4 o (by omega) ho inb4 _ (fun l => by show l.val + 512 = _; omega))
    (load_slab arg11 harg11 x11 H hx 5 o (by omega) ho inb5 _ (fun l => by show l.val + 640 = _; omega))
    (load_slab arg11 harg11 x11 H hx 6 o (by omega) ho inb6 _ (fun l => by show l.val + 768 = _; omega))
    (load_slab arg11 harg11 x11 H hx 7 o (by omega) ho inb7 _ (fun l => by show l.val + 896 = _; omega))
    r n).trans ?_
  refine congrArg₂ (fun (q : Fin 2048) (n : Fin 768) => (∑ k : Fin 1024, H q k * (show EReal from w (ix3 0 k n)) : EReal)) (Fin.ext ?_) (Fin.ext ?_)
  · show o + r.val = o + 1 * r.val; omega
  · show n.val = 0 + 1 * n.val; omega

/-- Four stores of 512 rows each cover the block. -/
theorem written_natural (y : S1x2048x1024.Idx) {o : ℕ} (inb : ∀ a, (![0, o, 0] : Fin 3 → ℕ) a + S1x512x1024.size a ≤ S1x2048x1024.size a)
    {w : (Rect.unit (s := S1x2048x1024) ![0, o, 0] S1x512x1024.size inb).shape.Idx → Elt Ideal .bf16} {L : List (View.Piece (Elt Ideal) S1x2048x1024 .bf16)}
    (h : (y 1).val < o + 512) (hL : (y 1).val < o → Written y L) :
    Written y (⟨Rect.unit (s := S1x2048x1024) ![0, o, 0] S1x512x1024.size inb, w⟩ :: L) := by
  by_cases ho : (y 1).val < o
  · exact (hL ho).later
  · refine .here (Rect.mem_set_unit.2 fun a => ?_)
    fin_cases a
    · have : (y 0).val < 1 := (y 0).isLt
      show 0 ≤ (y 0).val ∧ (y 0).val < 0 + 1; omega
    · show o ≤ (y 1).val ∧ (y 1).val < o + 512; omega
    · have : (y 2).val < 1024 := (y 2).isLt
      show 0 ≤ (y 2).val ∧ (y 2).val < 0 + 1024; omega

theorem written_dilated (y : S1x1x2048x768.Idx) {o : ℕ} (inb : ∀ a, (![0, 0, o, 0] : Fin 4 → ℕ) a + S1x1x512x768.size a ≤ S1x1x2048x768.size a)
    {w : (Rect.unit (s := S1x1x2048x768) ![0, 0, o, 0] S1x1x512x768.size inb).shape.Idx → Elt Ideal .bf16} {L : List (View.Piece (Elt Ideal) S1x1x2048x768 .bf16)}
    (h : (y 2).val < o + 512) (hL : (y 2).val < o → Written y L) :
    Written y (⟨Rect.unit (s := S1x1x2048x768) ![0, 0, o, 0] S1x1x512x768.size inb, w⟩ :: L) := by
  by_cases ho : (y 2).val < o
  · exact (hL ho).later
  · refine .here (Rect.mem_set_unit.2 fun a => ?_)
    fin_cases a
    · have : (y 0).val < 1 := (y 0).isLt
      show 0 ≤ (y 0).val ∧ (y 0).val < 0 + 1; omega
    · have : (y 1).val < 1 := (y 1).isLt
      show 0 ≤ (y 1).val ∧ (y 1).val < 0 + 1; omega
    · show o ≤ (y 2).val ∧ (y 2).val < o + 512; omega
    · have : (y 3).val < 768 := (y 3).isLt
      show 0 ≤ (y 3).val ∧ (y 3).val < 0 + 768; omega

end Outputs

/-! ## The blocks the points load -/

section Blocks

/-- Which block each window takes at a point. -/
theorem blocks_at : ∀ t : Fin cfg0.N, win0_0.index t = ![t.val / 12, 0, 0] ∧ win0_2.index t = ![0, 0] :=
  (by decide +kernel : ∀ t : Fin grid0.N, _)

theorem blocks_slab : ∀ t : Fin cfg0.N, t.val % 12 ≤ 7 → win0_1.index t = ![t.val / 12, 0, t.val % 12] ∧ win0_3.index t = ![0, t.val % 12]
    ∧ win0_4.index t = ![0, t.val % 12] ∧ win0_6.index t = ![t.val / 12, 0, t.val % 12] :=
  (by decide +kernel : ∀ t : Fin grid0.N, t.val % 12 ≤ 7 → _)

theorem blocks_dil : ∀ t : Fin cfg0.N, 8 ≤ t.val % 12 → win0_5.index t = ![t.val % 12 - 8, 0, 0]
    ∧ win0_7.index t = ![t.val / 12, (t.val % 12 - 8) / 2, 0, (t.val % 12 - 8) % 2] :=
  (by decide +kernel : ∀ t : Fin grid0.N, 8 ≤ t.val % 12 → _)

theorem coord_at : ∀ t : Fin cfg0.N, (grid0.coords t 1).val = t.val % 12 :=
  (by decide +kernel : ∀ t : Fin grid0.N, (grid0.coords t 1).val = t.val % 12)

variable (m : (ℓ : Loc nD τ sig) → Buf (Elt Ideal) ℓ) (c : Dev nD)

theorem image (t : Fin cfg0.N) (b : Fin 32) (hb : b.val = t.val / 12) (r : Fin 2048) (k : Fin 1024) :
    iblk m c 0 t (ix3 0 r k) = m ((c : Thread nD τ).loc main_arg0) (ix3 b r k) := by
  obtain ⟨b, hb32⟩ := b
  obtain rfl : b = t.val / 12 := hb
  blk_point [iblk, V, blocks_at t]

theorem gain (t : Fin cfg0.N) (k : Fin 1024) :
    iblk m c 2 t (ix2 0 k) = m ((c : Thread nD τ).loc main_arg1) (ix1 k) := by
  blk_point [iblk, V, blocks_at t]

theorem image_slab (t : Fin cfg0.N) (h : t.val % 12 ≤ 7) (b : Fin 32) (hb : b.val = t.val / 12) (r : Fin 2048) (l : Fin 128) :
    iblk m c 1 t (ix3 0 r l) = m ((c : Thread nD τ).loc main_arg0) (ix3 b r (⟨128 * (t.val % 12) + l.val, by omega⟩ : Fin 1024)) := by
  obtain ⟨b, hb32⟩ := b
  obtain rfl : b = t.val / 12 := hb
  blk_point [iblk, V, blocks_slab t h]

theorem gain_slab (t : Fin cfg0.N) (h : t.val % 12 ≤ 7) (l : Fin 128) :
    iblk m c 3 t (ix2 0 l) = m ((c : Thread nD τ).loc main_arg1) (ix1 (⟨128 * (t.val % 12) + l.val, by omega⟩ : Fin 1024)) := by
  blk_point [iblk, V, blocks_slab t h]

theorem weights (t : Fin cfg0.N) (h : t.val % 12 ≤ 7) (k n : Fin 1024) :
    iblk m c 4 t (ix2 k n) = m ((c : Thread nD τ).loc main_arg2) (ix2 k (⟨1024 * (t.val % 12) + n.val, by omega⟩ : Fin 8192)) := by
  blk_point [iblk, V, blocks_slab t h]

theorem dil_weights (t : Fin cfg0.N) (h : 8 ≤ t.val % 12) (k : Fin 1024) (n : Fin 768) :
    iblk m c 5 t (ix3 0 k n) = m ((c : Thread nD τ).loc main_arg3) (ix3 (⟨t.val % 12 - 8, by omega⟩ : Fin 4) k n) := by
  blk_point [iblk, V, blocks_dil t h]

end Blocks

end Cert.Proof.ProjIdeal

end
-- ==== Proof.ProjClaims.lean ====
/- The body keeps the claims made of the projections call's buffers. -/
module

public import proofs.«01_k».proof.Proof.ProjBlocks

@[expose] public section

set_option maxRecDepth 16384

noncomputable section

namespace Cert.Proof.ProjIdeal

open Idealize.ShloMosaic Idealize.ShloMosaic.TcCoe Idealize.SL.Sem
open Idealize.ShloMosaic.Pipeline (Dat)
open Cert.ProjIdeal Cert.ProjIdeal.Gen
open scoped BigOperators

variable (m : (ℓ : Loc nD τ sig) → Buf (Elt Ideal) ℓ) (c : Dev nD)

/-- The call's arguments. -/
abbrev A0 : FVec Ideal Cert.ProjRefIdeal.S32x2048x1024 .f32 := m ((c : Thread nD τ).loc main_arg0)
abbrev A1 : FVec Ideal Cert.ProjRefIdeal.S1024 .f32 := m ((c : Thread nD τ).loc main_arg1)
abbrev A2 : FVec Ideal Cert.ProjRefIdeal.S1024x8192 .bf16 := m ((c : Thread nD τ).loc main_arg2)
abbrev A3 : FVec Ideal Cert.ProjRefIdeal.S4x1024x768 .bf16 := m ((c : Thread nD τ).loc main_arg3)

/-- The normalized rows of image `b`. -/
abbrev normed (b : Fin 32) (r : Fin 2048) (k : Fin 1024) : EReal := Cert.ProjRefIdeal.Read.val_main_v12 (F := Ideal) (A0 m c) (A1 m c) (ix3 b r k)

/-- The first `n` slabs hold the normalized rows in the order `T`. -/
def Slabs (n : ℕ) (T : Fin 2048 → Fin 2048) (b : Fin 32) (x : FVec Ideal S8x2048x128 .bf16) : Prop :=
  ∀ s : Fin 8, s.val < n → ∀ (r : Fin 2048) (l : Fin 128) (k : Fin 1024), k.val = 128 * s.val + l.val → x (ix3 s r l) = normed m c b (T r) k

/-- What is claimed of the buffers: the scratch holds the normalized rows and their factors while they are read, and the
    slabs filled so far; each output block holds the reference's values. -/
def claims : Claims Ideal where
  I n x10 x11 x12 x13 := n % 12 ≠ 0 → ∀ b : Fin 32, b.val = n / 12 →
    (n % 12 ≤ 7 → (∀ y, x10 y = rows (A0 m c) (A1 m c) b y) ∧ ∀ y, x13 y = factors (A0 m c) b y)
    ∧ Slabs m c (n % 12) tok4 b x11 ∧ Slabs m c (n % 12) tok16 b x12
  P6 n X := ∀ (b : Fin 32), b.val = n / 12 → ∀ (r : Fin 2048) (d : Fin 1024) (q : Fin 8192), q.val = 1024 * (n % 12) + d.val →
    X (ix3 0 r d) = Cert.ProjRefIdeal.Read.val_main_v15 (F := Ideal) (A0 m c) (A1 m c) (A2 m c) (ix3 b r q)
  P7 n X := ∀ (b : Fin 32), b.val = n / 12 → ∀ (g : Fin 2), g.val = (n % 12 - 8) / 2 → ∀ (r : Fin 2048) (d : Fin 768) (q : Fin 1536),
    q.val = 768 * ((n % 12 - 8) % 2) + d.val →
    X (ix4 0 0 r d) = Cert.ProjRefIdeal.Read.val_main_v35 (F := Ideal) (A0 m c) (A1 m c) (A3 m c) (ix4 b g r q)

/-- One more slab: the one just stored, and those that were there. -/
theorem slabs_step (t : Fin cfg0.N) (h : t.val % 12 ≤ 7) (b : Fin 32) (T : Fin 2048 → Fin 2048) (x y : FVec Ideal S8x2048x128 .bf16)
    (hx : Slabs m c (t.val % 12) T b x) (K : Fin 128 → Fin 1024) (hK : ∀ l, (K l).val = 128 * (t.val % 12) + l.val)
    (hon : ∀ (s : Fin 8), s.val = (grid0.coords t 1).val → ∀ r l, y (ix3 s r l) = slab (A0 m c) (A1 m c) b K T (ix3 s r l))
    (hoff : ∀ (s : Fin 8), s.val ≠ (grid0.coords t 1).val → ∀ r l, y (ix3 s r l) = x (ix3 s r l)) :
    Slabs m c ((t.val + 1) % 12) T b y := by
  intro s hs r l k hk
  have hc := coord_at t
  by_cases e : s.val = t.val % 12
  · refine (hon s (e.trans hc.symm) r l).trans ?_
    exact congrArg (fun k => normed m c b (T r) k) (Fin.ext ((hK l).trans (by rw [hk, e])))
  · rw [hoff s (fun h => e (h.trans hc)) r l]
    exact hx s (by omega) r l k hk

section Store

variable (t : Fin cfg0.N) (h : t.val % 12 ≤ 7) (b : Fin 32) (hi : k0_cond2 (grid0.coords t) = 1#1)
    (arg14 arg15 : Memref sig .tc .vmem S2048x128 .f32) (arg11 : Memref sig .tc .vmem S8x2048x128 .bf16) (p : FVec Ideal S2048x128 .f32)
    (hp : ∀ (r : Fin 2048) (l : Fin 128) (k : Fin 1024), k.val = 128 * (t.val % 12) + l.val → p (ix2 r l) = normed m c b r k)
    (f : arg11.view.ty.Contents (Elt Ideal))

include h hp

theorem slabs4 (hx : Slabs m c (t.val % 12) tok4 b (arg11.view.read (Elt Ideal) f)) :
    Slabs m c ((t.val + 1) % 12) tok4 b (arg11.view.read (Elt Ideal) (arg11.view.writes (Elt Ideal) f
      (strips (grid0.coords t) hi (part inb_S2048x128_S2048x128_0_0 arg14 p 0 inb_S2048x128_S512x128_0_0_s_4_1) (part inb_S2048x128_S2048x128_0_0 arg14 p 1 inb_S2048x128_S512x128_1_0_s_4_1) (part inb_S2048x128_S2048x128_0_0 arg14 p 2 inb_S2048x128_S512x128_2_0_s_4_1) (part inb_S2048x128_S2048x128_0_0 arg14 p 3 inb_S2048x128_S512x128_3_0_s_4_1)))) := by
  refine slabs_step m c t h b tok4 _ _ hx (fun l => ⟨128 * (t.val % 12) + l.val, by omega⟩) (fun l => rfl) (fun s hs r l => ?_) (fun s hs r l => ?_)
  · exact left_of arg11 f (strips_of (A0 m c) (A1 m c) b _ _ hi _ arg14 p fun r l => hp r l _ rfl) _ (strips_written _ hi _ _ _ _ s hs r l)
  · exact View.read_writes_apply_of_forall_not_mem _ _ _ _ (strips_off _ hi _ _ _ _ s hs r l)

theorem slabs16 (hx : Slabs m c (t.val % 12) tok16 b (arg11.view.read (Elt Ideal) f)) :
    Slabs m c ((t.val + 1) % 12) tok16 b (arg11.view.read (Elt Ideal) (arg11.view.writes (Elt Ideal) f
      (fines (grid0.coords t) hi (bit arg15 (parts0 inb_S2048x128_S2048x128_0_0 arg14 p) 0 inb_S2048x128_S128x128_0_0_s_4_1) (bit arg15 (parts0 inb_S2048x128_S2048x128_0_0 arg14 p) 1 inb_S2048x128_S128x128_1_0_s_4_1) (bit arg15 (parts0 inb_S2048x128_S2048x128_0_0 arg14 p) 2 inb_S2048x128_S128x128_2_0_s_4_1) (bit arg15 (parts0 inb_S2048x128_S2048x128_0_0 arg14 p) 3 inb_S2048x128_S128x128_3_0_s_4_1) (bit arg15 (parts1 inb_S2048x128_S2048x128_0_0 arg14 p) 512 inb_S2048x128_S128x128_512_0_s_4_1) (bit arg15 (parts1 inb_S2048x128_S2048x128_0_0 arg14 p) 513 inb_S2048x128_S128x128_513_0_s_4_1) (bit arg15 (parts1 inb_S2048x128_S2048x128_0_0 arg14 p) 514 inb_S2048x128_S128x128_514_0_s_4_1) (bit arg15 (parts1 inb_S2048x128_S2048x128_0_0 arg14 p) 515 inb_S2048x128_S128x128_515_0_s_4_1) (bit arg15 (parts2 inb_S2048x128_S2048x128_0_0 arg14 p) 1024 inb_S2048x128_S128x128_1024_0_s_4_1) (bit arg15 (parts2 inb_S2048x128_S2048x128_0_0 arg14 p) 1025 inb_S2048x128_S128x128_1025_0_s_4_1) (bit arg15 (parts2 inb_S2048x128_S2048x128_0_0 arg14 p) 1026 inb_S2048x128_S128x128_1026_0_s_4_1) (bit arg15 (parts2 inb_S2048x128_S2048x128_0_0 arg14 p) 1027 inb_S2048x128_S128x128_1027_0_s_4_1) (bit arg15 (parts3 inb_S2048x128_S2048x128_0_0 arg14 p) 1536 inb_S2048x128_S128x128_1536_0_s_4_1) (bit arg15 (parts3 inb_S2048x128_S2048x128_0_0 arg14 p) 1537 inb_S2048x128_S128x128_1537_0_s_4_1) (bit arg15 (parts3 inb_S2048x128_S2048x128_0_0 arg14 p) 1538 inb_S2048x128_S128x128_1538_0_s_4_1) (bit arg15 (parts3 inb_S2048x128_S2048x128_0_0 arg14 p) 1539 inb_S2048x128_S128x128_1539_0_s_4_1)))) := by
  refine slabs_step m c t h b tok16 _ _ hx (fun l => ⟨128 * (t.val % 12) + l.val, by omega⟩) (fun l => rfl) (fun s hs r l => ?_) (fun s hs r l => ?_)
  · exact left_of arg11 f (fines_of (A0 m c) (A1 m c) b _ _ hi _ arg14 arg15 p fun r l => hp r l _ rfl) _ (fines_written _ hi _ _ _ _ _ _ _ _ _ _ _ _ _ _ _ _ s hs r l)
  · exact View.read_writes_apply_of_forall_not_mem _ _ _ _ (fines_off _ hi _ _ _ _ _ _ _ _ _ _ _ _ _ _ _ _ s hs r l)

end Store

/-- The four stores of a block of the natural projection. -/
theorem natural_left (t : Fin cfg0.N) (h : t.val % 12 ≤ 7) (arg8 : Memref sig .tc .vmem S1x2048x1024 .bf16) (f : arg8.view.ty.Contents (Elt Ideal))
    (v0 v1 v2 v3 : FVec Ideal S512x1024 .bf16) (w0 w1 w2 w3 : FVec Ideal S1024x1024 .bf16)
    (hv : ∀ (b : Fin 32), b.val = t.val / 12 → (∀ (r : Fin 512) (k : Fin 1024) (q : Fin 2048), q.val = 0 + r.val → v0 (ix2 r k) = rows (A0 m c) (A1 m c) b (ix2 q k))
      ∧ (∀ (r : Fin 512) (k : Fin 1024) (q : Fin 2048), q.val = 512 + r.val → v1 (ix2 r k) = rows (A0 m c) (A1 m c) b (ix2 q k))
      ∧ (∀ (r : Fin 512) (k : Fin 1024) (q : Fin 2048), q.val = 1024 + r.val → v2 (ix2 r k) = rows (A0 m c) (A1 m c) b (ix2 q k))
      ∧ (∀ (r : Fin 512) (k : Fin 1024) (q : Fin 2048), q.val = 1536 + r.val → v3 (ix2 r k) = rows (A0 m c) (A1 m c) b (ix2 q k)))
    (hw : w0 = iblk m c 4 t ∧ w1 = iblk m c 4 t ∧ w2 = iblk m c 4 t ∧ w3 = iblk m c 4 t) :
    (claims m c).P6 t.val (arg8.view.read (Elt Ideal) (arg8.view.writes (Elt Ideal) f
      [⟨Rect.unit (s := S1x2048x1024) ![0, 1536, 0] S1x512x1024.size inb_S1x2048x1024_S1x512x1024_0_1536_0, k0_pay44 (F := Ideal) v3 w3⟩,
       ⟨Rect.unit (s := S1x2048x1024) ![0, 1024, 0] S1x512x1024.size inb_S1x2048x1024_S1x512x1024_0_1024_0, k0_pay44 (F := Ideal) v2 w2⟩,
       ⟨Rect.unit (s := S1x2048x1024) ![0, 512, 0] S1x512x1024.size inb_S1x2048x1024_S1x512x1024_0_512_0, k0_pay44 (F := Ideal) v1 w1⟩,
       ⟨Rect.unit (s := S1x2048x1024) ![0, 0, 0] S1x512x1024.size inb_S1x2048x1024_S1x512x1024_0_0_0, k0_pay44 (F := Ideal) v0 w0⟩])) := by
  intro b hb r d q hq
  obtain ⟨h0, h1, h2, h3⟩ := hv b hb
  obtain ⟨rfl, rfl, rfl, rfl⟩ := hw
  have hW := weights m c t h
  refine (left_of arg8 f (G := natural (A0 m c) (A1 m c) (A2 m c) b fun n => ⟨1024 * (t.val % 12) + n.val, by omega⟩)
    (.cons (natural_piece _ _ _ b _ 1536 (by omega) v3 _ (fun r k => h3 r k _ rfl) hW _) <| .cons (natural_piece _ _ _ b _ 1024 (by omega) v2 _ (fun r k => h2 r k _ rfl) hW _) <|
     .cons (natural_piece _ _ _ b _ 512 (by omega) v1 _ (fun r k => h1 r k _ rfl) hW _) <| .cons (natural_piece _ _ _ b _ 0 (by omega) v0 _ (fun r k => h0 r k _ rfl) hW _) <| .nil _) _
    (written_natural _ _ (by show r.val < _; omega) fun h => written_natural _ _ h fun h => written_natural _ _ h fun h => written_natural _ _ h fun h => absurd h (by omega))).trans ?_
  exact congrArg (fun q => Cert.ProjRefIdeal.Read.val_main_v15 (F := Ideal) (A0 m c) (A1 m c) (A2 m c) (ix3 b r q)) (Fin.ext hq.symm)

end Cert.Proof.ProjIdeal

end
-- ==== Proof.ProjKept.lean ====
/- The body keeps the claims made of the projections call's buffers. -/
module

public import proofs.«01_k».proof.Proof.ProjClaims
public import Idealize.ShloMosaic.Lib.VecWindow

@[expose] public section

set_option maxRecDepth 16384

noncomputable section

namespace Cert.Proof.ProjIdeal

open Idealize.ShloMosaic Idealize.ShloMosaic.TcCoe Idealize.SL.Sem
open Idealize.ShloMosaic.Pipeline (Dat)
open Cert.ProjIdeal Cert.ProjIdeal.Gen
open scoped BigOperators

variable (m : (ℓ : Loc nD τ sig) → Buf (Elt Ideal) ℓ) (c : Dev nD)

/-- A load of a whole buffer. -/
theorem load_whole {S : Shape} {e : EltTy} (v : Memref sig .tc .vmem S e) (hv : v.IsWhole) (x : S.Idx → Elt Ideal e) {off : Fin S.rank → ℕ}
    (inb : ∀ a, off a + S.size a ≤ S.size a) :
    View.readAt (Elt Ideal) v.view (Rect.unit off S.size inb).toLoadRect (hv.unread x) = x :=
  (View.readAt_full _ _ _).trans (hv.read_unread x)

section Lists

variable (a0 : FVec Ideal Cert.ProjRefIdeal.S32x2048x1024 .f32) (a1 : FVec Ideal Cert.ProjRefIdeal.S1024 .f32) (b : Fin 32)
    (arg2 : Memref sig .tc .vmem S1x2048x1024 .f32) (harg2 : arg2.IsWhole) (arg4 : Memref sig .tc .vmem S1x1024 .f32) (harg4 : arg4.IsWhole)
    (x2 : FVec Ideal S1x2048x1024 .f32) (x4 : FVec Ideal S1x1024 .f32)
    (h2 : ∀ (r : Fin 2048) (k : Fin 1024), x2 (ix3 0 r k) = a0 (ix3 b r k))

include h2

/-- The eight stores of the rows' factors. -/
theorem factors_list : Agrees (factors a0 b) (runA.sl.H13_8 c arg2 harg2 x2) := by
  unfold runA.sl.H13_8
  exact .cons (factors_piece a0 b arg2 harg2 x2 h2 1792 (by omega) inb_S1x2048x1024_S1x256x1024_0_1792_0 inb_S2048x128_S256x128_1792_0) <|
    .cons (factors_piece a0 b arg2 harg2 x2 h2 1536 (by omega) inb_S1x2048x1024_S1x256x1024_0_1536_0 inb_S2048x128_S256x128_1536_0) <|
    .cons (factors_piece a0 b arg2 harg2 x2 h2 1280 (by omega) inb_S1x2048x1024_S1x256x1024_0_1280_0 inb_S2048x128_S256x128_1280_0) <|
    .cons (factors_piece a0 b arg2 harg2 x2 h2 1024 (by omega) inb_S1x2048x1024_S1x256x1024_0_1024_0 inb_S2048x128_S256x128_1024_0) <|
    .cons (factors_piece a0 b arg2 harg2 x2 h2 768 (by omega) inb_S1x2048x1024_S1x256x1024_0_768_0 inb_S2048x128_S256x128_768_0) <|
    .cons (factors_piece a0 b arg2 harg2 x2 h2 512 (by omega) inb_S1x2048x1024_S1x256x1024_0_512_0 inb_S2048x128_S256x128_512_0) <|
    .cons (factors_piece a0 b arg2 harg2 x2 h2 256 (by omega) inb_S1x2048x1024_S1x256x1024_0_256_0 inb_S2048x128_S256x128_256_0) <|
    .cons (factors_piece a0 b arg2 harg2 x2 h2 0 (by omega) inb_S1x2048x1024_S1x256x1024_0_0_0 inb_S2048x128_S256x128_0_0) <| .nil _

/-- The eight stores of the normalized rows. -/
theorem rows_list (h4 : ∀ k : Fin 1024, x4 (ix2 0 k) = a1 (ix1 k)) : Agrees (rows a0 a1 b) (runA.sl.H10_8 c arg2 harg2 arg4 harg4 x2 x4) := by
  have hg : ∀ k : Fin 1024, (View.readAt (Elt Ideal) arg4.view (Rect.unit (s := S1x1024) ![0, 0] S1x1024.size inb_S1x1024_S1x1024_0_0).toLoadRect (harg4.unread x4)) (ix2 0 k) = a1 (ix1 k) :=
    fun k => (congrFun (load_whole arg4 harg4 x4 _) _).trans (h4 k)
  unfold runA.sl.H10_8
  exact .cons (rows_piece a0 a1 b arg2 harg2 x2 _ h2 hg 1792 (by omega) inb_S1x2048x1024_S1x256x1024_0_1792_0 inb_S2048x1024_S256x1024_1792_0) <|
    .cons (rows_piece a0 a1 b arg2 harg2 x2 _ h2 hg 1536 (by omega) inb_S1x2048x1024_S1x256x1024_0_1536_0 inb_S2048x1024_S256x1024_1536_0) <|
    .cons (rows_piece a0 a1 b arg2 harg2 x2 _ h2 hg 1280 (by omega) inb_S1x2048x1024_S1x256x1024_0_1280_0 inb_S2048x1024_S256x1024_1280_0) <|
    .cons (rows_piece a0 a1 b arg2 harg2 x2 _ h2 hg 1024 (by omega) inb_S1x2048x1024_S1x256x1024_0_1024_0 inb_S2048x1024_S256x1024_1024_0) <|
    .cons (rows_piece a0 a1 b arg2 harg2 x2 _ h2 hg 768 (by omega) inb_S1x2048x1024_S1x256x1024_0_768_0 inb_S2048x1024_S256x1024_768_0) <|
    .cons (rows_piece a0 a1 b arg2 harg2 x2 _ h2 hg 512 (by omega) inb_S1x2048x1024_S1x256x1024_0_512_0 inb_S2048x1024_S256x1024_512_0) <|
    .cons (rows_piece a0 a1 b arg2 harg2 x2 _ h2 hg 256 (by omega) inb_S1x2048x1024_S1x256x1024_0_256_0 inb_S2048x1024_S256x1024_256_0) <|
    .cons (rows_piece a0 a1 b arg2 harg2 x2 _ h2 hg 0 (by omega) inb_S1x2048x1024_S1x256x1024_0_0_0 inb_S2048x1024_S256x1024_0_0) <| .nil _

end Lists

theorem rows_written (arg2 : Memref sig .tc .vmem S1x2048x1024 .f32) (harg2 : arg2.IsWhole) (arg4 : Memref sig .tc .vmem S1x1024 .f32) (harg4 : arg4.IsWhole)
    (x2 : FVec Ideal S1x2048x1024 .f32) (x4 : FVec Ideal S1x1024 .f32) (y : S2048x1024.Idx) : Written y (runA.sl.H10_8 c arg2 harg2 arg4 harg4 x2 x4) :=
  View.cover_of_tiled (s := S2048x1024) _ S256x1024.size (by unfold runA.sl.H10_8; rfl) y

theorem factors_written (arg2 : Memref sig .tc .vmem S1x2048x1024 .f32) (harg2 : arg2.IsWhole)
    (x2 : FVec Ideal S1x2048x1024 .f32) (y : S2048x128.Idx) : Written y (runA.sl.H13_8 c arg2 harg2 x2) :=
  View.cover_of_tiled (s := S2048x128) _ S256x128.size (by unfold runA.sl.H13_8; rfl) y

/-- The place a load of whole rows reads. -/
theorem rows_at {o : ℕ} (inb : ∀ a, (![o, 0] : Fin 2 → ℕ) a + S512x1024.size a ≤ S2048x1024.size a) (r : Fin 512) (k : Fin 1024) (q : Fin 2048) (hq : q.val = o + r.val) :
    (Rect.unit (s := S2048x1024) ![o, 0] S512x1024.size inb).toLoadRect.idx (ix2 r k) = ix2 q k := by
  refine funext fun a => Fin.ext ?_
  fin_cases a
  · show o + 1 * r.val = q.val; omega
  · show 0 + 1 * k.val = k.val; omega

/-- The place a load of the whole slab reads. -/
theorem all_at (inb : ∀ a, (![0, 0] : Fin 2 → ℕ) a + S2048x128.size a ≤ S2048x128.size a) (r : Fin 2048) (l : Fin 128) :
    (Rect.unit (s := S2048x128) ![0, 0] S2048x128.size inb).toLoadRect.idx (ix2 r l) = ix2 r l := by
  refine funext fun a => Fin.ext ?_
  fin_cases a
  · show 0 + 1 * r.val = r.val; omega
  · show 0 + 1 * l.val = l.val; omega

/-- The slab of normalized columns the body stores, from the factors it loads. -/
theorem slab_stored (t : Fin cfg0.N) (h : t.val % 12 ≤ 7) (b : Fin 32) (hb : b.val = t.val / 12)
    (arg3 : Memref sig .tc .vmem S1x2048x128 .f32) (harg3 : arg3.IsWhole) (arg5 : Memref sig .tc .vmem S1x128 .f32) (harg5 : arg5.IsWhole)
    (w : FVec Ideal S2048x128 .f32) (hw : ∀ (r : Fin 2048) (l : Fin 128), w (ix2 r l) = factors (A0 m c) b (ix2 r l))
    (r : Fin 2048) (l : Fin 128) (k : Fin 1024) (hk : k.val = 128 * (t.val % 12) + l.val) :
    k0_pay43 (F := Ideal)
        (View.readAt (Elt Ideal) arg3.view (Rect.unit (s := S1x2048x128) ![0, 0, 0] S1x2048x128.size inb_S1x2048x128_S1x2048x128_0_0_0).toLoadRect (harg3.unread (iblk m c 1 t)))
        w
        (View.readAt (Elt Ideal) arg5.view (Rect.unit (s := S1x128) ![0, 0] S1x128.size inb_S1x128_S1x128_0_0).toLoadRect (harg5.unread (iblk m c 3 t))) (ix2 r l)
      = normed m c b r k := by
  rw [load_whole arg3 harg3, load_whole arg5 harg5]
  exact (slab_norm (A0 m c) (A1 m c) b _ w _ (fun l => ⟨128 * (t.val % 12) + l.val, by omega⟩) (image_slab m c t h b hb) hw (gain_slab m c t h) r l).trans
    (congrArg (fun k => normed m c b r k) (Fin.ext hk.symm))

/-- A dilated block is the reference's, in the first order of rows. -/
theorem dilated_low (t : Fin cfg0.N) (h8 : 8 ≤ t.val % 12) (h9 : t.val % 12 ≤ 9) (b : Fin 32) (g : Fin 2) (hg : g.val = (t.val % 12 - 8) / 2)
    (r : Fin 2048) (d : Fin 768) (q : Fin 1536) (hq : q.val = 768 * ((t.val % 12 - 8) % 2) + d.val) :
    dilated (fun r k => normed m c b (tok4 r) k) (iblk m c 5 t) (ix4 0 0 r d)
      = Cert.ProjRefIdeal.Read.val_main_v35 (F := Ideal) (A0 m c) (A1 m c) (A3 m c) (ix4 b g r q) := by
  obtain rfl : g = 0 := Fin.ext (by rw [hg]; show _ = 0; omega)
  rw [dil_low]
  refine Finset.sum_congr rfl fun k _ => congrArg₂ (fun x y : EReal => x * y) ?_ ?_
  · exact (rows4 _ _ b r k).symm
  · refine (dil_weights m c t h8 k d).trans (congrArg₂ (fun (p : Fin 4) (q : Fin 768) => A3 m c (ix3 p k q)) (Fin.ext ?_) (Fin.ext ?_))
    · show t.val % 12 - 8 = q.val / 768; omega
    · show d.val = q.val % 768; omega

/-- A dilated block is the reference's, in the second order of rows. -/
theorem dilated_high (t : Fin cfg0.N) (h10 : 10 ≤ t.val % 12) (b : Fin 32) (g : Fin 2) (hg : g.val = (t.val % 12 - 8) / 2)
    (r : Fin 2048) (d : Fin 768) (q : Fin 1536) (hq : q.val = 768 * ((t.val % 12 - 8) % 2) + d.val) :
    dilated (fun r k => normed m c b (tok16 r) k) (iblk m c 5 t) (ix4 0 0 r d)
      = Cert.ProjRefIdeal.Read.val_main_v35 (F := Ideal) (A0 m c) (A1 m c) (A3 m c) (ix4 b g r q) := by
  obtain rfl : g = 1 := Fin.ext (by rw [hg]; show _ = 1; omega)
  rw [dil_high]
  refine Finset.sum_congr rfl fun k _ => congrArg₂ (fun x y : EReal => x * y) ?_ ?_
  · exact (rows16 _ _ b r k).symm
  · refine (dil_weights m c t (by omega) k d).trans (congrArg₂ (fun (p : Fin 4) (q : Fin 768) => A3 m c (ix3 p k q)) (Fin.ext ?_) (Fin.ext ?_))
    · show t.val % 12 - 8 = 2 + q.val / 768; omega
    · show d.val = q.val % 768; omega

/-- The slabs once full stay so. -/
theorem slabs_full {n : ℕ} (h : 8 ≤ n % 12) {T b x} (hx : Slabs m c (n % 12) T b x) : Slabs m c ((n + 1) % 12) T b x :=
  fun s hs => hx s (by have := s.isLt; omega)

theorem kept_start (n : ℕ) (hn : n % 12 = 0) (x10 x11 x12 x13) : (claims m c).I n x10 x11 x12 x13 := fun h => absurd hn h

/-- The claims are kept by every case of the body. -/
theorem kept : Kept m (claims m c) c where
  start n hn x10 x11 x12 x13 := kept_start m c n hn x10 x11 x12 x13
  caseA := by
    intro t ht arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3
    have hb32 : t.val / 12 < 32 := by have := lt_of_lt_of_eq t.isLt (show cfg0.N = 384 from N_0); omega
    have HR := fun (b : Fin 32) (hb : b.val = t.val / 12) => rows_list c (A0 m c) (A1 m c) b arg2 harg2 arg4 harg4 _ _ (image m c t b hb) (gain m c t)
    have HF := fun (b : Fin 32) (hb : b.val = t.val / 12) => factors_list c (A0 m c) b arg2 harg2 _ (image m c t b hb)
    refine ⟨fun f => ?_, fun f10 f11 f12 f13 hne b hb => ?_⟩
    · unfold runA; dsimp only
      refine natural_left m c t (by omega) arg8 f (runA.sl.v27 c arg2 harg2 arg4 harg4 arg10 (iblk m c 0 t) (iblk m c 2 t))
        (runA.sl.v67 c arg2 harg2 arg4 harg4 arg10 (iblk m c 0 t) (iblk m c 2 t)) (runA.sl.v107 c arg2 harg2 arg4 harg4 arg10 (iblk m c 0 t) (iblk m c 2 t))
        (runA.sl.v147 c arg2 harg2 arg4 harg4 arg10 (iblk m c 0 t) (iblk m c 2 t)) _ _ _ _ (fun b hb => ⟨?_, ?_, ?_, ?_⟩) ⟨load_whole arg6 harg6 _ _, load_whole arg6 harg6 _ _, load_whole arg6 harg6 _ _, load_whole arg6 harg6 _ _⟩
      all_goals exact fun r k q hq => (load_of arg10 (HR b hb) _ _ (rows_written c arg2 harg2 arg4 harg4 _ _ _)).trans (congrArg _ (rows_at _ r k q hq))
    · have hb' : b.val = t.val / 12 := by omega
      have HP := slab_stored m c t (by omega) b hb' arg3 harg3 arg5 harg5 (runA.sl.v18 c arg2 harg2 arg13 (iblk m c 0 t))
        (fun r l => (load_of arg13 (HF b hb') _ _ (factors_written c arg2 harg2 _ _)).trans (congrArg _ (all_at _ r l)))
      refine ⟨fun _ => ⟨fun y => ?_, fun y => ?_⟩, ?_, ?_⟩
      · unfold runA; dsimp only
        exact left_of arg10 f10 (HR b hb') y (rows_written c arg2 harg2 arg4 harg4 _ _ y)
      · unfold runA; dsimp only
        exact left_of arg13 f13 (HF b hb') y (factors_written c arg2 harg2 _ y)
      · unfold runA; dsimp only
        exact slabs4 m c t (by omega) b hc1 arg14 arg11 _ HP f11 (fun s hs => absurd hs (by omega))
      · unfold runA; dsimp only
        exact slabs16 m c t (by omega) b hc1 arg14 arg15 arg12 _ HP f12 (fun s hs => absurd hs (by omega))
  caseB := by
    intro t ht h7 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x10 x11 x12 x13 hI
    refine ⟨fun f => ?_, fun hne b hb => ?_⟩
    · unfold runB; dsimp only
      refine natural_left m c t h7 arg8 f _ _ _ _ _ _ _ _ (fun b hb => ?_) ⟨load_whole arg6 harg6 _ _, load_whole arg6 harg6 _ _, load_whole arg6 harg6 _ _, load_whole arg6 harg6 _ _⟩
      have H := ((hI ht b hb).1 h7).1
      refine ⟨?_, ?_, ?_, ?_⟩
      all_goals exact fun r k q hq => (congrFun (harg10.read_unread x10) _).trans ((H _).trans (congrArg _ (rows_at _ r k q hq)))
    · have hb' : b.val = t.val / 12 := by omega
      obtain ⟨H1, H2, H3⟩ := hI ht b hb'
      have HP := slab_stored m c t h7 b hb' arg3 harg3 arg5 harg5 _
        (fun r l => (congrFun (load_whole arg13 harg13 x13 inb_S2048x128_S2048x128_0_0) _).trans ((H1 h7).2 _))
      refine ⟨fun _ => H1 h7, ?_, ?_⟩
      · unfold runB; dsimp only
        exact slabs4 m c t h7 b hc1 arg14 arg11 _ HP _ (by rw [harg11.read_unread]; exact H2)
      · unfold runB; dsimp only
        exact slabs16 m c t h7 b hc1 arg14 arg15 arg12 _ HP _ (by rw [harg12.read_unread]; exact H3)
  caseC := by
    intro t h8 h9 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x8 x10 x11 x12 x13 hI
    refine ⟨fun f b hb g hg r d q hq => ?_, fun y10 y13 hne b hb => ?_⟩
    · have hx : ∀ (s : Fin 8) (r : Fin 2048) (l : Fin 128) (k : Fin 1024), k.val = 128 * s.val + l.val → x11 (ix3 s r l) = normed m c b (tok4 r) k :=
        fun s => (hI (by omega) b hb).2.1 s (by have := s.isLt; omega)
      refine Eq.trans ?_ ((congrArg (fun w => dilated (fun r k => normed m c b (tok4 r) k) w (ix4 0 0 r d))
        (load_whole arg7 harg7 (iblk m c 5 t) inb_S1x1024x768_S1x1024x768_0_0_0)).trans (dilated_low m c t h8 h9 b g hg r d q hq))
      refine left_of arg9 f ?_ _ ?_
      · unfold runC; dsimp only
        exact .cons (dilated_piece arg11 harg11 x11 (fun r k => normed m c b (tok4 r) k) hx _ 1536 (by omega) inb_S8x2048x128_S1x512x128_0_1536_0 inb_S8x2048x128_S1x512x128_1_1536_0 inb_S8x2048x128_S1x512x128_2_1536_0 inb_S8x2048x128_S1x512x128_3_1536_0 inb_S8x2048x128_S1x512x128_4_1536_0 inb_S8x2048x128_S1x512x128_5_1536_0 inb_S8x2048x128_S1x512x128_6_1536_0 inb_S8x2048x128_S1x512x128_7_1536_0 inb_S1x1x2048x768_S1x1x512x768_0_0_1536_0) <|
         .cons (dilated_piece arg11 harg11 x11 (fun r k => normed m c b (tok4 r) k) hx _ 1024 (by omega) inb_S8x2048x128_S1x512x128_0_1024_0 inb_S8x2048x128_S1x512x128_1_1024_0 inb_S8x2048x128_S1x512x128_2_1024_0 inb_S8x2048x128_S1x512x128_3_1024_0 inb_S8x2048x128_S1x512x128_4_1024_0 inb_S8x2048x128_S1x512x128_5_1024_0 inb_S8x2048x128_S1x512x128_6_1024_0 inb_S8x2048x128_S1x512x128_7_1024_0 inb_S1x1x2048x768_S1x1x512x768_0_0_1024_0) <|
         .cons (dilated_piece arg11 harg11 x11 (fun r k => normed m c b (tok4 r) k) hx _ 512 (by omega) inb_S8x2048x128_S1x512x128_0_512_0 inb_S8x2048x128_S1x512x128_1_512_0 inb_S8x2048x128_S1x512x128_2_512_0 inb_S8x2048x128_S1x512x128_3_512_0 inb_S8x2048x128_S1x512x128_4_512_0 inb_S8x2048x128_S1x512x128_5_512_0 inb_S8x2048x128_S1x512x128_6_512_0 inb_S8x2048x128_S1x512x128_7_512_0 inb_S1x1x2048x768_S1x1x512x768_0_0_512_0) <|
         .cons (dilated_piece arg11 harg11 x11 (fun r k => normed m c b (tok4 r) k) hx _ 0 (by omega) inb_S8x2048x128_S1x512x128_0_0_0 inb_S8x2048x128_S1x512x128_1_0_0 inb_S8x2048x128_S1x512x128_2_0_0 inb_S8x2048x128_S1x512x128_3_0_0 inb_S8x2048x128_S1x512x128_4_0_0 inb_S8x2048x128_S1x512x128_5_0_0 inb_S8x2048x128_S1x512x128_6_0_0 inb_S8x2048x128_S1x512x128_7_0_0 inb_S1x1x2048x768_S1x1x512x768_0_0_0_0) <| .nil _
      · unfold runC; dsimp only
        exact written_dilated _ _ (by show r.val < _; omega) fun h => written_dilated _ _ h fun h => written_dilated _ _ h fun h => written_dilated _ _ h fun h => absurd h (by omega)
    · obtain ⟨_, H2, H3⟩ := hI (by omega) b (by omega)
      exact ⟨fun h => absurd h (by omega), slabs_full m c (by omega) H2, slabs_full m c (by omega) H3⟩
  caseD := by
    intro t h10 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x8 x10 x11 x12 x13 hI
    refine ⟨fun f b hb g hg r d q hq => ?_, fun y10 y13 hne b hb => ?_⟩
    · have hx : ∀ (s : Fin 8) (r : Fin 2048) (l : Fin 128) (k : Fin 1024), k.val = 128 * s.val + l.val → x12 (ix3 s r l) = normed m c b (tok16 r) k :=
        fun s => (hI (by omega) b hb).2.2 s (by have := s.isLt; omega)
      refine Eq.trans ?_ ((congrArg (fun w => dilated (fun r k => normed m c b (tok16 r) k) w (ix4 0 0 r d))
        (load_whole arg7 harg7 (iblk m c 5 t) inb_S1x1024x768_S1x1024x768_0_0_0)).trans (dilated_high m c t h10 b g hg r d q hq))
      refine left_of arg9 f ?_ _ ?_
      · unfold runD; dsimp only
        exact .cons (dilated_piece arg12 harg12 x12 (fun r k => normed m c b (tok16 r) k) hx _ 1536 (by omega) inb_S8x2048x128_S1x512x128_0_1536_0 inb_S8x2048x128_S1x512x128_1_1536_0 inb_S8x2048x128_S1x512x128_2_1536_0 inb_S8x2048x128_S1x512x128_3_1536_0 inb_S8x2048x128_S1x512x128_4_1536_0 inb_S8x2048x128_S1x512x128_5_1536_0 inb_S8x2048x128_S1x512x128_6_1536_0 inb_S8x2048x128_S1x512x128_7_1536_0 inb_S1x1x2048x768_S1x1x512x768_0_0_1536_0) <|
         .cons (dilated_piece arg12 harg12 x12 (fun r k => normed m c b (tok16 r) k) hx _ 1024 (by omega) inb_S8x2048x128_S1x512x128_0_1024_0 inb_S8x2048x128_S1x512x128_1_1024_0 inb_S8x2048x128_S1x512x128_2_1024_0 inb_S8x2048x128_S1x512x128_3_1024_0 inb_S8x2048x128_S1x512x128_4_1024_0 inb_S8x2048x128_S1x512x128_5_1024_0 inb_S8x2048x128_S1x512x128_6_1024_0 inb_S8x2048x128_S1x512x128_7_1024_0 inb_S1x1x2048x768_S1x1x512x768_0_0_1024_0) <|
         .cons (dilated_piece arg12 harg12 x12 (fun r k => normed m c b (tok16 r) k) hx _ 512 (by omega) inb_S8x2048x128_S1x512x128_0_512_0 inb_S8x2048x128_S1x512x128_1_512_0 inb_S8x2048x128_S1x512x128_2_512_0 inb_S8x2048x128_S1x512x128_3_512_0 inb_S8x2048x128_S1x512x128_4_512_0 inb_S8x2048x128_S1x512x128_5_512_0 inb_S8x2048x128_S1x512x128_6_512_0 inb_S8x2048x128_S1x512x128_7_512_0 inb_S1x1x2048x768_S1x1x512x768_0_0_512_0) <|
         .cons (dilated_piece arg12 harg12 x12 (fun r k => normed m c b (tok16 r) k) hx _ 0 (by omega) inb_S8x2048x128_S1x512x128_0_0_0 inb_S8x2048x128_S1x512x128_1_0_0 inb_S8x2048x128_S1x512x128_2_0_0 inb_S8x2048x128_S1x512x128_3_0_0 inb_S8x2048x128_S1x512x128_4_0_0 inb_S8x2048x128_S1x512x128_5_0_0 inb_S8x2048x128_S1x512x128_6_0_0 inb_S8x2048x128_S1x512x128_7_0_0 inb_S1x1x2048x768_S1x1x512x768_0_0_0_0) <| .nil _
      · unfold runD; dsimp only
        exact written_dilated _ _ (by show r.val < _; omega) fun h => written_dilated _ _ h fun h => written_dilated _ _ h fun h => written_dilated _ _ h fun h => absurd h (by omega)
    · obtain ⟨_, H2, H3⟩ := hI (by omega) b (by omega)
      exact ⟨fun h => absurd h (by omega), slabs_full m c (by omega) H2, slabs_full m c (by omega) H3⟩

end Cert.Proof.ProjIdeal

end
-- ==== Proof.ProjArrays.lean ====
/- What the projections call leaves in its two result arrays: the reference's two results. -/
module

public import proofs.«01_k».proof.Proof.ProjKept
public import Idealize.ShloMosaic.Lib.Pipeline.ArrRel

@[expose] public section

set_option maxRecDepth 16384

noncomputable section

namespace Cert.Proof.ProjIdeal

open Idealize.ShloMosaic Idealize.ShloMosaic.TcCoe Idealize.ShloMosaic.Tactic Idealize.SL.Sem
open Idealize.ShloMosaic.Pipeline (Dat RDat)
open Cert.ProjIdeal Cert.ProjIdeal.Gen
open scoped BigOperators

variable (m : (ℓ : Loc nD τ sig) → Buf (Elt Ideal) ℓ) (c : Dev nD)

/-- The block the first result's window is at. -/
theorem nat_at : ∀ t : Fin cfg0.N, win0_6.index t = ![t.val / 12, 0, min (t.val % 12) 7] :=
  (by decide +kernel : ∀ t : Fin grid0.N, win0_6.index t = ![t.val / 12, 0, min (t.val % 12) 7])

/-- The first result is not written back between the last block's store and the image's last point, -/
theorem nat_waits : ∀ t : Fin cfg0.N, 7 ≤ t.val % 12 → t.val % 12 ≤ 10 → (cfg0.win 6).flush t = false :=
  (by decide +kernel : ∀ t : Fin grid0.N, 7 ≤ t.val % 12 → t.val % 12 ≤ 10 → win0_6.flush t = false)

/-- and the second only in the second phase. -/
theorem dil_phase : ∀ t : Fin cfg0.N, (cfg0.win 7).flush t = true → 8 ≤ t.val % 12 :=
  (by decide +kernel : ∀ t : Fin grid0.N, win0_7.flush t = true → 8 ≤ t.val % 12)

/-- Outputs are not fetched. -/
theorem nat_unfetched (t : Fin cfg0.N) : (cfg0.win 6).fetch t = false := rfl

/-- The first result's buffer holds, from its last store to the image's end, what that store left. -/
theorem nat_leaves (S : Claims Ideal) : ∀ (n : ℕ) (hn : n < cfg0.N) (X), (rdat m S c).Leaves 6 ⟨n, hn⟩ X → S.P6 (12 * (n / 12) + min (n % 12) 7) X := by
  intro n
  induction n with
  | zero =>
    intro hn X h
    obtain ⟨Y, _, ha⟩ := h
    exact ha.1 (by show 0 % 12 ≤ 7; omega)
  | succ n ih =>
    intro hn X h
    obtain ⟨Y, hY, ha⟩ := h
    by_cases h7 : (n + 1) % 12 ≤ 7
    · rw [show 12 * ((n + 1) / 12) + min ((n + 1) % 12) 7 = n + 1 by omega]
      exact ha.1 h7
    · obtain rfl : X = Y := ha.2 (by show 8 ≤ (n + 1) % 12; omega)
      rcases ((rdat m S c).finds_of_pos (nat_unfetched ⟨n + 1, hn⟩) (Nat.succ_ne_zero n) X).mp hY with hf | hl
      · have := nat_waits ⟨n, Nat.lt_of_succ_lt hn⟩ (by show 7 ≤ n % 12; omega) (by show n % 12 ≤ 10; omega)
        exact absurd (this.symm.trans hf) (by decide)
      · have := ih (Nat.lt_of_succ_lt hn) X hl
        rwa [show 12 * (n / 12) + min (n % 12) 7 = 12 * ((n + 1) / 12) + min ((n + 1) % 12) 7 by omega] at this

/-- The two results. -/
abbrev natWanted := Cert.ProjRefIdeal.Read.val_main_v15 (F := Ideal) (A0 m c) (A1 m c) (A2 m c)
abbrev dilWanted := Cert.ProjRefIdeal.Read.val_main_v35 (F := Ideal) (A0 m c) (A1 m c) (A3 m c)

theorem nat_array (dat : Dat τ (Elt Ideal) Unit ℕ (UR sig nD τ) ℕ cfg0 c)
    (h : ∀ t : Fin cfg0.N, (cfg0.win 6).flush t = true → (claims m c).P6 (12 * (t.val / 12) + min (t.val % 12) 7) (dat.after 6 t)) :
    dat.arrAt 6 cfg0.N = natWanted m c := by
  refine dat.arrAt_eq_of_covers 6 _ (by decide +kernel) fun t hf y => ?_
  have hN : t.val < 384 := lt_of_lt_of_eq t.isLt (show cfg0.N = 384 from N_0)
  blk_simp
  have hd : (y 2).val < 1024 := (y 2).isLt
  have := h t hf ⟨t.val / 12, by omega⟩ (by show t.val / 12 = _; omega) (y 1) (y 2) ⟨1024 * min (t.val % 12) 7 + (y 2).val, by omega⟩
    (by show 1024 * min (t.val % 12) 7 + (y 2).val = _; omega)
  refine ((congrArg (dat.after 6 t) ?_).trans this).trans (congrArg (natWanted m c) ?_)
  · idx_ext
  · blk_ext [nat_at t]

theorem dil_array (dat : Dat τ (Elt Ideal) Unit ℕ (UR sig nD τ) ℕ cfg0 c)
    (h : ∀ t : Fin cfg0.N, (cfg0.win 7).flush t = true → (claims m c).P7 t.val (dat.after 7 t)) :
    dat.arrAt 7 cfg0.N = dilWanted m c := by
  refine dat.arrAt_eq_of_covers 7 _ (by decide +kernel) fun t hf y => ?_
  have hN : t.val < 384 := lt_of_lt_of_eq t.isLt (show cfg0.N = 384 from N_0)
  have h8 := dil_phase t hf
  blk_simp
  have hd : (y 3).val < 768 := (y 3).isLt
  have := h t hf ⟨t.val / 12, by omega⟩ rfl ⟨(t.val % 12 - 8) / 2, by omega⟩ rfl (y 2) (y 3)
    ⟨768 * ((t.val % 12 - 8) % 2) + (y 3).val, by omega⟩ rfl
  refine ((congrArg (dat.after 7 t) ?_).trans this).trans (congrArg (dilWanted m c) ?_)
  · idx_ext
  · blk_ext [blocks_dil t h8]

/-- The claims do not depend on which core it is: there is one. -/
theorem kept_all (c' : Dev nD) : Kept m (claims m c) c' := by
  obtain rfl : c' = c := Subsingleton.elim _ _
  exact kept m c'

theorem arrays {r : PUnit × MemSt nD τ sig (Elt Ideal)} (h : RDat.FramePost (cfgs 0) (rdat m (claims m c)) (V m) r) :
    r.2.mem ((c : Thread nD τ).loc main_v2_0) = natWanted m c ∧ r.2.mem ((c : Thread nD τ).loc main_v2_1) = dilWanted m c := by
  obtain ⟨after, hL, hA⟩ := RDat.FramePost.exists_exact h c
  refine ⟨(hA 6).trans (nat_array m c _ fun t hf => nat_leaves m c _ t.val t.isLt _ (hL 6 t hf)), (hA 7).trans (dil_array m c _ fun t hf => ?_)⟩
  obtain ⟨Y, _, ha⟩ := hL 7 t hf
  exact ha (dil_phase t hf)

/-- The whole call, run: both results are the reference's, and the arguments are as they were. -/
theorem run (ρ : Dev nD → PrngReg) : θ_run defs (onTc (τ := τ) (main (F := Ideal))) ⟨m, fun _ => 0, ρ⟩ fun r => ∀ c : Dev nD,
      r.2.mem ((c.tc : Thread nD τ).loc main_v2_0) = natWanted m c
      ∧ r.2.mem ((c.tc : Thread nD τ).loc main_v2_1) = dilWanted m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
    obtain rfl : c = 0 := Subsingleton.elim _ _
    exact ⟨(arrays m 0 h.1).1, (arrays m 0 h.1).2,
      (RDat.FramePost.arr_in h.1 0 1 rfl).trans ((A_eq m (claims m 0) 0 1).trans (V_main_arg0 m 0)),
      ((h.1 0).2 main_arg1 (Pipeline.mem_restRefs_of main_arg1 (by decide) (by decide))).trans (V_main_arg1 m 0),
      (RDat.FramePost.arr_in h.1 0 4 rfl).trans ((A_eq m (claims m 0) 0 4).trans (V_main_arg2 m 0)),
      (RDat.FramePost.arr_in h.1 0 5 rfl).trans ((A_eq m (claims m 0) 0 5).trans (V_main_arg3 m 0))⟩)
    (run_main_quiescent m ρ (claims m 0) (kept_all m 0))

end Cert.Proof.ProjIdeal

end
-- ==== Proof.lean ====
module

public import proofs.«01_k».proof.Defs
public import proofs.«01_k».proof.Proof.Gen.MemProjIdeal.Value
public import proofs.«01_k».proof.Proof.Gen.MemProjRefIdeal.Run
public import proofs.«01_k».proof.Proof.Gen.MemProjRefIdeal.Read
public import proofs.«01_k».proof.Proof.Gen.ProjRefIdeal.Run
public import proofs.«01_k».proof.Proof.Gen.ProjRefIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.MemProj
public import proofs.«01_k».proof.Proof.Gen.MemProj.Skeleton
public import proofs.«01_k».proof.Proof.Gen.MemProj.Launch
public import proofs.«01_k».proof.Proof.Gen.MemProj.Points
public import proofs.«01_k».proof.Proof.Gen.MemProj.Frame
public import proofs.«01_k».proof.Proof.Gen.MemProjIdeal
public import proofs.«01_k».proof.Proof.Gen.MemProjIdeal.Skeleton
public import proofs.«01_k».proof.Proof.Gen.MemProjIdeal.Launch
public import proofs.«01_k».proof.Proof.Gen.MemProjIdeal.Points
public import proofs.«01_k».proof.Proof.Gen.MemProjIdeal.Frame
public import proofs.«01_k».proof.Proof.Gen.ProjRefIdeal
public import proofs.«01_k».proof.Proof.Gen.MemProjRefIdeal
public import proofs.«01_k».proof.Proof.Gen.MemoryIdeal.Value
public import proofs.«01_k».proof.Proof.Gen.MergeIdeal.Value
public import proofs.«01_k».proof.Proof.Gen.MemoryRefIdeal.Run
public import proofs.«01_k».proof.Proof.Gen.MergeRefIdeal.Run
public import proofs.«01_k».proof.Proof.Gen.MemoryRefIdeal.Read
public import proofs.«01_k».proof.Proof.Gen.MergeRefIdeal.Read
public import proofs.«01_k».proof.Proof.Gen.Memory
public import proofs.«01_k».proof.Proof.Gen.Memory.Skeleton
public import proofs.«01_k».proof.Proof.Gen.Memory.Launch
public import proofs.«01_k».proof.Proof.Gen.Memory.Points
public import proofs.«01_k».proof.Proof.Gen.Memory.Frame
public import proofs.«01_k».proof.Proof.Gen.MemoryIdeal
public import proofs.«01_k».proof.Proof.Gen.MemoryIdeal.Skeleton
public import proofs.«01_k».proof.Proof.Gen.MemoryIdeal.Launch
public import proofs.«01_k».proof.Proof.Gen.MemoryIdeal.Points
public import proofs.«01_k».proof.Proof.Gen.MemoryIdeal.Frame
public import proofs.«01_k».proof.Proof.Gen.MemoryRefIdeal
public import proofs.«01_k».proof.Proof.Gen.Pre_finite_memory
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Neighbour
public import proofs.«01_k».proof.Proof.Gen.Neighbour.Skeleton
public import proofs.«01_k».proof.Proof.Gen.Neighbour.Launch
public import proofs.«01_k».proof.Proof.Gen.Neighbour.Points
public import proofs.«01_k».proof.Proof.Gen.Neighbour.Frame
public import proofs.«01_k».proof.Proof.Gen.NeighbourIdeal
public import proofs.«01_k».proof.Proof.Gen.NeighbourIdeal.Skeleton
public import proofs.«01_k».proof.Proof.Gen.NeighbourIdeal.Launch
public import proofs.«01_k».proof.Proof.Gen.NeighbourIdeal.Points
public import proofs.«01_k».proof.Proof.Gen.NeighbourIdeal.Frame
public import proofs.«01_k».proof.Proof.Gen.NeighbourIdeal.Value
public import proofs.«01_k».proof.Proof.Gen.NeighbourRefIdeal
public import proofs.«01_k».proof.Proof.Gen.NeighbourRefIdeal.Run
public import proofs.«01_k».proof.Proof.Gen.NeighbourRefIdeal.Read
public import proofs.«01_k».proof.Proof.Gen.Pre_finite_neighbour
public import Idealize.ShloMosaic.Adequacy
public import Idealize.ShloMosaic.Init
public import proofs.«01_k».proof.Proof.MemoryArrays
public import proofs.«01_k».proof.Proof.NeighbourArrays
public import proofs.«01_k».proof.Proof.MergeValue
public import proofs.«01_k».proof.Proof.MemProjValue
public import proofs.«01_k».proof.Proof.ProjIdealBody
public import proofs.«01_k».proof.Proof.ProjBody
public import proofs.«01_k».proof.Proof.ProjArrays

@[expose] public section

noncomputable section

namespace Cert.Proof

open Idealize.ShloMosaic Idealize.ShloMosaic.Tactic Idealize.SL.Sem

/-- The memory mixer and its reference compute the same array where the queries and the keys are finite. -/
theorem memory : Cert.algebraic_MemoryIdeal_MemoryRefIdeal_pre_finite_memory (hMemoryIdeal := Cert.MemoryIdeal.Gen.facts)
    (hMemoryRefIdeal := Cert.MemoryRefIdeal.Gen.facts) (hPre_finite_memory := Cert.Pre_finite_memory.Gen.facts) := by
  pair_intro
  · run_from Cert.MemoryIdeal.Value.run_blocks m g
  · run_from Cert.MemoryRefIdeal.Value.run m' g'
    rw [Cert.MemoryRefIdeal.Read.val_main_v30_eq, (hagree c).1, (hagree c).2]
    exact (Cert.Proof.Memory.whole m c (hpre c)).symm

/-- The neighbourhood mixer and its reference compute the same array where the queries, the keys and the biases are finite. -/
theorem neighbour : Cert.algebraic_NeighbourIdeal_NeighbourRefIdeal_pre_finite_neighbour (hNeighbourIdeal := Cert.NeighbourIdeal.Gen.facts)
    (hNeighbourRefIdeal := Cert.NeighbourRefIdeal.Gen.facts) (hPre_finite_neighbour := Cert.Pre_finite_neighbour.Gen.facts) := by
  pair_intro
  · run_from Cert.NeighbourIdeal.Value.run_blocks m g
  · run_from Cert.NeighbourRefIdeal.Value.run m' g'
    rw [Cert.NeighbourRefIdeal.Read.val_main_v69_eq, (hagree c).1, (hagree c).2]
    exact (Cert.Proof.Neighbour.whole m c (hpre c)).symm

/-- The output merge and its reference compute the same array. -/
theorem merge : Cert.algebraic_MergeIdeal_MergeRefIdeal (hMergeIdeal := Cert.MergeIdeal.Gen.facts) (hMergeRefIdeal := Cert.MergeRefIdeal.Gen.facts) := by
  pair_intro
  · run_from Cert.MergeIdeal.Value.run_blocks m g
  · run_from Cert.MergeRefIdeal.Value.run m' g'
    obtain ⟨a0, a1, a2, a3, a4, a5, a6, a7, a8, a9⟩ := hagree c
    rw [Cert.MergeRefIdeal.Read.val_main_v40_eq, a0, a1, a2, a3, a4, a5, a6, a7, a8, a9]
    exact (Cert.Proof.Merge.whole m c).symm

/-- The memory tokens' projection and its reference compute the same array. -/
theorem mem_proj : Cert.algebraic_MemProjIdeal_MemProjRefIdeal (hMemProjIdeal := Cert.MemProjIdeal.Gen.facts) (hMemProjRefIdeal := Cert.MemProjRefIdeal.Gen.facts) := by
  pair_intro
  · run_from Cert.MemProjIdeal.Value.run_blocks m g
  · run_from Cert.MemProjRefIdeal.Value.run m' g'
    exact (Cert.Proof.MemProj.whole m c).symm

/-- The projections call and its reference compute the same two arrays. -/
theorem proj : Cert.algebraic_ProjIdeal_ProjRefIdeal (hProjIdeal := Cert.ProjIdeal.Gen.facts) (hProjRefIdeal := Cert.ProjRefIdeal.Gen.facts) := by
  pair_intro
  · run_from Cert.Proof.ProjIdeal.run m g
  · run_from Cert.ProjRefIdeal.Value.run m' g'
    · exact Cert.ProjRefIdeal.Read.val_main_v15_eq (F := Ideal) _ _ _
    · refine (Cert.ProjRefIdeal.Read.val_main_v35_eq (F := Ideal) _ _ _).trans ?_
      rw [(hagree c).2.2.2]

theorem claim : Cert.Claim := by
  refine ⟨Cert.Memory.Gen.facts, Cert.MemoryIdeal.Gen.facts, Cert.MemoryRefIdeal.Gen.facts, Cert.Neighbour.Gen.facts, Cert.NeighbourIdeal.Gen.facts, Cert.NeighbourRefIdeal.Gen.facts, Cert.Merge.Gen.facts, Cert.MergeIdeal.Gen.facts, Cert.MergeRefIdeal.Gen.facts, Cert.Proj.Gen.facts, Cert.ProjIdeal.Gen.facts, Cert.ProjRefIdeal.Gen.facts, Cert.MemProj.Gen.facts, Cert.MemProjIdeal.Gen.facts, Cert.MemProjRefIdeal.Gen.facts, Cert.Pre_finite_memory.Gen.facts, Cert.Pre_finite_neighbour.Gen.facts, ?_⟩
  refine ⟨fun m ρ _ => Cert.Memory.Gen.frame m ρ, fun m ρ _ => Cert.MemoryIdeal.Gen.frame m ρ, fun m ρ _ => Cert.MemoryIdeal.Gen.frame m ρ, ?mr, ?mrf,
    fun m ρ _ => Cert.Neighbour.Gen.frame m ρ, fun m ρ _ => Cert.NeighbourIdeal.Gen.frame m ρ, fun m ρ _ => Cert.NeighbourIdeal.Gen.frame m ρ, ?nr, ?nrf,
    fun m ρ _ => Cert.Merge.Gen.frame m ρ, fun m ρ _ => Cert.MergeIdeal.Gen.frame m ρ, ?gr,
    fun m ρ _ => Cert.Proof.Proj.frame m ρ, fun m ρ _ => Cert.Proof.ProjIdeal.frame m ρ, ?pr,
    fun m ρ _ => Cert.MemProj.Gen.frame m ρ, fun m ρ _ => Cert.MemProjIdeal.Gen.frame m ρ, ?kr,
    IdealRules.named_const.statement Cert.MemoryIdeal.κ "qk_scale" .f32 0x3E0293EE#32 _ rfl, memory,
    ⟨IdealRules.named_const.statement Cert.NeighbourIdeal.κ "qk_scale" .f32 0x3E38AA3B#32 _ rfl,
      IdealRules.named_const.statement Cert.NeighbourIdeal.κ "log2_e" .f32 0x3FB8AA3B#32 _ rfl⟩, neighbour, trivial, merge, trivial, proj, trivial, mem_proj⟩
  all_goals
    intro m g _
    hlo_run
    · simp
    · exact sem_eq_zero_of_no_sems (by decide) _

end Cert.Proof

end
